-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_heat_is_finite [hPre_heat_is_finite : Cert.Pre_heat_is_finite.Facts] (m : (ℓ : Loc Cert.KernelIdeal.nD Cert.KernelIdeal.τ Cert.KernelIdeal.sig) → Buf (Elt Ideal) ℓ) : Prop :=
  ∀ c : Dev Cert.KernelIdeal.nD,
    (Cert.Pre_heat_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_heat_is_finite [hPre_heat_is_finite : Cert.Pre_heat_is_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_heat_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_heat_is_finite [hKernelIdeal : Cert.KernelIdeal.Facts] [hPre_heat_is_finite : Cert.Pre_heat_is_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_heat_is_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_heat_is_finite [hReferenceIdeal : Cert.ReferenceIdeal.Facts] [hPre_heat_is_finite : Cert.Pre_heat_is_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_heat_is_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_heat_is_finite [hKernelIdeal : Cert.KernelIdeal.Facts] [hReferenceIdeal : Cert.ReferenceIdeal.Facts] [hPre_heat_is_finite : Cert.Pre_heat_is_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_heat_is_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v225) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_heat_is_finite : Cert.Pre_heat_is_finite.Facts),
    quiescent_Kernel (hKernel := hKernel)
    ∧ quiescent_KernelIdeal (hKernelIdeal := hKernelIdeal)
    ∧ quiescent_KernelIdeal_pre_heat_is_finite (hKernelIdeal := hKernelIdeal) (hPre_heat_is_finite := hPre_heat_is_finite)
    ∧ quiescent_ReferenceIdeal (hReferenceIdeal := hReferenceIdeal)
    ∧ quiescent_ReferenceIdeal_pre_heat_is_finite (hReferenceIdeal := hReferenceIdeal) (hPre_heat_is_finite := hPre_heat_is_finite)
    ∧ preserves_Kernel_KernelIdeal
    ∧ algebraic_KernelIdeal_ReferenceIdeal_pre_heat_is_finite (hKernelIdeal := hKernelIdeal) (hReferenceIdeal := hReferenceIdeal) (hPre_heat_is_finite := hPre_heat_is_finite)
-- ==== Pre_heat_is_finite.lean ====
abbrev S16x128x128x64 : Shape := ⟨4, ![16, 128, 128, 64]⟩
abbrev S3x3x64x64 : Shape := ⟨4, ![3, 3, 64, 64]⟩
abbrev S64 : Shape := ⟨1, ![64]⟩
abbrev S1x1x64x80 : Shape := ⟨4, ![1, 1, 64, 80]⟩
abbrev S80 : Shape := ⟨1, ![80]⟩
abbrev S1x1x64x2 : Shape := ⟨4, ![1, 1, 64, 2]⟩
abbrev S2 : Shape := ⟨1, ![2]⟩
abbrev S_ : Shape := ⟨0, ![]⟩

class Facts : Prop where
  bcast_S_S16x128x128x64 : S_.BroadcastsInDim S16x128x128x64 (![] : Fin 0 → Fin S16x128x128x64.rank)
  reducesTo_S16x128x128x64_S_d0_1_2_3 : S16x128x128x64.ReducesTo [0, 1, 2, 3] S_
  h_S_ : 0 < S_.numel
  bcast_S_S3x3x64x64 : S_.BroadcastsInDim S3x3x64x64 (![] : Fin 0 → Fin S3x3x64x64.rank)
  reducesTo_S3x3x64x64_S_d0_1_2_3 : S3x3x64x64.ReducesTo [0, 1, 2, 3] S_
  bcast_S_S64 : S_.BroadcastsInDim S64 (![] : Fin 0 → Fin S64.rank)
  reducesTo_S64_S_d0 : S64.ReducesTo [0] S_
  bcast_S_S1x1x64x80 : S_.BroadcastsInDim S1x1x64x80 (![] : Fin 0 → Fin S1x1x64x80.rank)
  reducesTo_S1x1x64x80_S_d0_1_2_3 : S1x1x64x80.ReducesTo [0, 1, 2, 3] S_
  bcast_S_S80 : S_.BroadcastsInDim S80 (![] : Fin 0 → Fin S80.rank)
  reducesTo_S80_S_d0 : S80.ReducesTo [0] S_

variable [Facts]

def fn_part1 {F : FTy → Type} [FloatOps F] (main_arg4 : FVec F S80 .f32) (main_v3 : IVec S_ 1) (main_v7 : IVec S_ 1) (main_v11 : IVec S_ 1) (main_v15 : IVec S_ 1) : IVec S_ 1 :=
  let main_v16 : FVec F S80 .f32 := Host.absf main_arg4
  let main_cst_6 : FVec F S_ .f32 := constant S_ .f32 0x7F800000#32
  let main_v17 : FVec F S80 .f32 := broadcastInDim S80 ![] bcast_S_S80 main_cst_6
  let main_v18 : IVec S80 1 := cmpf .olt main_v16 main_v17
  let main_c_7 : IVec S_ 1 := constantI S_ 1 1#1
  let main_v19 : IVec S_ 1 := (fun x v => Host.reduce IntOp.andi x v reducesTo_S80_S_d0 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S16x128x128x64 .f32) (main_arg1 : FVec F S3x3x64x64 .f32) (main_arg2 : FVec F S64 .f32) (main_arg3 : FVec F S1x1x64x80 .f32) (main_arg4 : FVec F S80 .f32) (main_arg5 : FVec F S3x3x64x64 .f32) (main_arg6 : FVec F S64 .f32) (main_arg7 : FVec F S1x1x64x2 .f32) (main_arg8 : FVec F S2 .f32) (main_arg9 : FVec F S3x3x64x64 .f32) (main_arg10 : FVec F S64 .f32) (main_arg11 : FVec F S1x1x64x2 .f32) (main_arg12 : FVec F S2 .f32) : IVec S_ 1 :=
  let main_v0 : FVec F S16x128x128x64 .f32 := Host.absf main_arg0
  let main_cst : FVec F S_ .f32 := constant S_ .f32 0x7F800000#32
  let main_v1 : FVec F S16x128x128x64 .f32 := broadcastInDim S16x128x128x64 ![] bcast_S_S16x128x128x64 main_cst
  let main_v2 : IVec S16x128x128x64 1 := cmpf .olt main_v0 main_v1
  let main_c : IVec S_ 1 := constantI S_ 1 1#1
  let main_v3 : IVec S_ 1 := (fun x v => Host.reduce IntOp.andi x v reducesTo_S16x128x128x64_S_d0_1_2_3 h_S_) main_v2 main_c
  let main_v4 : FVec F S3x3x64x64 .f32 := Host.absf main_arg1
  let main_cst_0 : FVec F S_ .f32 := constant S_ .f32 0x7F800000#32
  let main_v5 : FVec F S3x3x64x64 .f32 := broadcastInDim S3x3x64x64 ![] bcast_S_S3x3x64x64 main_cst_0
  let main_v6 : IVec S3x3x64x64 1 := cmpf .olt main_v4 main_v5
  let main_c_1 : IVec S_ 1 := constantI S_ 1 1#1
  let main_v7 : IVec S_ 1 := (fun x v => Host.reduce IntOp.andi x v reducesTo_S3x3x64x64_S_d0_1_2_3 h_S_) main_v6 main_c_1
  let main_v8 : FVec F S64 .f32 := Host.absf main_arg2
  let main_cst_2 : FVec F S_ .f32 := constant S_ .f32 0x7F800000#32
  let main_v9 : FVec F S64 .f32 := broadcastInDim S64 ![] bcast_S_S64 main_cst_2
  let main_v10 : IVec S64 1 := cmpf .olt main_v8 main_v9
  let main_c_3 : IVec S_ 1 := constantI S_ 1 1#1
  let main_v11 : IVec S_ 1 := (fun x v => Host.reduce IntOp.andi x v reducesTo_S64_S_d0 h_S_) main_v10 main_c_3
  let main_v12 : FVec F S1x1x64x80 .f32 := Host.absf main_arg3
  let main_cst_4 : FVec F S_ .f32 := constant S_ .f32 0x7F800000#32
  let main_v13 : FVec F S1x1x64x80 .f32 := broadcastInDim S1x1x64x80 ![] bcast_S_S1x1x64x80 main_cst_4
  let main_v14 : IVec S1x1x64x80 1 := cmpf .olt main_v12 main_v13
  let main_c_5 : IVec S_ 1 := constantI S_ 1 1#1
  let main_v15 : IVec S_ 1 := (fun x v => Host.reduce IntOp.andi x v reducesTo_S1x1x64x80_S_d0_1_2_3 h_S_) main_v14 main_c_5
  fn_part1 (F := F) main_arg4 main_v3 main_v7 main_v11 main_v15
-- ==== Kernel.lean ====
abbrev S16x128x128x64 : Shape := ⟨4, ![16, 128, 128, 64]⟩
abbrev S3x3x64x64 : Shape := ⟨4, ![3, 3, 64, 64]⟩
abbrev S64 : Shape := ⟨1, ![64]⟩
abbrev S1x1x64x80 : Shape := ⟨4, ![1, 1, 64, 80]⟩
abbrev S80 : Shape := ⟨1, ![80]⟩
abbrev S1x1x64x2 : Shape := ⟨4, ![1, 1, 64, 2]⟩
abbrev S2 : Shape := ⟨1, ![2]⟩
abbrev S3x192x64 : Shape := ⟨3, ![3, 192, 64]⟩
abbrev S3x192x192 : Shape := ⟨3, ![3, 192, 192]⟩
abbrev S192 : Shape := ⟨1, ![192]⟩
abbrev S1x1x192 : Shape := ⟨3, ![1, 1, 192]⟩
abbrev S64x80 : Shape := ⟨2, ![64, 80]⟩
abbrev S1x80 : Shape := ⟨2, ![1, 80]⟩
abbrev S_ : Shape := ⟨0, ![]⟩
abbrev S64x2 : Shape := ⟨2, ![64, 2]⟩
abbrev S64x4 : Shape := ⟨2, ![64, 4]⟩
abbrev S128x4 : Shape := ⟨2, ![128, 4]⟩
abbrev S4 : Shape := ⟨1, ![4]⟩
abbrev S1x4 : Shape := ⟨2, ![1, 4]⟩
abbrev S16x40x1x8 : Shape := ⟨4, ![16, 40, 1, 8]⟩
abbrev S1x128x128x64 : Shape := ⟨4, ![1, 128, 128, 64]⟩
abbrev S1x40x1x8 : Shape := ⟨4, ![1, 40, 1, 8]⟩
abbrev S256x128x128 : Shape := ⟨3, ![256, 128, 128]⟩
abbrev S256x128 : Shape := ⟨2, ![256, 128]⟩
abbrev S128x128x64 : Shape := ⟨3, ![128, 128, 64]⟩
abbrev S1x128x64 : Shape := ⟨3, ![1, 128, 64]⟩
abbrev S64x128x64 : Shape := ⟨3, ![64, 128, 64]⟩
abbrev S65x128x64 : Shape := ⟨3, ![65, 128, 64]⟩
abbrev S65x128x192 : Shape := ⟨3, ![65, 128, 192]⟩
abbrev S8320x192 : Shape := ⟨2, ![8320, 192]⟩
abbrev S1x192x192 : Shape := ⟨3, ![1, 192, 192]⟩
abbrev S192x192 : Shape := ⟨2, ![192, 192]⟩
abbrev S65x1x192 : Shape := ⟨3, ![65, 1, 192]⟩
abbrev S65x127x192 : Shape := ⟨3, ![65, 127, 192]⟩
abbrev S8320x64 : Shape := ⟨2, ![8320, 64]⟩
abbrev S8320x80 : Shape := ⟨2, ![8320, 80]⟩
abbrev S8320x128 : Shape := ⟨2, ![8320, 128]⟩
abbrev S8320x4 : Shape := ⟨2, ![8320, 4]⟩
abbrev S65x128x80 : Shape := ⟨3, ![65, 128, 80]⟩
abbrev S65x128x4 : Shape := ⟨3, ![65, 128, 4]⟩
abbrev S65x1x80 : Shape := ⟨3, ![65, 1, 80]⟩
abbrev S65x127x80 : Shape := ⟨3, ![65, 127, 80]⟩
abbrev S1x128x80 : Shape := ⟨3, ![1, 128, 80]⟩
abbrev S64x128x80 : Shape := ⟨3, ![64, 128, 80]⟩
abbrev S64x128x44 : Shape := ⟨3, ![64, 128, 44]⟩
abbrev S64x128x4 : Shape := ⟨3, ![64, 128, 4]⟩
abbrev S64x128x128 : Shape := ⟨3, ![64, 128, 128]⟩
abbrev S64x48 : Shape := ⟨2, ![64, 48]⟩
abbrev S64x128 : Shape := ⟨2, ![64, 128]⟩
abbrev S128x128 : Shape := ⟨2, ![128, 128]⟩
abbrev S1x128x128 : Shape := ⟨3, ![1, 128, 128]⟩
abbrev S1x128 : Shape := ⟨2, ![1, 128]⟩
abbrev S1x1x8 : Shape := ⟨3, ![1, 1, 8]⟩
abbrev S1 : Shape := ⟨1, ![1]⟩
abbrev S1x1x1 : Shape := ⟨3, ![1, 1, 1]⟩
abbrev S1x1x128x128 : Shape := ⟨4, ![1, 1, 128, 128]⟩
abbrev S1x1x1x1 : Shape := ⟨4, ![1, 1, 1, 1]⟩
abbrev S1x1x128 : Shape := ⟨3, ![1, 1, 128]⟩
abbrev S1x1x1x8 : Shape := ⟨4, ![1, 1, 1, 8]⟩
abbrev S16x40x1x6 : Shape := ⟨4, ![16, 40, 1, 6]⟩
abbrev S16x40x6 : Shape := ⟨3, ![16, 40, 6]⟩

abbrev nBuf : Space → Nat
  | .hbm => 36
  | .vmem => 12
  | .smem => 0
  | _ => 0

abbrev bufTy : (tb : Table) → Fin (tcTables nBuf tb) → BufTy
  | .hbm, ⟨0, _⟩ => ⟨S16x128x128x64, .f32⟩
  | .hbm, ⟨1, _⟩ => ⟨S3x3x64x64, .f32⟩
  | .hbm, ⟨2, _⟩ => ⟨S64, .f32⟩
  | .hbm, ⟨3, _⟩ => ⟨S1x1x64x80, .f32⟩
  | .hbm, ⟨4, _⟩ => ⟨S80, .f32⟩
  | .hbm, ⟨5, _⟩ => ⟨S3x3x64x64, .f32⟩
  | .hbm, ⟨6, _⟩ => ⟨S64, .f32⟩
  | .hbm, ⟨7, _⟩ => ⟨S1x1x64x2, .f32⟩
  | .hbm, ⟨8, _⟩ => ⟨S2, .f32⟩
  | .hbm, ⟨9, _⟩ => ⟨S3x3x64x64, .f32⟩
  | .hbm, ⟨10, _⟩ => ⟨S64, .f32⟩
  | .hbm, ⟨11, _⟩ => ⟨S1x1x64x2, .f32⟩
  | .hbm, ⟨12, _⟩ => ⟨S2, .f32⟩
  | .hbm, ⟨13, _⟩ => ⟨S3x3x64x64, .f32⟩
  | .hbm, ⟨14, _⟩ => ⟨S3x192x64, .f32⟩
  | .hbm, ⟨15, _⟩ => ⟨S3x3x64x64, .f32⟩
  | .hbm, ⟨16, _⟩ => ⟨S3x192x64, .f32⟩
  | .hbm, ⟨17, _⟩ => ⟨S3x3x64x64, .f32⟩
  | .hbm, ⟨18, _⟩ => ⟨S3x192x64, .f32⟩
  | .hbm, ⟨19, _⟩ => ⟨S3x192x192, .f32⟩
  | .hbm, ⟨20, _⟩ => ⟨S192, .f32⟩
  | .hbm, ⟨21, _⟩ => ⟨S1x1x192, .f32⟩
  | .hbm, ⟨22, _⟩ => ⟨S64x80, .f32⟩
  | .hbm, ⟨23, _⟩ => ⟨S1x80, .f32⟩
  | .hbm, ⟨24, _⟩ => ⟨S_, .f32⟩
  | .hbm, ⟨25, _⟩ => ⟨S64x2, .f32⟩
  | .hbm, ⟨26, _⟩ => ⟨S64x2, .f32⟩
  | .hbm, ⟨27, _⟩ => ⟨S64x4, .f32⟩
  | .hbm, ⟨28, _⟩ => ⟨S64x2, .f32⟩
  | .hbm, ⟨29, _⟩ => ⟨S64x4, .f32⟩
  | .hbm, ⟨30, _⟩ => ⟨S128x4, .f32⟩
  | .hbm, ⟨31, _⟩ => ⟨S4, .f32⟩
  | .hbm, ⟨32, _⟩ => ⟨S1x4, .f32⟩
  | .hbm, ⟨33, _⟩ => ⟨S16x40x1x8, .f32⟩
  | .hbm, ⟨34, _⟩ => ⟨S16x40x1x6, .f32⟩
  | .hbm, ⟨35, _⟩ => ⟨S16x40x6, .f32⟩
  | .local _ .vmem, ⟨0, _⟩ => ⟨S1x128x128x64, .f32⟩
  | .local _ .vmem, ⟨1, _⟩ => ⟨S1x128x128x64, .f32⟩
  | .local _ .vmem, ⟨2, _⟩ => ⟨S3x192x192, .f32⟩
  | .local _ .vmem, ⟨3, _⟩ => ⟨S1x1x192, .f32⟩
  | .local _ .vmem, ⟨4, _⟩ => ⟨S64x80, .f32⟩
  | .local _ .vmem, ⟨5, _⟩ => ⟨S1x80, .f32⟩
  | .local _ .vmem, ⟨6, _⟩ => ⟨S128x4, .f32⟩
  | .local _ .vmem, ⟨7, _⟩ => ⟨S1x4, .f32⟩
  | .local _ .vmem, ⟨8, _⟩ => ⟨S1x40x1x8, .f32⟩
  | .local _ .vmem, ⟨9, _⟩ => ⟨S1x40x1x8, .f32⟩
  | .local _ .vmem, ⟨10, _⟩ => ⟨S256x128x128, .f32⟩
  | .local _ .vmem, ⟨11, _⟩ => ⟨S256x128, .f32⟩
  | _, _ => ⟨S16x128x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![17], ![false]⟩

def k0_off1 (i : grid0.Coords) (c0_i32 : BitVec 32) : Fin 3 → Nat :=
  let arg0 : BitVec 32 := BitVec.ofNat 32 (i 0).val
  let c2_i32 : BitVec 32 := 2#32
  let v0 : BitVec 32 := Scalar.remsi arg0 c2_i32
  let c128_i32 : BitVec 32 := 128#32
  let v83 : BitVec 32 := Scalar.muli v0 c128_i32
  let v84 : BitVec 32 := Scalar.addi v83 c0_i32
  let v85 : Index := Scalar.indexCast v84
  let c0_35 : Index := 0#32
  let c0_36 : Index := 0#32
  ![v85.toNat, 0, 0]
def k0_off2 (i : grid0.Coords) (c0_i32_40 : BitVec 32) : Fin 2 → Nat :=
  let arg0 : BitVec 32 := BitVec.ofNat 32 (i 0).val
  let c2_i32 : BitVec 32 := 2#32
  let v0 : BitVec 32 := Scalar.remsi arg0 c2_i32
  let c128_i32_39 : BitVec 32 := 128#32
  let v92 : BitVec 32 := Scalar.muli v0 c128_i32_39
  let v93 : BitVec 32 := Scalar.addi v92 c0_i32_40
  let v94 : Index := Scalar.indexCast v93
  let c0_41 : Index := 0#32
  ![v94.toNat, 0]
def k0_off3 (i : grid0.Coords) : Fin 2 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let v192 : Index := Scalar.indexCast v191
  let c0_85 : Index := 0#32
  ![v192.toNat, 0]
def k0_off4 (i : grid0.Coords) (v216 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_97 : BitVec 32 := 0#32
  let v236 : BitVec 1 := Scalar.cmpi .sgt v216 c0_i32_97
  let v237 : BitVec 32 := Scalar.extui v236
  let c0_i32_98 : BitVec 32 := 0#32
  let v238 : BitVec 1 := Scalar.cmpi .slt v216 c0_i32_98
  let v239 : BitVec 32 := Scalar.extui v238
  let v240 : BitVec 32 := Scalar.subi v237 v239
  let c16384_i32_96 : BitVec 32 := 16384#32
  let c0_i32_99 : BitVec 32 := 0#32
  let v241 : BitVec 1 := Scalar.cmpi .sgt c16384_i32_96 c0_i32_99
  let v242 : BitVec 32 := Scalar.extui v241
  let c0_i32_100 : BitVec 32 := 0#32
  let v243 : BitVec 1 := Scalar.cmpi .slt c16384_i32_96 c0_i32_100
  let v244 : BitVec 32 := Scalar.extui v243
  let v245 : BitVec 32 := Scalar.subi v242 v244
  let v246 : BitVec 1 := Scalar.cmpi .ne v240 v245
  let v247 : BitVec 32 := Scalar.remsi v216 c16384_i32_96
  let c0_i32_101 : BitVec 32 := 0#32
  let v248 : BitVec 1 := Scalar.cmpi .ne v247 c0_i32_101
  let v249 : BitVec 1 := Scalar.andi v246 v248
  let v235 : BitVec 32 := Scalar.divsi v216 c16384_i32_96
  let c1_i32_102 : BitVec 32 := 1#32
  let v250 : BitVec 32 := Scalar.subi v235 c1_i32_102
  let v251 : BitVec 32 := Scalar.select v249 v250 v235
  let c16384_i32_103 : BitVec 32 := 16384#32
  let v252 : BitVec 32 := Scalar.muli v251 c16384_i32_103
  let v253 : BitVec 32 := Scalar.subi v216 v252
  let c0_i32_105 : BitVec 32 := 0#32
  let v255 : BitVec 1 := Scalar.cmpi .sgt v253 c0_i32_105
  let v256 : BitVec 32 := Scalar.extui v255
  let c0_i32_106 : BitVec 32 := 0#32
  let v257 : BitVec 1 := Scalar.cmpi .slt v253 c0_i32_106
  let v258 : BitVec 32 := Scalar.extui v257
  let v259 : BitVec 32 := Scalar.subi v256 v258
  let c128_i32_104 : BitVec 32 := 128#32
  let c0_i32_107 : BitVec 32 := 0#32
  let v260 : BitVec 1 := Scalar.cmpi .sgt c128_i32_104 c0_i32_107
  let v261 : BitVec 32 := Scalar.extui v260
  let c0_i32_108 : BitVec 32 := 0#32
  let v262 : BitVec 1 := Scalar.cmpi .slt c128_i32_104 c0_i32_108
  let v263 : BitVec 32 := Scalar.extui v262
  let v264 : BitVec 32 := Scalar.subi v261 v263
  let v265 : BitVec 1 := Scalar.cmpi .ne v259 v264
  let v266 : BitVec 32 := Scalar.remsi v253 c128_i32_104
  let c0_i32_109 : BitVec 32 := 0#32
  let v267 : BitVec 1 := Scalar.cmpi .ne v266 c0_i32_109
  let v268 : BitVec 1 := Scalar.andi v265 v267
  let v254 : BitVec 32 := Scalar.divsi v253 c128_i32_104
  let c1_i32_110 : BitVec 32 := 1#32
  let v269 : BitVec 32 := Scalar.subi v254 c1_i32_110
  let v270 : BitVec 32 := Scalar.select v268 v269 v254
  let c127_i32_111 : BitVec 32 := 127#32
  let v271 : BitVec 32 := Scalar.minsi v270 c127_i32_111
  let v272 : BitVec 32 := Scalar.addi v191 v271
  let v273 : Index := Scalar.indexCast v272
  let c0_112 : Index := 0#32
  let c0_113 : Index := 0#32
  ![v273.toNat, 0, 0]

def k0_chk1 (i : grid0.Coords) (v216 : BitVec 32) : Prop :=
  (∀ a, (k0_off4 i v216) a + S1x128x128.size a ≤ S256x128x128.size a)
theorem k0_off4_inb : ∀ (i : grid0.Coords) (v216 : BitVec 32) (k0_hw1 : k0_chk1 i v216), ∀ a, (k0_off4 i v216) a + S1x128x128.size a ≤ S256x128x128.size a := fun i v216 k0_hw1 => k0_hw1

def k0_off5 (i : grid0.Coords) (v416 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_167 : BitVec 32 := 0#32
  let v436 : BitVec 1 := Scalar.cmpi .sgt v416 c0_i32_167
  let v437 : BitVec 32 := Scalar.extui v436
  let c0_i32_168 : BitVec 32 := 0#32
  let v438 : BitVec 1 := Scalar.cmpi .slt v416 c0_i32_168
  let v439 : BitVec 32 := Scalar.extui v438
  let v440 : BitVec 32 := Scalar.subi v437 v439
  let c16384_i32_166 : BitVec 32 := 16384#32
  let c0_i32_169 : BitVec 32 := 0#32
  let v441 : BitVec 1 := Scalar.cmpi .sgt c16384_i32_166 c0_i32_169
  let v442 : BitVec 32 := Scalar.extui v441
  let c0_i32_170 : BitVec 32 := 0#32
  let v443 : BitVec 1 := Scalar.cmpi .slt c16384_i32_166 c0_i32_170
  let v444 : BitVec 32 := Scalar.extui v443
  let v445 : BitVec 32 := Scalar.subi v442 v444
  let v446 : BitVec 1 := Scalar.cmpi .ne v440 v445
  let v447 : BitVec 32 := Scalar.remsi v416 c16384_i32_166
  let c0_i32_171 : BitVec 32 := 0#32
  let v448 : BitVec 1 := Scalar.cmpi .ne v447 c0_i32_171
  let v449 : BitVec 1 := Scalar.andi v446 v448
  let v435 : BitVec 32 := Scalar.divsi v416 c16384_i32_166
  let c1_i32_172 : BitVec 32 := 1#32
  let v450 : BitVec 32 := Scalar.subi v435 c1_i32_172
  let v451 : BitVec 32 := Scalar.select v449 v450 v435
  let c16384_i32_173 : BitVec 32 := 16384#32
  let v452 : BitVec 32 := Scalar.muli v451 c16384_i32_173
  let v453 : BitVec 32 := Scalar.subi v416 v452
  let c0_i32_175 : BitVec 32 := 0#32
  let v455 : BitVec 1 := Scalar.cmpi .sgt v453 c0_i32_175
  let v456 : BitVec 32 := Scalar.extui v455
  let c0_i32_176 : BitVec 32 := 0#32
  let v457 : BitVec 1 := Scalar.cmpi .slt v453 c0_i32_176
  let v458 : BitVec 32 := Scalar.extui v457
  let v459 : BitVec 32 := Scalar.subi v456 v458
  let c128_i32_174 : BitVec 32 := 128#32
  let c0_i32_177 : BitVec 32 := 0#32
  let v460 : BitVec 1 := Scalar.cmpi .sgt c128_i32_174 c0_i32_177
  let v461 : BitVec 32 := Scalar.extui v460
  let c0_i32_178 : BitVec 32 := 0#32
  let v462 : BitVec 1 := Scalar.cmpi .slt c128_i32_174 c0_i32_178
  let v463 : BitVec 32 := Scalar.extui v462
  let v464 : BitVec 32 := Scalar.subi v461 v463
  let v465 : BitVec 1 := Scalar.cmpi .ne v459 v464
  let v466 : BitVec 32 := Scalar.remsi v453 c128_i32_174
  let c0_i32_179 : BitVec 32 := 0#32
  let v467 : BitVec 1 := Scalar.cmpi .ne v466 c0_i32_179
  let v468 : BitVec 1 := Scalar.andi v465 v467
  let v454 : BitVec 32 := Scalar.divsi v453 c128_i32_174
  let c1_i32_180 : BitVec 32 := 1#32
  let v469 : BitVec 32 := Scalar.subi v454 c1_i32_180
  let v470 : BitVec 32 := Scalar.select v468 v469 v454
  let c127_i32_181 : BitVec 32 := 127#32
  let v471 : BitVec 32 := Scalar.minsi v470 c127_i32_181
  let v472 : BitVec 32 := Scalar.addi v191 v471
  let v473 : Index := Scalar.indexCast v472
  let c0_182 : Index := 0#32
  let c0_183 : Index := 0#32
  ![v473.toNat, 0, 0]

def k0_chk2 (i : grid0.Coords) (v416 : BitVec 32) : Prop :=
  (∀ a, (k0_off5 i v416) a + S1x128x128.size a ≤ S256x128x128.size a)
theorem k0_off5_inb : ∀ (i : grid0.Coords) (v416 : BitVec 32) (k0_hw2 : k0_chk2 i v416), ∀ a, (k0_off5 i v416) a + S1x128x128.size a ≤ S256x128x128.size a := fun i v416 k0_hw2 => k0_hw2

def k0_off6 (i : grid0.Coords) (v616 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_244 : BitVec 32 := 0#32
  let v636 : BitVec 1 := Scalar.cmpi .sgt v616 c0_i32_244
  let v637 : BitVec 32 := Scalar.extui v636
  let c0_i32_245 : BitVec 32 := 0#32
  let v638 : BitVec 1 := Scalar.cmpi .slt v616 c0_i32_245
  let v639 : BitVec 32 := Scalar.extui v638
  let v640 : BitVec 32 := Scalar.subi v637 v639
  let c16384_i32_243 : BitVec 32 := 16384#32
  let c0_i32_246 : BitVec 32 := 0#32
  let v641 : BitVec 1 := Scalar.cmpi .sgt c16384_i32_243 c0_i32_246
  let v642 : BitVec 32 := Scalar.extui v641
  let c0_i32_247 : BitVec 32 := 0#32
  let v643 : BitVec 1 := Scalar.cmpi .slt c16384_i32_243 c0_i32_247
  let v644 : BitVec 32 := Scalar.extui v643
  let v645 : BitVec 32 := Scalar.subi v642 v644
  let v646 : BitVec 1 := Scalar.cmpi .ne v640 v645
  let v647 : BitVec 32 := Scalar.remsi v616 c16384_i32_243
  let c0_i32_248 : BitVec 32 := 0#32
  let v648 : BitVec 1 := Scalar.cmpi .ne v647 c0_i32_248
  let v649 : BitVec 1 := Scalar.andi v646 v648
  let v635 : BitVec 32 := Scalar.divsi v616 c16384_i32_243
  let c1_i32_249 : BitVec 32 := 1#32
  let v650 : BitVec 32 := Scalar.subi v635 c1_i32_249
  let v651 : BitVec 32 := Scalar.select v649 v650 v635
  let c16384_i32_250 : BitVec 32 := 16384#32
  let v652 : BitVec 32 := Scalar.muli v651 c16384_i32_250
  let v653 : BitVec 32 := Scalar.subi v616 v652
  let c0_i32_252 : BitVec 32 := 0#32
  let v655 : BitVec 1 := Scalar.cmpi .sgt v653 c0_i32_252
  let v656 : BitVec 32 := Scalar.extui v655
  let c0_i32_253 : BitVec 32 := 0#32
  let v657 : BitVec 1 := Scalar.cmpi .slt v653 c0_i32_253
  let v658 : BitVec 32 := Scalar.extui v657
  let v659 : BitVec 32 := Scalar.subi v656 v658
  let c128_i32_251 : BitVec 32 := 128#32
  let c0_i32_254 : BitVec 32 := 0#32
  let v660 : BitVec 1 := Scalar.cmpi .sgt c128_i32_251 c0_i32_254
  let v661 : BitVec 32 := Scalar.extui v660
  let c0_i32_255 : BitVec 32 := 0#32
  let v662 : BitVec 1 := Scalar.cmpi .slt c128_i32_251 c0_i32_255
  let v663 : BitVec 32 := Scalar.extui v662
  let v664 : BitVec 32 := Scalar.subi v661 v663
  let v665 : BitVec 1 := Scalar.cmpi .ne v659 v664
  let v666 : BitVec 32 := Scalar.remsi v653 c128_i32_251
  let c0_i32_256 : BitVec 32 := 0#32
  let v667 : BitVec 1 := Scalar.cmpi .ne v666 c0_i32_256
  let v668 : BitVec 1 := Scalar.andi v665 v667
  let v654 : BitVec 32 := Scalar.divsi v653 c128_i32_251
  let c1_i32_257 : BitVec 32 := 1#32
  let v669 : BitVec 32 := Scalar.subi v654 c1_i32_257
  let v670 : BitVec 32 := Scalar.select v668 v669 v654
  let c127_i32_258 : BitVec 32 := 127#32
  let v671 : BitVec 32 := Scalar.minsi v670 c127_i32_258
  let v672 : BitVec 32 := Scalar.addi v191 v671
  let v673 : Index := Scalar.indexCast v672
  let c0_259 : Index := 0#32
  let c0_260 : Index := 0#32
  ![v673.toNat, 0, 0]

def k0_chk3 (i : grid0.Coords) (v616 : BitVec 32) : Prop :=
  (∀ a, (k0_off6 i v616) a + S1x128x128.size a ≤ S256x128x128.size a)
theorem k0_off6_inb : ∀ (i : grid0.Coords) (v616 : BitVec 32) (k0_hw3 : k0_chk3 i v616), ∀ a, (k0_off6 i v616) a + S1x128x128.size a ≤ S256x128x128.size a := fun i v616 k0_hw3 => k0_hw3

def k0_off7 (i : grid0.Coords) (v816 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_321 : BitVec 32 := 0#32
  let v836 : BitVec 1 := Scalar.cmpi .sgt v816 c0_i32_321
  let v837 : BitVec 32 := Scalar.extui v836
  let c0_i32_322 : BitVec 32 := 0#32
  let v838 : BitVec 1 := Scalar.cmpi .slt v816 c0_i32_322
  let v839 : BitVec 32 := Scalar.extui v838
  let v840 : BitVec 32 := Scalar.subi v837 v839
  let c16384_i32_320 : BitVec 32 := 16384#32
  let c0_i32_323 : BitVec 32 := 0#32
  let v841 : BitVec 1 := Scalar.cmpi .sgt c16384_i32_320 c0_i32_323
  let v842 : BitVec 32 := Scalar.extui v841
  let c0_i32_324 : BitVec 32 := 0#32
  let v843 : BitVec 1 := Scalar.cmpi .slt c16384_i32_320 c0_i32_324
  let v844 : BitVec 32 := Scalar.extui v843
  let v845 : BitVec 32 := Scalar.subi v842 v844
  let v846 : BitVec 1 := Scalar.cmpi .ne v840 v845
  let v847 : BitVec 32 := Scalar.remsi v816 c16384_i32_320
  let c0_i32_325 : BitVec 32 := 0#32
  let v848 : BitVec 1 := Scalar.cmpi .ne v847 c0_i32_325
  let v849 : BitVec 1 := Scalar.andi v846 v848
  let v835 : BitVec 32 := Scalar.divsi v816 c16384_i32_320
  let c1_i32_326 : BitVec 32 := 1#32
  let v850 : BitVec 32 := Scalar.subi v835 c1_i32_326
  let v851 : BitVec 32 := Scalar.select v849 v850 v835
  let c16384_i32_327 : BitVec 32 := 16384#32
  let v852 : BitVec 32 := Scalar.muli v851 c16384_i32_327
  let v853 : BitVec 32 := Scalar.subi v816 v852
  let c0_i32_329 : BitVec 32 := 0#32
  let v855 : BitVec 1 := Scalar.cmpi .sgt v853 c0_i32_329
  let v856 : BitVec 32 := Scalar.extui v855
  let c0_i32_330 : BitVec 32 := 0#32
  let v857 : BitVec 1 := Scalar.cmpi .slt v853 c0_i32_330
  let v858 : BitVec 32 := Scalar.extui v857
  let v859 : BitVec 32 := Scalar.subi v856 v858
  let c128_i32_328 : BitVec 32 := 128#32
  let c0_i32_331 : BitVec 32 := 0#32
  let v860 : BitVec 1 := Scalar.cmpi .sgt c128_i32_328 c0_i32_331
  let v861 : BitVec 32 := Scalar.extui v860
  let c0_i32_332 : BitVec 32 := 0#32
  let v862 : BitVec 1 := Scalar.cmpi .slt c128_i32_328 c0_i32_332
  let v863 : BitVec 32 := Scalar.extui v862
  let v864 : BitVec 32 := Scalar.subi v861 v863
  let v865 : BitVec 1 := Scalar.cmpi .ne v859 v864
  let v866 : BitVec 32 := Scalar.remsi v853 c128_i32_328
  let c0_i32_333 : BitVec 32 := 0#32
  let v867 : BitVec 1 := Scalar.cmpi .ne v866 c0_i32_333
  let v868 : BitVec 1 := Scalar.andi v865 v867
  let v854 : BitVec 32 := Scalar.divsi v853 c128_i32_328
  let c1_i32_334 : BitVec 32 := 1#32
  let v869 : BitVec 32 := Scalar.subi v854 c1_i32_334
  let v870 : BitVec 32 := Scalar.select v868 v869 v854
  let c127_i32_335 : BitVec 32 := 127#32
  let v871 : BitVec 32 := Scalar.minsi v870 c127_i32_335
  let v872 : BitVec 32 := Scalar.addi v191 v871
  let v873 : Index := Scalar.indexCast v872
  let c0_336 : Index := 0#32
  let c0_337 : Index := 0#32
  ![v873.toNat, 0, 0]

def k0_chk4 (i : grid0.Coords) (v816 : BitVec 32) : Prop :=
  (∀ a, (k0_off7 i v816) a + S1x128x128.size a ≤ S256x128x128.size a)
theorem k0_off7_inb : ∀ (i : grid0.Coords) (v816 : BitVec 32) (k0_hw4 : k0_chk4 i v816), ∀ a, (k0_off7 i v816) a + S1x128x128.size a ≤ S256x128x128.size a := fun i v816 k0_hw4 => k0_hw4

def k0_off8 (i : grid0.Coords) (v1016 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_398 : BitVec 32 := 0#32
  let v1036 : BitVec 1 := Scalar.cmpi .sgt v1016 c0_i32_398
  let v1037 : BitVec 32 := Scalar.extui v1036
  let c0_i32_399 : BitVec 32 := 0#32
  let v1038 : BitVec 1 := Scalar.cmpi .slt v1016 c0_i32_399
  let v1039 : BitVec 32 := Scalar.extui v1038
  let v1040 : BitVec 32 := Scalar.subi v1037 v1039
  let c16384_i32_397 : BitVec 32 := 16384#32
  let c0_i32_400 : BitVec 32 := 0#32
  let v1041 : BitVec 1 := Scalar.cmpi .sgt c16384_i32_397 c0_i32_400
  let v1042 : BitVec 32 := Scalar.extui v1041
  let c0_i32_401 : BitVec 32 := 0#32
  let v1043 : BitVec 1 := Scalar.cmpi .slt c16384_i32_397 c0_i32_401
  let v1044 : BitVec 32 := Scalar.extui v1043
  let v1045 : BitVec 32 := Scalar.subi v1042 v1044
  let v1046 : BitVec 1 := Scalar.cmpi .ne v1040 v1045
  let v1047 : BitVec 32 := Scalar.remsi v1016 c16384_i32_397
  let c0_i32_402 : BitVec 32 := 0#32
  let v1048 : BitVec 1 := Scalar.cmpi .ne v1047 c0_i32_402
  let v1049 : BitVec 1 := Scalar.andi v1046 v1048
  let v1035 : BitVec 32 := Scalar.divsi v1016 c16384_i32_397
  let c1_i32_403 : BitVec 32 := 1#32
  let v1050 : BitVec 32 := Scalar.subi v1035 c1_i32_403
  let v1051 : BitVec 32 := Scalar.select v1049 v1050 v1035
  let c16384_i32_404 : BitVec 32 := 16384#32
  let v1052 : BitVec 32 := Scalar.muli v1051 c16384_i32_404
  let v1053 : BitVec 32 := Scalar.subi v1016 v1052
  let c0_i32_406 : BitVec 32 := 0#32
  let v1055 : BitVec 1 := Scalar.cmpi .sgt v1053 c0_i32_406
  let v1056 : BitVec 32 := Scalar.extui v1055
  let c0_i32_407 : BitVec 32 := 0#32
  let v1057 : BitVec 1 := Scalar.cmpi .slt v1053 c0_i32_407
  let v1058 : BitVec 32 := Scalar.extui v1057
  let v1059 : BitVec 32 := Scalar.subi v1056 v1058
  let c128_i32_405 : BitVec 32 := 128#32
  let c0_i32_408 : BitVec 32 := 0#32
  let v1060 : BitVec 1 := Scalar.cmpi .sgt c128_i32_405 c0_i32_408
  let v1061 : BitVec 32 := Scalar.extui v1060
  let c0_i32_409 : BitVec 32 := 0#32
  let v1062 : BitVec 1 := Scalar.cmpi .slt c128_i32_405 c0_i32_409
  let v1063 : BitVec 32 := Scalar.extui v1062
  let v1064 : BitVec 32 := Scalar.subi v1061 v1063
  let v1065 : BitVec 1 := Scalar.cmpi .ne v1059 v1064
  let v1066 : BitVec 32 := Scalar.remsi v1053 c128_i32_405
  let c0_i32_410 : BitVec 32 := 0#32
  let v1067 : BitVec 1 := Scalar.cmpi .ne v1066 c0_i32_410
  let v1068 : BitVec 1 := Scalar.andi v1065 v1067
  let v1054 : BitVec 32 := Scalar.divsi v1053 c128_i32_405
  let c1_i32_411 : BitVec 32 := 1#32
  let v1069 : BitVec 32 := Scalar.subi v1054 c1_i32_411
  let v1070 : BitVec 32 := Scalar.select v1068 v1069 v1054
  let c127_i32_412 : BitVec 32 := 127#32
  let v1071 : BitVec 32 := Scalar.minsi v1070 c127_i32_412
  let v1072 : BitVec 32 := Scalar.addi v191 v1071
  let v1073 : Index := Scalar.indexCast v1072
  let c0_413 : Index := 0#32
  let c0_414 : Index := 0#32
  ![v1073.toNat, 0, 0]

def k0_chk5 (i : grid0.Coords) (v1016 : BitVec 32) : Prop :=
  (∀ a, (k0_off8 i v1016) a + S1x128x128.size a ≤ S256x128x128.size a)
theorem k0_off8_inb : ∀ (i : grid0.Coords) (v1016 : BitVec 32) (k0_hw5 : k0_chk5 i v1016), ∀ a, (k0_off8 i v1016) a + S1x128x128.size a ≤ S256x128x128.size a := fun i v1016 k0_hw5 => k0_hw5

def k0_off9 (i : grid0.Coords) (v1216 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_475 : BitVec 32 := 0#32
  let v1236 : BitVec 1 := Scalar.cmpi .sgt v1216 c0_i32_475
  let v1237 : BitVec 32 := Scalar.extui v1236
  let c0_i32_476 : BitVec 32 := 0#32
  let v1238 : BitVec 1 := Scalar.cmpi .slt v1216 c0_i32_476
  let v1239 : BitVec 32 := Scalar.extui v1238
  let v1240 : BitVec 32 := Scalar.subi v1237 v1239
  let c16384_i32_474 : BitVec 32 := 16384#32
  let c0_i32_477 : BitVec 32 := 0#32
  let v1241 : BitVec 1 := Scalar.cmpi .sgt c16384_i32_474 c0_i32_477
  let v1242 : BitVec 32 := Scalar.extui v1241
  let c0_i32_478 : BitVec 32 := 0#32
  let v1243 : BitVec 1 := Scalar.cmpi .slt c16384_i32_474 c0_i32_478
  let v1244 : BitVec 32 := Scalar.extui v1243
  let v1245 : BitVec 32 := Scalar.subi v1242 v1244
  let v1246 : BitVec 1 := Scalar.cmpi .ne v1240 v1245
  let v1247 : BitVec 32 := Scalar.remsi v1216 c16384_i32_474
  let c0_i32_479 : BitVec 32 := 0#32
  let v1248 : BitVec 1 := Scalar.cmpi .ne v1247 c0_i32_479
  let v1249 : BitVec 1 := Scalar.andi v1246 v1248
  let v1235 : BitVec 32 := Scalar.divsi v1216 c16384_i32_474
  let c1_i32_480 : BitVec 32 := 1#32
  let v1250 : BitVec 32 := Scalar.subi v1235 c1_i32_480
  let v1251 : BitVec 32 := Scalar.select v1249 v1250 v1235
  let c16384_i32_481 : BitVec 32 := 16384#32
  let v1252 : BitVec 32 := Scalar.muli v1251 c16384_i32_481
  let v1253 : BitVec 32 := Scalar.subi v1216 v1252
  let c0_i32_483 : BitVec 32 := 0#32
  let v1255 : BitVec 1 := Scalar.cmpi .sgt v1253 c0_i32_483
  let v1256 : BitVec 32 := Scalar.extui v1255
  let c0_i32_484 : BitVec 32 := 0#32
  let v1257 : BitVec 1 := Scalar.cmpi .slt v1253 c0_i32_484
  let v1258 : BitVec 32 := Scalar.extui v1257
  let v1259 : BitVec 32 := Scalar.subi v1256 v1258
  let c128_i32_482 : BitVec 32 := 128#32
  let c0_i32_485 : BitVec 32 := 0#32
  let v1260 : BitVec 1 := Scalar.cmpi .sgt c128_i32_482 c0_i32_485
  let v1261 : BitVec 32 := Scalar.extui v1260
  let c0_i32_486 : BitVec 32 := 0#32
  let v1262 : BitVec 1 := Scalar.cmpi .slt c128_i32_482 c0_i32_486
  let v1263 : BitVec 32 := Scalar.extui v1262
  let v1264 : BitVec 32 := Scalar.subi v1261 v1263
  let v1265 : BitVec 1 := Scalar.cmpi .ne v1259 v1264
  let v1266 : BitVec 32 := Scalar.remsi v1253 c128_i32_482
  let c0_i32_487 : BitVec 32 := 0#32
  let v1267 : BitVec 1 := Scalar.cmpi .ne v1266 c0_i32_487
  let v1268 : BitVec 1 := Scalar.andi v1265 v1267
  let v1254 : BitVec 32 := Scalar.divsi v1253 c128_i32_482
  let c1_i32_488 : BitVec 32 := 1#32
  let v1269 : BitVec 32 := Scalar.subi v1254 c1_i32_488
  let v1270 : BitVec 32 := Scalar.select v1268 v1269 v1254
  let c127_i32_489 : BitVec 32 := 127#32
  let v1271 : BitVec 32 := Scalar.minsi v1270 c127_i32_489
  let v1272 : BitVec 32 := Scalar.addi v191 v1271
  let v1273 : Index := Scalar.indexCast v1272
  let c0_490 : Index := 0#32
  let c0_491 : Index := 0#32
  ![v1273.toNat, 0, 0]

def k0_chk6 (i : grid0.Coords) (v1216 : BitVec 32) : Prop :=
  (∀ a, (k0_off9 i v1216) a + S1x128x128.size a ≤ S256x128x128.size a)
theorem k0_off9_inb : ∀ (i : grid0.Coords) (v1216 : BitVec 32) (k0_hw6 : k0_chk6 i v1216), ∀ a, (k0_off9 i v1216) a + S1x128x128.size a ≤ S256x128x128.size a := fun i v1216 k0_hw6 => k0_hw6

def k0_off10 (i : grid0.Coords) (v1416 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_552 : BitVec 32 := 0#32
  let v1436 : BitVec 1 := Scalar.cmpi .sgt v1416 c0_i32_552
  let v1437 : BitVec 32 := Scalar.extui v1436
  let c0_i32_553 : BitVec 32 := 0#32
  let v1438 : BitVec 1 := Scalar.cmpi .slt v1416 c0_i32_553
  let v1439 : BitVec 32 := Scalar.extui v1438
  let v1440 : BitVec 32 := Scalar.subi v1437 v1439
  let c16384_i32_551 : BitVec 32 := 16384#32
  let c0_i32_554 : BitVec 32 := 0#32
  let v1441 : BitVec 1 := Scalar.cmpi .sgt c16384_i32_551 c0_i32_554
  let v1442 : BitVec 32 := Scalar.extui v1441
  let c0_i32_555 : BitVec 32 := 0#32
  let v1443 : BitVec 1 := Scalar.cmpi .slt c16384_i32_551 c0_i32_555
  let v1444 : BitVec 32 := Scalar.extui v1443
  let v1445 : BitVec 32 := Scalar.subi v1442 v1444
  let v1446 : BitVec 1 := Scalar.cmpi .ne v1440 v1445
  let v1447 : BitVec 32 := Scalar.remsi v1416 c16384_i32_551
  let c0_i32_556 : BitVec 32 := 0#32
  let v1448 : BitVec 1 := Scalar.cmpi .ne v1447 c0_i32_556
  let v1449 : BitVec 1 := Scalar.andi v1446 v1448
  let v1435 : BitVec 32 := Scalar.divsi v1416 c16384_i32_551
  let c1_i32_557 : BitVec 32 := 1#32
  let v1450 : BitVec 32 := Scalar.subi v1435 c1_i32_557
  let v1451 : BitVec 32 := Scalar.select v1449 v1450 v1435
  let c16384_i32_558 : BitVec 32 := 16384#32
  let v1452 : BitVec 32 := Scalar.muli v1451 c16384_i32_558
  let v1453 : BitVec 32 := Scalar.subi v1416 v1452
  let c0_i32_560 : BitVec 32 := 0#32
  let v1455 : BitVec 1 := Scalar.cmpi .sgt v1453 c0_i32_560
  let v1456 : BitVec 32 := Scalar.extui v1455
  let c0_i32_561 : BitVec 32 := 0#32
  let v1457 : BitVec 1 := Scalar.cmpi .slt v1453 c0_i32_561
  let v1458 : BitVec 32 := Scalar.extui v1457
  let v1459 : BitVec 32 := Scalar.subi v1456 v1458
  let c128_i32_559 : BitVec 32 := 128#32
  let c0_i32_562 : BitVec 32 := 0#32
  let v1460 : BitVec 1 := Scalar.cmpi .sgt c128_i32_559 c0_i32_562
  let v1461 : BitVec 32 := Scalar.extui v1460
  let c0_i32_563 : BitVec 32 := 0#32
  let v1462 : BitVec 1 := Scalar.cmpi .slt c128_i32_559 c0_i32_563
  let v1463 : BitVec 32 := Scalar.extui v1462
  let v1464 : BitVec 32 := Scalar.subi v1461 v1463
  let v1465 : BitVec 1 := Scalar.cmpi .ne v1459 v1464
  let v1466 : BitVec 32 := Scalar.remsi v1453 c128_i32_559
  let c0_i32_564 : BitVec 32 := 0#32
  let v1467 : BitVec 1 := Scalar.cmpi .ne v1466 c0_i32_564
  let v1468 : BitVec 1 := Scalar.andi v1465 v1467
  let v1454 : BitVec 32 := Scalar.divsi v1453 c128_i32_559
  let c1_i32_565 : BitVec 32 := 1#32
  let v1469 : BitVec 32 := Scalar.subi v1454 c1_i32_565
  let v1470 : BitVec 32 := Scalar.select v1468 v1469 v1454
  let c127_i32_566 : BitVec 32 := 127#32
  let v1471 : BitVec 32 := Scalar.minsi v1470 c127_i32_566
  let v1472 : BitVec 32 := Scalar.addi v191 v1471
  let v1473 : Index := Scalar.indexCast v1472
  let c0_567 : Index := 0#32
  let c0_568 : Index := 0#32
  ![v1473.toNat, 0, 0]

def k0_chk7 (i : grid0.Coords) (v1416 : BitVec 32) : Prop :=
  (∀ a, (k0_off10 i v1416) a + S1x128x128.size a ≤ S256x128x128.size a)
theorem k0_off10_inb : ∀ (i : grid0.Coords) (v1416 : BitVec 32) (k0_hw7 : k0_chk7 i v1416), ∀ a, (k0_off10 i v1416) a + S1x128x128.size a ≤ S256x128x128.size a := fun i v1416 k0_hw7 => k0_hw7

def k0_off11 (i : grid0.Coords) (v1616 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_629 : BitVec 32 := 0#32
  let v1636 : BitVec 1 := Scalar.cmpi .sgt v1616 c0_i32_629
  let v1637 : BitVec 32 := Scalar.extui v1636
  let c0_i32_630 : BitVec 32 := 0#32
  let v1638 : BitVec 1 := Scalar.cmpi .slt v1616 c0_i32_630
  let v1639 : BitVec 32 := Scalar.extui v1638
  let v1640 : BitVec 32 := Scalar.subi v1637 v1639
  let c16384_i32_628 : BitVec 32 := 16384#32
  let c0_i32_631 : BitVec 32 := 0#32
  let v1641 : BitVec 1 := Scalar.cmpi .sgt c16384_i32_628 c0_i32_631
  let v1642 : BitVec 32 := Scalar.extui v1641
  let c0_i32_632 : BitVec 32 := 0#32
  let v1643 : BitVec 1 := Scalar.cmpi .slt c16384_i32_628 c0_i32_632
  let v1644 : BitVec 32 := Scalar.extui v1643
  let v1645 : BitVec 32 := Scalar.subi v1642 v1644
  let v1646 : BitVec 1 := Scalar.cmpi .ne v1640 v1645
  let v1647 : BitVec 32 := Scalar.remsi v1616 c16384_i32_628
  let c0_i32_633 : BitVec 32 := 0#32
  let v1648 : BitVec 1 := Scalar.cmpi .ne v1647 c0_i32_633
  let v1649 : BitVec 1 := Scalar.andi v1646 v1648
  let v1635 : BitVec 32 := Scalar.divsi v1616 c16384_i32_628
  let c1_i32_634 : BitVec 32 := 1#32
  let v1650 : BitVec 32 := Scalar.subi v1635 c1_i32_634
  let v1651 : BitVec 32 := Scalar.select v1649 v1650 v1635
  let c16384_i32_635 : BitVec 32 := 16384#32
  let v1652 : BitVec 32 := Scalar.muli v1651 c16384_i32_635
  let v1653 : BitVec 32 := Scalar.subi v1616 v1652
  let c0_i32_637 : BitVec 32 := 0#32
  let v1655 : BitVec 1 := Scalar.cmpi .sgt v1653 c0_i32_637
  let v1656 : BitVec 32 := Scalar.extui v1655
  let c0_i32_638 : BitVec 32 := 0#32
  let v1657 : BitVec 1 := Scalar.cmpi .slt v1653 c0_i32_638
  let v1658 : BitVec 32 := Scalar.extui v1657
  let v1659 : BitVec 32 := Scalar.subi v1656 v1658
  let c128_i32_636 : BitVec 32 := 128#32
  let c0_i32_639 : BitVec 32 := 0#32
  let v1660 : BitVec 1 := Scalar.cmpi .sgt c128_i32_636 c0_i32_639
  let v1661 : BitVec 32 := Scalar.extui v1660
  let c0_i32_640 : BitVec 32 := 0#32
  let v1662 : BitVec 1 := Scalar.cmpi .slt c128_i32_636 c0_i32_640
  let v1663 : BitVec 32 := Scalar.extui v1662
  let v1664 : BitVec 32 := Scalar.subi v1661 v1663
  let v1665 : BitVec 1 := Scalar.cmpi .ne v1659 v1664
  let v1666 : BitVec 32 := Scalar.remsi v1653 c128_i32_636
  let c0_i32_641 : BitVec 32 := 0#32
  let v1667 : BitVec 1 := Scalar.cmpi .ne v1666 c0_i32_641
  let v1668 : BitVec 1 := Scalar.andi v1665 v1667
  let v1654 : BitVec 32 := Scalar.divsi v1653 c128_i32_636
  let c1_i32_642 : BitVec 32 := 1#32
  let v1669 : BitVec 32 := Scalar.subi v1654 c1_i32_642
  let v1670 : BitVec 32 := Scalar.select v1668 v1669 v1654
  let c127_i32_643 : BitVec 32 := 127#32
  let v1671 : BitVec 32 := Scalar.minsi v1670 c127_i32_643
  let v1672 : BitVec 32 := Scalar.addi v191 v1671
  let v1673 : Index := Scalar.indexCast v1672
  let c0_644 : Index := 0#32
  let c0_645 : Index := 0#32
  ![v1673.toNat, 0, 0]

def k0_chk8 (i : grid0.Coords) (v1616 : BitVec 32) : Prop :=
  (∀ a, (k0_off11 i v1616) a + S1x128x128.size a ≤ S256x128x128.size a)
theorem k0_off11_inb : ∀ (i : grid0.Coords) (v1616 : BitVec 32) (k0_hw8 : k0_chk8 i v1616), ∀ a, (k0_off11 i v1616) a + S1x128x128.size a ≤ S256x128x128.size a := fun i v1616 k0_hw8 => k0_hw8

def k0_off12 (i : grid0.Coords) (v1816 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_706 : BitVec 32 := 0#32
  let v1836 : BitVec 1 := Scalar.cmpi .sgt v1816 c0_i32_706
  let v1837 : BitVec 32 := Scalar.extui v1836
  let c0_i32_707 : BitVec 32 := 0#32
  let v1838 : BitVec 1 := Scalar.cmpi .slt v1816 c0_i32_707
  let v1839 : BitVec 32 := Scalar.extui v1838
  let v1840 : BitVec 32 := Scalar.subi v1837 v1839
  let c16384_i32_705 : BitVec 32 := 16384#32
  let c0_i32_708 : BitVec 32 := 0#32
  let v1841 : BitVec 1 := Scalar.cmpi .sgt c16384_i32_705 c0_i32_708
  let v1842 : BitVec 32 := Scalar.extui v1841
  let c0_i32_709 : BitVec 32 := 0#32
  let v1843 : BitVec 1 := Scalar.cmpi .slt c16384_i32_705 c0_i32_709
  let v1844 : BitVec 32 := Scalar.extui v1843
  let v1845 : BitVec 32 := Scalar.subi v1842 v1844
  let v1846 : BitVec 1 := Scalar.cmpi .ne v1840 v1845
  let v1847 : BitVec 32 := Scalar.remsi v1816 c16384_i32_705
  let c0_i32_710 : BitVec 32 := 0#32
  let v1848 : BitVec 1 := Scalar.cmpi .ne v1847 c0_i32_710
  let v1849 : BitVec 1 := Scalar.andi v1846 v1848
  let v1835 : BitVec 32 := Scalar.divsi v1816 c16384_i32_705
  let c1_i32_711 : BitVec 32 := 1#32
  let v1850 : BitVec 32 := Scalar.subi v1835 c1_i32_711
  let v1851 : BitVec 32 := Scalar.select v1849 v1850 v1835
  let c16384_i32_712 : BitVec 32 := 16384#32
  let v1852 : BitVec 32 := Scalar.muli v1851 c16384_i32_712
  let v1853 : BitVec 32 := Scalar.subi v1816 v1852
  let c0_i32_714 : BitVec 32 := 0#32
  let v1855 : BitVec 1 := Scalar.cmpi .sgt v1853 c0_i32_714
  let v1856 : BitVec 32 := Scalar.extui v1855
  let c0_i32_715 : BitVec 32 := 0#32
  let v1857 : BitVec 1 := Scalar.cmpi .slt v1853 c0_i32_715
  let v1858 : BitVec 32 := Scalar.extui v1857
  let v1859 : BitVec 32 := Scalar.subi v1856 v1858
  let c128_i32_713 : BitVec 32 := 128#32
  let c0_i32_716 : BitVec 32 := 0#32
  let v1860 : BitVec 1 := Scalar.cmpi .sgt c128_i32_713 c0_i32_716
  let v1861 : BitVec 32 := Scalar.extui v1860
  let c0_i32_717 : BitVec 32 := 0#32
  let v1862 : BitVec 1 := Scalar.cmpi .slt c128_i32_713 c0_i32_717
  let v1863 : BitVec 32 := Scalar.extui v1862
  let v1864 : BitVec 32 := Scalar.subi v1861 v1863
  let v1865 : BitVec 1 := Scalar.cmpi .ne v1859 v1864
  let v1866 : BitVec 32 := Scalar.remsi v1853 c128_i32_713
  let c0_i32_718 : BitVec 32 := 0#32
  let v1867 : BitVec 1 := Scalar.cmpi .ne v1866 c0_i32_718
  let v1868 : BitVec 1 := Scalar.andi v1865 v1867
  let v1854 : BitVec 32 := Scalar.divsi v1853 c128_i32_713
  let c1_i32_719 : BitVec 32 := 1#32
  let v1869 : BitVec 32 := Scalar.subi v1854 c1_i32_719
  let v1870 : BitVec 32 := Scalar.select v1868 v1869 v1854
  let c127_i32_720 : BitVec 32 := 127#32
  let v1871 : BitVec 32 := Scalar.minsi v1870 c127_i32_720
  let v1872 : BitVec 32 := Scalar.addi v191 v1871
  let v1873 : Index := Scalar.indexCast v1872
  let c0_721 : Index := 0#32
  let c0_722 : Index := 0#32
  ![v1873.toNat, 0, 0]

def k0_chk9 (i : grid0.Coords) (v1816 : BitVec 32) : Prop :=
  (∀ a, (k0_off12 i v1816) a + S1x128x128.size a ≤ S256x128x128.size a)
theorem k0_off12_inb : ∀ (i : grid0.Coords) (v1816 : BitVec 32) (k0_hw9 : k0_chk9 i v1816), ∀ a, (k0_off12 i v1816) a + S1x128x128.size a ≤ S256x128x128.size a := fun i v1816 k0_hw9 => k0_hw9

def k0_off13 (i : grid0.Coords) (v2016 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_783 : BitVec 32 := 0#32
  let v2036 : BitVec 1 := Scalar.cmpi .sgt v2016 c0_i32_783
  let v2037 : BitVec 32 := Scalar.extui v2036
  let c0_i32_784 : BitVec 32 := 0#32
  let v2038 : BitVec 1 := Scalar.cmpi .slt v2016 c0_i32_784
  let v2039 : BitVec 32 := Scalar.extui v2038
  let v2040 : BitVec 32 := Scalar.subi v2037 v2039
  let c16384_i32_782 : BitVec 32 := 16384#32
  let c0_i32_785 : BitVec 32 := 0#32
  let v2041 : BitVec 1 := Scalar.cmpi .sgt c16384_i32_782 c0_i32_785
  let v2042 : BitVec 32 := Scalar.extui v2041
  let c0_i32_786 : BitVec 32 := 0#32
  let v2043 : BitVec 1 := Scalar.cmpi .slt c16384_i32_782 c0_i32_786
  let v2044 : BitVec 32 := Scalar.extui v2043
  let v2045 : BitVec 32 := Scalar.subi v2042 v2044
  let v2046 : BitVec 1 := Scalar.cmpi .ne v2040 v2045
  let v2047 : BitVec 32 := Scalar.remsi v2016 c16384_i32_782
  let c0_i32_787 : BitVec 32 := 0#32
  let v2048 : BitVec 1 := Scalar.cmpi .ne v2047 c0_i32_787
  let v2049 : BitVec 1 := Scalar.andi v2046 v2048
  let v2035 : BitVec 32 := Scalar.divsi v2016 c16384_i32_782
  let c1_i32_788 : BitVec 32 := 1#32
  let v2050 : BitVec 32 := Scalar.subi v2035 c1_i32_788
  let v2051 : BitVec 32 := Scalar.select v2049 v2050 v2035
  let c16384_i32_789 : BitVec 32 := 16384#32
  let v2052 : BitVec 32 := Scalar.muli v2051 c16384_i32_789
  let v2053 : BitVec 32 := Scalar.subi v2016 v2052
  let c0_i32_791 : BitVec 32 := 0#32
  let v2055 : BitVec 1 := Scalar.cmpi .sgt v2053 c0_i32_791
  let v2056 : BitVec 32 := Scalar.extui v2055
  let c0_i32_792 : BitVec 32 := 0#32
  let v2057 : BitVec 1 := Scalar.cmpi .slt v2053 c0_i32_792
  let v2058 : BitVec 32 := Scalar.extui v2057
  let v2059 : BitVec 32 := Scalar.subi v2056 v2058
  let c128_i32_790 : BitVec 32 := 128#32
  let c0_i32_793 : BitVec 32 := 0#32
  let v2060 : BitVec 1 := Scalar.cmpi .sgt c128_i32_790 c0_i32_793
  let v2061 : BitVec 32 := Scalar.extui v2060
  let c0_i32_794 : BitVec 32 := 0#32
  let v2062 : BitVec 1 := Scalar.cmpi .slt c128_i32_790 c0_i32_794
  let v2063 : BitVec 32 := Scalar.extui v2062
  let v2064 : BitVec 32 := Scalar.subi v2061 v2063
  let v2065 : BitVec 1 := Scalar.cmpi .ne v2059 v2064
  let v2066 : BitVec 32 := Scalar.remsi v2053 c128_i32_790
  let c0_i32_795 : BitVec 32 := 0#32
  let v2067 : BitVec 1 := Scalar.cmpi .ne v2066 c0_i32_795
  let v2068 : BitVec 1 := Scalar.andi v2065 v2067
  let v2054 : BitVec 32 := Scalar.divsi v2053 c128_i32_790
  let c1_i32_796 : BitVec 32 := 1#32
  let v2069 : BitVec 32 := Scalar.subi v2054 c1_i32_796
  let v2070 : BitVec 32 := Scalar.select v2068 v2069 v2054
  let c127_i32_797 : BitVec 32 := 127#32
  let v2071 : BitVec 32 := Scalar.minsi v2070 c127_i32_797
  let v2072 : BitVec 32 := Scalar.addi v191 v2071
  let v2073 : Index := Scalar.indexCast v2072
  let c0_798 : Index := 0#32
  let c0_799 : Index := 0#32
  ![v2073.toNat, 0, 0]

def k0_chk10 (i : grid0.Coords) (v2016 : BitVec 32) : Prop :=
  (∀ a, (k0_off13 i v2016) a + S1x128x128.size a ≤ S256x128x128.size a)
theorem k0_off13_inb : ∀ (i : grid0.Coords) (v2016 : BitVec 32) (k0_hw10 : k0_chk10 i v2016), ∀ a, (k0_off13 i v2016) a + S1x128x128.size a ≤ S256x128x128.size a := fun i v2016 k0_hw10 => k0_hw10

def k0_off14 (i : grid0.Coords) (v2216 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_860 : BitVec 32 := 0#32
  let v2236 : BitVec 1 := Scalar.cmpi .sgt v2216 c0_i32_860
  let v2237 : BitVec 32 := Scalar.extui v2236
  let c0_i32_861 : BitVec 32 := 0#32
  let v2238 : BitVec 1 := Scalar.cmpi .slt v2216 c0_i32_861
  let v2239 : BitVec 32 := Scalar.extui v2238
  let v2240 : BitVec 32 := Scalar.subi v2237 v2239
  let c16384_i32_859 : BitVec 32 := 16384#32
  let c0_i32_862 : BitVec 32 := 0#32
  let v2241 : BitVec 1 := Scalar.cmpi .sgt c16384_i32_859 c0_i32_862
  let v2242 : BitVec 32 := Scalar.extui v2241
  let c0_i32_863 : BitVec 32 := 0#32
  let v2243 : BitVec 1 := Scalar.cmpi .slt c16384_i32_859 c0_i32_863
  let v2244 : BitVec 32 := Scalar.extui v2243
  let v2245 : BitVec 32 := Scalar.subi v2242 v2244
  let v2246 : BitVec 1 := Scalar.cmpi .ne v2240 v2245
  let v2247 : BitVec 32 := Scalar.remsi v2216 c16384_i32_859
  let c0_i32_864 : BitVec 32 := 0#32
  let v2248 : BitVec 1 := Scalar.cmpi .ne v2247 c0_i32_864
  let v2249 : BitVec 1 := Scalar.andi v2246 v2248
  let v2235 : BitVec 32 := Scalar.divsi v2216 c16384_i32_859
  let c1_i32_865 : BitVec 32 := 1#32
  let v2250 : BitVec 32 := Scalar.subi v2235 c1_i32_865
  let v2251 : BitVec 32 := Scalar.select v2249 v2250 v2235
  let c16384_i32_866 : BitVec 32 := 16384#32
  let v2252 : BitVec 32 := Scalar.muli v2251 c16384_i32_866
  let v2253 : BitVec 32 := Scalar.subi v2216 v2252
  let c0_i32_868 : BitVec 32 := 0#32
  let v2255 : BitVec 1 := Scalar.cmpi .sgt v2253 c0_i32_868
  let v2256 : BitVec 32 := Scalar.extui v2255
  let c0_i32_869 : BitVec 32 := 0#32
  let v2257 : BitVec 1 := Scalar.cmpi .slt v2253 c0_i32_869
  let v2258 : BitVec 32 := Scalar.extui v2257
  let v2259 : BitVec 32 := Scalar.subi v2256 v2258
  let c128_i32_867 : BitVec 32 := 128#32
  let c0_i32_870 : BitVec 32 := 0#32
  let v2260 : BitVec 1 := Scalar.cmpi .sgt c128_i32_867 c0_i32_870
  let v2261 : BitVec 32 := Scalar.extui v2260
  let c0_i32_871 : BitVec 32 := 0#32
  let v2262 : BitVec 1 := Scalar.cmpi .slt c128_i32_867 c0_i32_871
  let v2263 : BitVec 32 := Scalar.extui v2262
  let v2264 : BitVec 32 := Scalar.subi v2261 v2263
  let v2265 : BitVec 1 := Scalar.cmpi .ne v2259 v2264
  let v2266 : BitVec 32 := Scalar.remsi v2253 c128_i32_867
  let c0_i32_872 : BitVec 32 := 0#32
  let v2267 : BitVec 1 := Scalar.cmpi .ne v2266 c0_i32_872
  let v2268 : BitVec 1 := Scalar.andi v2265 v2267
  let v2254 : BitVec 32 := Scalar.divsi v2253 c128_i32_867
  let c1_i32_873 : BitVec 32 := 1#32
  let v2269 : BitVec 32 := Scalar.subi v2254 c1_i32_873
  let v2270 : BitVec 32 := Scalar.select v2268 v2269 v2254
  let c127_i32_874 : BitVec 32 := 127#32
  let v2271 : BitVec 32 := Scalar.minsi v2270 c127_i32_874
  let v2272 : BitVec 32 := Scalar.addi v191 v2271
  let v2273 : Index := Scalar.indexCast v2272
  let c0_875 : Index := 0#32
  let c0_876 : Index := 0#32
  ![v2273.toNat, 0, 0]

def k0_chk11 (i : grid0.Coords) (v2216 : BitVec 32) : Prop :=
  (∀ a, (k0_off14 i v2216) a + S1x128x128.size a ≤ S256x128x128.size a)
theorem k0_off14_inb : ∀ (i : grid0.Coords) (v2216 : BitVec 32) (k0_hw11 : k0_chk11 i v2216), ∀ a, (k0_off14 i v2216) a + S1x128x128.size a ≤ S256x128x128.size a := fun i v2216 k0_hw11 => k0_hw11

def k0_off15 (i : grid0.Coords) (v2416 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_937 : BitVec 32 := 0#32
  let v2436 : BitVec 1 := Scalar.cmpi .sgt v2416 c0_i32_937
  let v2437 : BitVec 32 := Scalar.extui v2436
  let c0_i32_938 : BitVec 32 := 0#32
  let v2438 : BitVec 1 := Scalar.cmpi .slt v2416 c0_i32_938
  let v2439 : BitVec 32 := Scalar.extui v2438
  let v2440 : BitVec 32 := Scalar.subi v2437 v2439
  let c16384_i32_936 : BitVec 32 := 16384#32
  let c0_i32_939 : BitVec 32 := 0#32
  let v2441 : BitVec 1 := Scalar.cmpi .sgt c16384_i32_936 c0_i32_939
  let v2442 : BitVec 32 := Scalar.extui v2441
  let c0_i32_940 : BitVec 32 := 0#32
  let v2443 : BitVec 1 := Scalar.cmpi .slt c16384_i32_936 c0_i32_940
  let v2444 : BitVec 32 := Scalar.extui v2443
  let v2445 : BitVec 32 := Scalar.subi v2442 v2444
  let v2446 : BitVec 1 := Scalar.cmpi .ne v2440 v2445
  let v2447 : BitVec 32 := Scalar.remsi v2416 c16384_i32_936
  let c0_i32_941 : BitVec 32 := 0#32
  let v2448 : BitVec 1 := Scalar.cmpi .ne v2447 c0_i32_941
  let v2449 : BitVec 1 := Scalar.andi v2446 v2448
  let v2435 : BitVec 32 := Scalar.divsi v2416 c16384_i32_936
  let c1_i32_942 : BitVec 32 := 1#32
  let v2450 : BitVec 32 := Scalar.subi v2435 c1_i32_942
  let v2451 : BitVec 32 := Scalar.select v2449 v2450 v2435
  let c16384_i32_943 : BitVec 32 := 16384#32
  let v2452 : BitVec 32 := Scalar.muli v2451 c16384_i32_943
  let v2453 : BitVec 32 := Scalar.subi v2416 v2452
  let c0_i32_945 : BitVec 32 := 0#32
  let v2455 : BitVec 1 := Scalar.cmpi .sgt v2453 c0_i32_945
  let v2456 : BitVec 32 := Scalar.extui v2455
  let c0_i32_946 : BitVec 32 := 0#32
  let v2457 : BitVec 1 := Scalar.cmpi .slt v2453 c0_i32_946
  let v2458 : BitVec 32 := Scalar.extui v2457
  let v2459 : BitVec 32 := Scalar.subi v2456 v2458
  let c128_i32_944 : BitVec 32 := 128#32
  let c0_i32_947 : BitVec 32 := 0#32
  let v2460 : BitVec 1 := Scalar.cmpi .sgt c128_i32_944 c0_i32_947
  let v2461 : BitVec 32 := Scalar.extui v2460
  let c0_i32_948 : BitVec 32 := 0#32
  let v2462 : BitVec 1 := Scalar.cmpi .slt c128_i32_944 c0_i32_948
  let v2463 : BitVec 32 := Scalar.extui v2462
  let v2464 : BitVec 32 := Scalar.subi v2461 v2463
  let v2465 : BitVec 1 := Scalar.cmpi .ne v2459 v2464
  let v2466 : BitVec 32 := Scalar.remsi v2453 c128_i32_944
  let c0_i32_949 : BitVec 32 := 0#32
  let v2467 : BitVec 1 := Scalar.cmpi .ne v2466 c0_i32_949
  let v2468 : BitVec 1 := Scalar.andi v2465 v2467
  let v2454 : BitVec 32 := Scalar.divsi v2453 c128_i32_944
  let c1_i32_950 : BitVec 32 := 1#32
  let v2469 : BitVec 32 := Scalar.subi v2454 c1_i32_950
  let v2470 : BitVec 32 := Scalar.select v2468 v2469 v2454
  let c127_i32_951 : BitVec 32 := 127#32
  let v2471 : BitVec 32 := Scalar.minsi v2470 c127_i32_951
  let v2472 : BitVec 32 := Scalar.addi v191 v2471
  let v2473 : Index := Scalar.indexCast v2472
  let c0_952 : Index := 0#32
  let c0_953 : Index := 0#32
  ![v2473.toNat, 0, 0]

def k0_chk12 (i : grid0.Coords) (v2416 : BitVec 32) : Prop :=
  (∀ a, (k0_off15 i v2416) a + S1x128x128.size a ≤ S256x128x128.size a)
theorem k0_off15_inb : ∀ (i : grid0.Coords) (v2416 : BitVec 32) (k0_hw12 : k0_chk12 i v2416), ∀ a, (k0_off15 i v2416) a + S1x128x128.size a ≤ S256x128x128.size a := fun i v2416 k0_hw12 => k0_hw12

def k0_off16 (i : grid0.Coords) (v2616 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_1014 : BitVec 32 := 0#32
  let v2636 : BitVec 1 := Scalar.cmpi .sgt v2616 c0_i32_1014
  let v2637 : BitVec 32 := Scalar.extui v2636
  let c0_i32_1015 : BitVec 32 := 0#32
  let v2638 : BitVec 1 := Scalar.cmpi .slt v2616 c0_i32_1015
  let v2639 : BitVec 32 := Scalar.extui v2638
  let v2640 : BitVec 32 := Scalar.subi v2637 v2639
  let c16384_i32_1013 : BitVec 32 := 16384#32
  let c0_i32_1016 : BitVec 32 := 0#32
  let v2641 : BitVec 1 := Scalar.cmpi .sgt c16384_i32_1013 c0_i32_1016
  let v2642 : BitVec 32 := Scalar.extui v2641
  let c0_i32_1017 : BitVec 32 := 0#32
  let v2643 : BitVec 1 := Scalar.cmpi .slt c16384_i32_1013 c0_i32_1017
  let v2644 : BitVec 32 := Scalar.extui v2643
  let v2645 : BitVec 32 := Scalar.subi v2642 v2644
  let v2646 : BitVec 1 := Scalar.cmpi .ne v2640 v2645
  let v2647 : BitVec 32 := Scalar.remsi v2616 c16384_i32_1013
  let c0_i32_1018 : BitVec 32 := 0#32
  let v2648 : BitVec 1 := Scalar.cmpi .ne v2647 c0_i32_1018
  let v2649 : BitVec 1 := Scalar.andi v2646 v2648
  let v2635 : BitVec 32 := Scalar.divsi v2616 c16384_i32_1013
  let c1_i32_1019 : BitVec 32 := 1#32
  let v2650 : BitVec 32 := Scalar.subi v2635 c1_i32_1019
  let v2651 : BitVec 32 := Scalar.select v2649 v2650 v2635
  let c16384_i32_1020 : BitVec 32 := 16384#32
  let v2652 : BitVec 32 := Scalar.muli v2651 c16384_i32_1020
  let v2653 : BitVec 32 := Scalar.subi v2616 v2652
  let c0_i32_1022 : BitVec 32 := 0#32
  let v2655 : BitVec 1 := Scalar.cmpi .sgt v2653 c0_i32_1022
  let v2656 : BitVec 32 := Scalar.extui v2655
  let c0_i32_1023 : BitVec 32 := 0#32
  let v2657 : BitVec 1 := Scalar.cmpi .slt v2653 c0_i32_1023
  let v2658 : BitVec 32 := Scalar.extui v2657
  let v2659 : BitVec 32 := Scalar.subi v2656 v2658
  let c128_i32_1021 : BitVec 32 := 128#32
  let c0_i32_1024 : BitVec 32 := 0#32
  let v2660 : BitVec 1 := Scalar.cmpi .sgt c128_i32_1021 c0_i32_1024
  let v2661 : BitVec 32 := Scalar.extui v2660
  let c0_i32_1025 : BitVec 32 := 0#32
  let v2662 : BitVec 1 := Scalar.cmpi .slt c128_i32_1021 c0_i32_1025
  let v2663 : BitVec 32 := Scalar.extui v2662
  let v2664 : BitVec 32 := Scalar.subi v2661 v2663
  let v2665 : BitVec 1 := Scalar.cmpi .ne v2659 v2664
  let v2666 : BitVec 32 := Scalar.remsi v2653 c128_i32_1021
  let c0_i32_1026 : BitVec 32 := 0#32
  let v2667 : BitVec 1 := Scalar.cmpi .ne v2666 c0_i32_1026
  let v2668 : BitVec 1 := Scalar.andi v2665 v2667
  let v2654 : BitVec 32 := Scalar.divsi v2653 c128_i32_1021
  let c1_i32_1027 : BitVec 32 := 1#32
  let v2669 : BitVec 32 := Scalar.subi v2654 c1_i32_1027
  let v2670 : BitVec 32 := Scalar.select v2668 v2669 v2654
  let c127_i32_1028 : BitVec 32 := 127#32
  let v2671 : BitVec 32 := Scalar.minsi v2670 c127_i32_1028
  let v2672 : BitVec 32 := Scalar.addi v191 v2671
  let v2673 : Index := Scalar.indexCast v2672
  let c0_1029 : Index := 0#32
  let c0_1030 : Index := 0#32
  ![v2673.toNat, 0, 0]

def k0_chk13 (i : grid0.Coords) (v2616 : BitVec 32) : Prop :=
  (∀ a, (k0_off16 i v2616) a + S1x128x128.size a ≤ S256x128x128.size a)
theorem k0_off16_inb : ∀ (i : grid0.Coords) (v2616 : BitVec 32) (k0_hw13 : k0_chk13 i v2616), ∀ a, (k0_off16 i v2616) a + S1x128x128.size a ≤ S256x128x128.size a := fun i v2616 k0_hw13 => k0_hw13

def k0_off17 (i : grid0.Coords) (v2816 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_1091 : BitVec 32 := 0#32
  let v2836 : BitVec 1 := Scalar.cmpi .sgt v2816 c0_i32_1091
  let v2837 : BitVec 32 := Scalar.extui v2836
  let c0_i32_1092 : BitVec 32 := 0#32
  let v2838 : BitVec 1 := Scalar.cmpi .slt v2816 c0_i32_1092
  let v2839 : BitVec 32 := Scalar.extui v2838
  let v2840 : BitVec 32 := Scalar.subi v2837 v2839
  let c16384_i32_1090 : BitVec 32 := 16384#32
  let c0_i32_1093 : BitVec 32 := 0#32
  let v2841 : BitVec 1 := Scalar.cmpi .sgt c16384_i32_1090 c0_i32_1093
  let v2842 : BitVec 32 := Scalar.extui v2841
  let c0_i32_1094 : BitVec 32 := 0#32
  let v2843 : BitVec 1 := Scalar.cmpi .slt c16384_i32_1090 c0_i32_1094
  let v2844 : BitVec 32 := Scalar.extui v2843
  let v2845 : BitVec 32 := Scalar.subi v2842 v2844
  let v2846 : BitVec 1 := Scalar.cmpi .ne v2840 v2845
  let v2847 : BitVec 32 := Scalar.remsi v2816 c16384_i32_1090
  let c0_i32_1095 : BitVec 32 := 0#32
  let v2848 : BitVec 1 := Scalar.cmpi .ne v2847 c0_i32_1095
  let v2849 : BitVec 1 := Scalar.andi v2846 v2848
  let v2835 : BitVec 32 := Scalar.divsi v2816 c16384_i32_1090
  let c1_i32_1096 : BitVec 32 := 1#32
  let v2850 : BitVec 32 := Scalar.subi v2835 c1_i32_1096
  let v2851 : BitVec 32 := Scalar.select v2849 v2850 v2835
  let c16384_i32_1097 : BitVec 32 := 16384#32
  let v2852 : BitVec 32 := Scalar.muli v2851 c16384_i32_1097
  let v2853 : BitVec 32 := Scalar.subi v2816 v2852
  let c0_i32_1099 : BitVec 32 := 0#32
  let v2855 : BitVec 1 := Scalar.cmpi .sgt v2853 c0_i32_1099
  let v2856 : BitVec 32 := Scalar.extui v2855
  let c0_i32_1100 : BitVec 32 := 0#32
  let v2857 : BitVec 1 := Scalar.cmpi .slt v2853 c0_i32_1100
  let v2858 : BitVec 32 := Scalar.extui v2857
  let v2859 : BitVec 32 := Scalar.subi v2856 v2858
  let c128_i32_1098 : BitVec 32 := 128#32
  let c0_i32_1101 : BitVec 32 := 0#32
  let v2860 : BitVec 1 := Scalar.cmpi .sgt c128_i32_1098 c0_i32_1101
  let v2861 : BitVec 32 := Scalar.extui v2860
  let c0_i32_1102 : BitVec 32 := 0#32
  let v2862 : BitVec 1 := Scalar.cmpi .slt c128_i32_1098 c0_i32_1102
  let v2863 : BitVec 32 := Scalar.extui v2862
  let v2864 : BitVec 32 := Scalar.subi v2861 v2863
  let v2865 : BitVec 1 := Scalar.cmpi .ne v2859 v2864
  let v2866 : BitVec 32 := Scalar.remsi v2853 c128_i32_1098
  let c0_i32_1103 : BitVec 32 := 0#32
  let v2867 : BitVec 1 := Scalar.cmpi .ne v2866 c0_i32_1103
  let v2868 : BitVec 1 := Scalar.andi v2865 v2867
  let v2854 : BitVec 32 := Scalar.divsi v2853 c128_i32_1098
  let c1_i32_1104 : BitVec 32 := 1#32
  let v2869 : BitVec 32 := Scalar.subi v2854 c1_i32_1104
  let v2870 : BitVec 32 := Scalar.select v2868 v2869 v2854
  let c127_i32_1105 : BitVec 32 := 127#32
  let v2871 : BitVec 32 := Scalar.minsi v2870 c127_i32_1105
  let v2872 : BitVec 32 := Scalar.addi v191 v2871
  let v2873 : Index := Scalar.indexCast v2872
  let c0_1106 : Index := 0#32
  let c0_1107 : Index := 0#32
  ![v2873.toNat, 0, 0]

def k0_chk14 (i : grid0.Coords) (v2816 : BitVec 32) : Prop :=
  (∀ a, (k0_off17 i v2816) a + S1x128x128.size a ≤ S256x128x128.size a)
theorem k0_off17_inb : ∀ (i : grid0.Coords) (v2816 : BitVec 32) (k0_hw14 : k0_chk14 i v2816), ∀ a, (k0_off17 i v2816) a + S1x128x128.size a ≤ S256x128x128.size a := fun i v2816 k0_hw14 => k0_hw14

def k0_off18 (i : grid0.Coords) (v3016 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_1168 : BitVec 32 := 0#32
  let v3036 : BitVec 1 := Scalar.cmpi .sgt v3016 c0_i32_1168
  let v3037 : BitVec 32 := Scalar.extui v3036
  let c0_i32_1169 : BitVec 32 := 0#32
  let v3038 : BitVec 1 := Scalar.cmpi .slt v3016 c0_i32_1169
  let v3039 : BitVec 32 := Scalar.extui v3038
  let v3040 : BitVec 32 := Scalar.subi v3037 v3039
  let c16384_i32_1167 : BitVec 32 := 16384#32
  let c0_i32_1170 : BitVec 32 := 0#32
  let v3041 : BitVec 1 := Scalar.cmpi .sgt c16384_i32_1167 c0_i32_1170
  let v3042 : BitVec 32 := Scalar.extui v3041
  let c0_i32_1171 : BitVec 32 := 0#32
  let v3043 : BitVec 1 := Scalar.cmpi .slt c16384_i32_1167 c0_i32_1171
  let v3044 : BitVec 32 := Scalar.extui v3043
  let v3045 : BitVec 32 := Scalar.subi v3042 v3044
  let v3046 : BitVec 1 := Scalar.cmpi .ne v3040 v3045
  let v3047 : BitVec 32 := Scalar.remsi v3016 c16384_i32_1167
  let c0_i32_1172 : BitVec 32 := 0#32
  let v3048 : BitVec 1 := Scalar.cmpi .ne v3047 c0_i32_1172
  let v3049 : BitVec 1 := Scalar.andi v3046 v3048
  let v3035 : BitVec 32 := Scalar.divsi v3016 c16384_i32_1167
  let c1_i32_1173 : BitVec 32 := 1#32
  let v3050 : BitVec 32 := Scalar.subi v3035 c1_i32_1173
  let v3051 : BitVec 32 := Scalar.select v3049 v3050 v3035
  let c16384_i32_1174 : BitVec 32 := 16384#32
  let v3052 : BitVec 32 := Scalar.muli v3051 c16384_i32_1174
  let v3053 : BitVec 32 := Scalar.subi v3016 v3052
  let c0_i32_1176 : BitVec 32 := 0#32
  let v3055 : BitVec 1 := Scalar.cmpi .sgt v3053 c0_i32_1176
  let v3056 : BitVec 32 := Scalar.extui v3055
  let c0_i32_1177 : BitVec 32 := 0#32
  let v3057 : BitVec 1 := Scalar.cmpi .slt v3053 c0_i32_1177
  let v3058 : BitVec 32 := Scalar.extui v3057
  let v3059 : BitVec 32 := Scalar.subi v3056 v3058
  let c128_i32_1175 : BitVec 32 := 128#32
  let c0_i32_1178 : BitVec 32 := 0#32
  let v3060 : BitVec 1 := Scalar.cmpi .sgt c128_i32_1175 c0_i32_1178
  let v3061 : BitVec 32 := Scalar.extui v3060
  let c0_i32_1179 : BitVec 32 := 0#32
  let v3062 : BitVec 1 := Scalar.cmpi .slt c128_i32_1175 c0_i32_1179
  let v3063 : BitVec 32 := Scalar.extui v3062
  let v3064 : BitVec 32 := Scalar.subi v3061 v3063
  let v3065 : BitVec 1 := Scalar.cmpi .ne v3059 v3064
  let v3066 : BitVec 32 := Scalar.remsi v3053 c128_i32_1175
  let c0_i32_1180 : BitVec 32 := 0#32
  let v3067 : BitVec 1 := Scalar.cmpi .ne v3066 c0_i32_1180
  let v3068 : BitVec 1 := Scalar.andi v3065 v3067
  let v3054 : BitVec 32 := Scalar.divsi v3053 c128_i32_1175
  let c1_i32_1181 : BitVec 32 := 1#32
  let v3069 : BitVec 32 := Scalar.subi v3054 c1_i32_1181
  let v3070 : BitVec 32 := Scalar.select v3068 v3069 v3054
  let c127_i32_1182 : BitVec 32 := 127#32
  let v3071 : BitVec 32 := Scalar.minsi v3070 c127_i32_1182
  let v3072 : BitVec 32 := Scalar.addi v191 v3071
  let v3073 : Index := Scalar.indexCast v3072
  let c0_1183 : Index := 0#32
  let c0_1184 : Index := 0#32
  ![v3073.toNat, 0, 0]

def k0_chk15 (i : grid0.Coords) (v3016 : BitVec 32) : Prop :=
  (∀ a, (k0_off18 i v3016) a + S1x128x128.size a ≤ S256x128x128.size a)
theorem k0_off18_inb : ∀ (i : grid0.Coords) (v3016 : BitVec 32) (k0_hw15 : k0_chk15 i v3016), ∀ a, (k0_off18 i v3016) a + S1x128x128.size a ≤ S256x128x128.size a := fun i v3016 k0_hw15 => k0_hw15

def k0_off19 (i : grid0.Coords) (v3216 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_1245 : BitVec 32 := 0#32
  let v3236 : BitVec 1 := Scalar.cmpi .sgt v3216 c0_i32_1245
  let v3237 : BitVec 32 := Scalar.extui v3236
  let c0_i32_1246 : BitVec 32 := 0#32
  let v3238 : BitVec 1 := Scalar.cmpi .slt v3216 c0_i32_1246
  let v3239 : BitVec 32 := Scalar.extui v3238
  let v3240 : BitVec 32 := Scalar.subi v3237 v3239
  let c16384_i32_1244 : BitVec 32 := 16384#32
  let c0_i32_1247 : BitVec 32 := 0#32
  let v3241 : BitVec 1 := Scalar.cmpi .sgt c16384_i32_1244 c0_i32_1247
  let v3242 : BitVec 32 := Scalar.extui v3241
  let c0_i32_1248 : BitVec 32 := 0#32
  let v3243 : BitVec 1 := Scalar.cmpi .slt c16384_i32_1244 c0_i32_1248
  let v3244 : BitVec 32 := Scalar.extui v3243
  let v3245 : BitVec 32 := Scalar.subi v3242 v3244
  let v3246 : BitVec 1 := Scalar.cmpi .ne v3240 v3245
  let v3247 : BitVec 32 := Scalar.remsi v3216 c16384_i32_1244
  let c0_i32_1249 : BitVec 32 := 0#32
  let v3248 : BitVec 1 := Scalar.cmpi .ne v3247 c0_i32_1249
  let v3249 : BitVec 1 := Scalar.andi v3246 v3248
  let v3235 : BitVec 32 := Scalar.divsi v3216 c16384_i32_1244
  let c1_i32_1250 : BitVec 32 := 1#32
  let v3250 : BitVec 32 := Scalar.subi v3235 c1_i32_1250
  let v3251 : BitVec 32 := Scalar.select v3249 v3250 v3235
  let c16384_i32_1251 : BitVec 32 := 16384#32
  let v3252 : BitVec 32 := Scalar.muli v3251 c16384_i32_1251
  let v3253 : BitVec 32 := Scalar.subi v3216 v3252
  let c0_i32_1253 : BitVec 32 := 0#32
  let v3255 : BitVec 1 := Scalar.cmpi .sgt v3253 c0_i32_1253
  let v3256 : BitVec 32 := Scalar.extui v3255
  let c0_i32_1254 : BitVec 32 := 0#32
  let v3257 : BitVec 1 := Scalar.cmpi .slt v3253 c0_i32_1254
  let v3258 : BitVec 32 := Scalar.extui v3257
  let v3259 : BitVec 32 := Scalar.subi v3256 v3258
  let c128_i32_1252 : BitVec 32 := 128#32
  let c0_i32_1255 : BitVec 32 := 0#32
  let v3260 : BitVec 1 := Scalar.cmpi .sgt c128_i32_1252 c0_i32_1255
  let v3261 : BitVec 32 := Scalar.extui v3260
  let c0_i32_1256 : BitVec 32 := 0#32
  let v3262 : BitVec 1 := Scalar.cmpi .slt c128_i32_1252 c0_i32_1256
  let v3263 : BitVec 32 := Scalar.extui v3262
  let v3264 : BitVec 32 := Scalar.subi v3261 v3263
  let v3265 : BitVec 1 := Scalar.cmpi .ne v3259 v3264
  let v3266 : BitVec 32 := Scalar.remsi v3253 c128_i32_1252
  let c0_i32_1257 : BitVec 32 := 0#32
  let v3267 : BitVec 1 := Scalar.cmpi .ne v3266 c0_i32_1257
  let v3268 : BitVec 1 := Scalar.andi v3265 v3267
  let v3254 : BitVec 32 := Scalar.divsi v3253 c128_i32_1252
  let c1_i32_1258 : BitVec 32 := 1#32
  let v3269 : BitVec 32 := Scalar.subi v3254 c1_i32_1258
  let v3270 : BitVec 32 := Scalar.select v3268 v3269 v3254
  let c127_i32_1259 : BitVec 32 := 127#32
  let v3271 : BitVec 32 := Scalar.minsi v3270 c127_i32_1259
  let v3272 : BitVec 32 := Scalar.addi v191 v3271
  let v3273 : Index := Scalar.indexCast v3272
  let c0_1260 : Index := 0#32
  let c0_1261 : Index := 0#32
  ![v3273.toNat, 0, 0]

def k0_chk16 (i : grid0.Coords) (v3216 : BitVec 32) : Prop :=
  (∀ a, (k0_off19 i v3216) a + S1x128x128.size a ≤ S256x128x128.size a)
theorem k0_off19_inb : ∀ (i : grid0.Coords) (v3216 : BitVec 32) (k0_hw16 : k0_chk16 i v3216), ∀ a, (k0_off19 i v3216) a + S1x128x128.size a ≤ S256x128x128.size a := fun i v3216 k0_hw16 => k0_hw16

def k0_off20 (i : grid0.Coords) (v3416 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_1322 : BitVec 32 := 0#32
  let v3436 : BitVec 1 := Scalar.cmpi .sgt v3416 c0_i32_1322
  let v3437 : BitVec 32 := Scalar.extui v3436
  let c0_i32_1323 : BitVec 32 := 0#32
  let v3438 : BitVec 1 := Scalar.cmpi .slt v3416 c0_i32_1323
  let v3439 : BitVec 32 := Scalar.extui v3438
  let v3440 : BitVec 32 := Scalar.subi v3437 v3439
  let c16384_i32_1321 : BitVec 32 := 16384#32
  let c0_i32_1324 : BitVec 32 := 0#32
  let v3441 : BitVec 1 := Scalar.cmpi .sgt c16384_i32_1321 c0_i32_1324
  let v3442 : BitVec 32 := Scalar.extui v3441
  let c0_i32_1325 : BitVec 32 := 0#32
  let v3443 : BitVec 1 := Scalar.cmpi .slt c16384_i32_1321 c0_i32_1325
  let v3444 : BitVec 32 := Scalar.extui v3443
  let v3445 : BitVec 32 := Scalar.subi v3442 v3444
  let v3446 : BitVec 1 := Scalar.cmpi .ne v3440 v3445
  let v3447 : BitVec 32 := Scalar.remsi v3416 c16384_i32_1321
  let c0_i32_1326 : BitVec 32 := 0#32
  let v3448 : BitVec 1 := Scalar.cmpi .ne v3447 c0_i32_1326
  let v3449 : BitVec 1 := Scalar.andi v3446 v3448
  let v3435 : BitVec 32 := Scalar.divsi v3416 c16384_i32_1321
  let c1_i32_1327 : BitVec 32 := 1#32
  let v3450 : BitVec 32 := Scalar.subi v3435 c1_i32_1327
  let v3451 : BitVec 32 := Scalar.select v3449 v3450 v3435
  let c16384_i32_1328 : BitVec 32 := 16384#32
  let v3452 : BitVec 32 := Scalar.muli v3451 c16384_i32_1328
  let v3453 : BitVec 32 := Scalar.subi v3416 v3452
  let c0_i32_1330 : BitVec 32 := 0#32
  let v3455 : BitVec 1 := Scalar.cmpi .sgt v3453 c0_i32_1330
  let v3456 : BitVec 32 := Scalar.extui v3455
  let c0_i32_1331 : BitVec 32 := 0#32
  let v3457 : BitVec 1 := Scalar.cmpi .slt v3453 c0_i32_1331
  let v3458 : BitVec 32 := Scalar.extui v3457
  let v3459 : BitVec 32 := Scalar.subi v3456 v3458
  let c128_i32_1329 : BitVec 32 := 128#32
  let c0_i32_1332 : BitVec 32 := 0#32
  let v3460 : BitVec 1 := Scalar.cmpi .sgt c128_i32_1329 c0_i32_1332
  let v3461 : BitVec 32 := Scalar.extui v3460
  let c0_i32_1333 : BitVec 32 := 0#32
  let v3462 : BitVec 1 := Scalar.cmpi .slt c128_i32_1329 c0_i32_1333
  let v3463 : BitVec 32 := Scalar.extui v3462
  let v3464 : BitVec 32 := Scalar.subi v3461 v3463
  let v3465 : BitVec 1 := Scalar.cmpi .ne v3459 v3464
  let v3466 : BitVec 32 := Scalar.remsi v3453 c128_i32_1329
  let c0_i32_1334 : BitVec 32 := 0#32
  let v3467 : BitVec 1 := Scalar.cmpi .ne v3466 c0_i32_1334
  let v3468 : BitVec 1 := Scalar.andi v3465 v3467
  let v3454 : BitVec 32 := Scalar.divsi v3453 c128_i32_1329
  let c1_i32_1335 : BitVec 32 := 1#32
  let v3469 : BitVec 32 := Scalar.subi v3454 c1_i32_1335
  let v3470 : BitVec 32 := Scalar.select v3468 v3469 v3454
  let c127_i32_1336 : BitVec 32 := 127#32
  let v3471 : BitVec 32 := Scalar.minsi v3470 c127_i32_1336
  let v3472 : BitVec 32 := Scalar.addi v191 v3471
  let v3473 : Index := Scalar.indexCast v3472
  let c0_1337 : Index := 0#32
  let c0_1338 : Index := 0#32
  ![v3473.toNat, 0, 0]

def k0_chk17 (i : grid0.Coords) (v3416 : BitVec 32) : Prop :=
  (∀ a, (k0_off20 i v3416) a + S1x128x128.size a ≤ S256x128x128.size a)
theorem k0_off20_inb : ∀ (i : grid0.Coords) (v3416 : BitVec 32) (k0_hw17 : k0_chk17 i v3416), ∀ a, (k0_off20 i v3416) a + S1x128x128.size a ≤ S256x128x128.size a := fun i v3416 k0_hw17 => k0_hw17

def k0_off21 (i : grid0.Coords) (v3616 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_1399 : BitVec 32 := 0#32
  let v3636 : BitVec 1 := Scalar.cmpi .sgt v3616 c0_i32_1399
  let v3637 : BitVec 32 := Scalar.extui v3636
  let c0_i32_1400 : BitVec 32 := 0#32
  let v3638 : BitVec 1 := Scalar.cmpi .slt v3616 c0_i32_1400
  let v3639 : BitVec 32 := Scalar.extui v3638
  let v3640 : BitVec 32 := Scalar.subi v3637 v3639
  let c16384_i32_1398 : BitVec 32 := 16384#32
  let c0_i32_1401 : BitVec 32 := 0#32
  let v3641 : BitVec 1 := Scalar.cmpi .sgt c16384_i32_1398 c0_i32_1401
  let v3642 : BitVec 32 := Scalar.extui v3641
  let c0_i32_1402 : BitVec 32 := 0#32
  let v3643 : BitVec 1 := Scalar.cmpi .slt c16384_i32_1398 c0_i32_1402
  let v3644 : BitVec 32 := Scalar.extui v3643
  let v3645 : BitVec 32 := Scalar.subi v3642 v3644
  let v3646 : BitVec 1 := Scalar.cmpi .ne v3640 v3645
  let v3647 : BitVec 32 := Scalar.remsi v3616 c16384_i32_1398
  let c0_i32_1403 : BitVec 32 := 0#32
  let v3648 : BitVec 1 := Scalar.cmpi .ne v3647 c0_i32_1403
  let v3649 : BitVec 1 := Scalar.andi v3646 v3648
  let v3635 : BitVec 32 := Scalar.divsi v3616 c16384_i32_1398
  let c1_i32_1404 : BitVec 32 := 1#32
  let v3650 : BitVec 32 := Scalar.subi v3635 c1_i32_1404
  let v3651 : BitVec 32 := Scalar.select v3649 v3650 v3635
  let c16384_i32_1405 : BitVec 32 := 16384#32
  let v3652 : BitVec 32 := Scalar.muli v3651 c16384_i32_1405
  let v3653 : BitVec 32 := Scalar.subi v3616 v3652
  let c0_i32_1407 : BitVec 32 := 0#32
  let v3655 : BitVec 1 := Scalar.cmpi .sgt v3653 c0_i32_1407
  let v3656 : BitVec 32 := Scalar.extui v3655
  let c0_i32_1408 : BitVec 32 := 0#32
  let v3657 : BitVec 1 := Scalar.cmpi .slt v3653 c0_i32_1408
  let v3658 : BitVec 32 := Scalar.extui v3657
  let v3659 : BitVec 32 := Scalar.subi v3656 v3658
  let c128_i32_1406 : BitVec 32 := 128#32
  let c0_i32_1409 : BitVec 32 := 0#32
  let v3660 : BitVec 1 := Scalar.cmpi .sgt c128_i32_1406 c0_i32_1409
  let v3661 : BitVec 32 := Scalar.extui v3660
  let c0_i32_1410 : BitVec 32 := 0#32
  let v3662 : BitVec 1 := Scalar.cmpi .slt c128_i32_1406 c0_i32_1410
  let v3663 : BitVec 32 := Scalar.extui v3662
  let v3664 : BitVec 32 := Scalar.subi v3661 v3663
  let v3665 : BitVec 1 := Scalar.cmpi .ne v3659 v3664
  let v3666 : BitVec 32 := Scalar.remsi v3653 c128_i32_1406
  let c0_i32_1411 : BitVec 32 := 0#32
  let v3667 : BitVec 1 := Scalar.cmpi .ne v3666 c0_i32_1411
  let v3668 : BitVec 1 := Scalar.andi v3665 v3667
  let v3654 : BitVec 32 := Scalar.divsi v3653 c128_i32_1406
  let c1_i32_1412 : BitVec 32 := 1#32
  let v3669 : BitVec 32 := Scalar.subi v3654 c1_i32_1412
  let v3670 : BitVec 32 := Scalar.select v3668 v3669 v3654
  let c127_i32_1413 : BitVec 32 := 127#32
  let v3671 : BitVec 32 := Scalar.minsi v3670 c127_i32_1413
  let v3672 : BitVec 32 := Scalar.addi v191 v3671
  let v3673 : Index := Scalar.indexCast v3672
  let c0_1414 : Index := 0#32
  let c0_1415 : Index := 0#32
  ![v3673.toNat, 0, 0]

def k0_chk18 (i : grid0.Coords) (v3616 : BitVec 32) : Prop :=
  (∀ a, (k0_off21 i v3616) a + S1x128x128.size a ≤ S256x128x128.size a)
theorem k0_off21_inb : ∀ (i : grid0.Coords) (v3616 : BitVec 32) (k0_hw18 : k0_chk18 i v3616), ∀ a, (k0_off21 i v3616) a + S1x128x128.size a ≤ S256x128x128.size a := fun i v3616 k0_hw18 => k0_hw18

def k0_off22 (i : grid0.Coords) (v3816 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_1476 : BitVec 32 := 0#32
  let v3836 : BitVec 1 := Scalar.cmpi .sgt v3816 c0_i32_1476
  let v3837 : BitVec 32 := Scalar.extui v3836
  let c0_i32_1477 : BitVec 32 := 0#32
  let v3838 : BitVec 1 := Scalar.cmpi .slt v3816 c0_i32_1477
  let v3839 : BitVec 32 := Scalar.extui v3838
  let v3840 : BitVec 32 := Scalar.subi v3837 v3839
  let c16384_i32_1475 : BitVec 32 := 16384#32
  let c0_i32_1478 : BitVec 32 := 0#32
  let v3841 : BitVec 1 := Scalar.cmpi .sgt c16384_i32_1475 c0_i32_1478
  let v3842 : BitVec 32 := Scalar.extui v3841
  let c0_i32_1479 : BitVec 32 := 0#32
  let v3843 : BitVec 1 := Scalar.cmpi .slt c16384_i32_1475 c0_i32_1479
  let v3844 : BitVec 32 := Scalar.extui v3843
  let v3845 : BitVec 32 := Scalar.subi v3842 v3844
  let v3846 : BitVec 1 := Scalar.cmpi .ne v3840 v3845
  let v3847 : BitVec 32 := Scalar.remsi v3816 c16384_i32_1475
  let c0_i32_1480 : BitVec 32 := 0#32
  let v3848 : BitVec 1 := Scalar.cmpi .ne v3847 c0_i32_1480
  let v3849 : BitVec 1 := Scalar.andi v3846 v3848
  let v3835 : BitVec 32 := Scalar.divsi v3816 c16384_i32_1475
  let c1_i32_1481 : BitVec 32 := 1#32
  let v3850 : BitVec 32 := Scalar.subi v3835 c1_i32_1481
  let v3851 : BitVec 32 := Scalar.select v3849 v3850 v3835
  let c16384_i32_1482 : BitVec 32 := 16384#32
  let v3852 : BitVec 32 := Scalar.muli v3851 c16384_i32_1482
  let v3853 : BitVec 32 := Scalar.subi v3816 v3852
  let c0_i32_1484 : BitVec 32 := 0#32
  let v3855 : BitVec 1 := Scalar.cmpi .sgt v3853 c0_i32_1484
  let v3856 : BitVec 32 := Scalar.extui v3855
  let c0_i32_1485 : BitVec 32 := 0#32
  let v3857 : BitVec 1 := Scalar.cmpi .slt v3853 c0_i32_1485
  let v3858 : BitVec 32 := Scalar.extui v3857
  let v3859 : BitVec 32 := Scalar.subi v3856 v3858
  let c128_i32_1483 : BitVec 32 := 128#32
  let c0_i32_1486 : BitVec 32 := 0#32
  let v3860 : BitVec 1 := Scalar.cmpi .sgt c128_i32_1483 c0_i32_1486
  let v3861 : BitVec 32 := Scalar.extui v3860
  let c0_i32_1487 : BitVec 32 := 0#32
  let v3862 : BitVec 1 := Scalar.cmpi .slt c128_i32_1483 c0_i32_1487
  let v3863 : BitVec 32 := Scalar.extui v3862
  let v3864 : BitVec 32 := Scalar.subi v3861 v3863
  let v3865 : BitVec 1 := Scalar.cmpi .ne v3859 v3864
  let v3866 : BitVec 32 := Scalar.remsi v3853 c128_i32_1483
  let c0_i32_1488 : BitVec 32 := 0#32
  let v3867 : BitVec 1 := Scalar.cmpi .ne v3866 c0_i32_1488
  let v3868 : BitVec 1 := Scalar.andi v3865 v3867
  let v3854 : BitVec 32 := Scalar.divsi v3853 c128_i32_1483
  let c1_i32_1489 : BitVec 32 := 1#32
  let v3869 : BitVec 32 := Scalar.subi v3854 c1_i32_1489
  let v3870 : BitVec 32 := Scalar.select v3868 v3869 v3854
  let c127_i32_1490 : BitVec 32 := 127#32
  let v3871 : BitVec 32 := Scalar.minsi v3870 c127_i32_1490
  let v3872 : BitVec 32 := Scalar.addi v191 v3871
  let v3873 : Index := Scalar.indexCast v3872
  let c0_1491 : Index := 0#32
  let c0_1492 : Index := 0#32
  ![v3873.toNat, 0, 0]

def k0_chk19 (i : grid0.Coords) (v3816 : BitVec 32) : Prop :=
  (∀ a, (k0_off22 i v3816) a + S1x128x128.size a ≤ S256x128x128.size a)
theorem k0_off22_inb : ∀ (i : grid0.Coords) (v3816 : BitVec 32) (k0_hw19 : k0_chk19 i v3816), ∀ a, (k0_off22 i v3816) a + S1x128x128.size a ≤ S256x128x128.size a := fun i v3816 k0_hw19 => k0_hw19

def k0_off23 (i : grid0.Coords) (v4016 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_1553 : BitVec 32 := 0#32
  let v4036 : BitVec 1 := Scalar.cmpi .sgt v4016 c0_i32_1553
  let v4037 : BitVec 32 := Scalar.extui v4036
  let c0_i32_1554 : BitVec 32 := 0#32
  let v4038 : BitVec 1 := Scalar.cmpi .slt v4016 c0_i32_1554
  let v4039 : BitVec 32 := Scalar.extui v4038
  let v4040 : BitVec 32 := Scalar.subi v4037 v4039
  let c16384_i32_1552 : BitVec 32 := 16384#32
  let c0_i32_1555 : BitVec 32 := 0#32
  let v4041 : BitVec 1 := Scalar.cmpi .sgt c16384_i32_1552 c0_i32_1555
  let v4042 : BitVec 32 := Scalar.extui v4041
  let c0_i32_1556 : BitVec 32 := 0#32
  let v4043 : BitVec 1 := Scalar.cmpi .slt c16384_i32_1552 c0_i32_1556
  let v4044 : BitVec 32 := Scalar.extui v4043
  let v4045 : BitVec 32 := Scalar.subi v4042 v4044
  let v4046 : BitVec 1 := Scalar.cmpi .ne v4040 v4045
  let v4047 : BitVec 32 := Scalar.remsi v4016 c16384_i32_1552
  let c0_i32_1557 : BitVec 32 := 0#32
  let v4048 : BitVec 1 := Scalar.cmpi .ne v4047 c0_i32_1557
  let v4049 : BitVec 1 := Scalar.andi v4046 v4048
  let v4035 : BitVec 32 := Scalar.divsi v4016 c16384_i32_1552
  let c1_i32_1558 : BitVec 32 := 1#32
  let v4050 : BitVec 32 := Scalar.subi v4035 c1_i32_1558
  let v4051 : BitVec 32 := Scalar.select v4049 v4050 v4035
  let c16384_i32_1559 : BitVec 32 := 16384#32
  let v4052 : BitVec 32 := Scalar.muli v4051 c16384_i32_1559
  let v4053 : BitVec 32 := Scalar.subi v4016 v4052
  let c0_i32_1561 : BitVec 32 := 0#32
  let v4055 : BitVec 1 := Scalar.cmpi .sgt v4053 c0_i32_1561
  let v4056 : BitVec 32 := Scalar.extui v4055
  let c0_i32_1562 : BitVec 32 := 0#32
  let v4057 : BitVec 1 := Scalar.cmpi .slt v4053 c0_i32_1562
  let v4058 : BitVec 32 := Scalar.extui v4057
  let v4059 : BitVec 32 := Scalar.subi v4056 v4058
  let c128_i32_1560 : BitVec 32 := 128#32
  let c0_i32_1563 : BitVec 32 := 0#32
  let v4060 : BitVec 1 := Scalar.cmpi .sgt c128_i32_1560 c0_i32_1563
  let v4061 : BitVec 32 := Scalar.extui v4060
  let c0_i32_1564 : BitVec 32 := 0#32
  let v4062 : BitVec 1 := Scalar.cmpi .slt c128_i32_1560 c0_i32_1564
  let v4063 : BitVec 32 := Scalar.extui v4062
  let v4064 : BitVec 32 := Scalar.subi v4061 v4063
  let v4065 : BitVec 1 := Scalar.cmpi .ne v4059 v4064
  let v4066 : BitVec 32 := Scalar.remsi v4053 c128_i32_1560
  let c0_i32_1565 : BitVec 32 := 0#32
  let v4067 : BitVec 1 := Scalar.cmpi .ne v4066 c0_i32_1565
  let v4068 : BitVec 1 := Scalar.andi v4065 v4067
  let v4054 : BitVec 32 := Scalar.divsi v4053 c128_i32_1560
  let c1_i32_1566 : BitVec 32 := 1#32
  let v4069 : BitVec 32 := Scalar.subi v4054 c1_i32_1566
  let v4070 : BitVec 32 := Scalar.select v4068 v4069 v4054
  let c127_i32_1567 : BitVec 32 := 127#32
  let v4071 : BitVec 32 := Scalar.minsi v4070 c127_i32_1567
  let v4072 : BitVec 32 := Scalar.addi v191 v4071
  let v4073 : Index := Scalar.indexCast v4072
  let c0_1568 : Index := 0#32
  let c0_1569 : Index := 0#32
  ![v4073.toNat, 0, 0]

def k0_chk20 (i : grid0.Coords) (v4016 : BitVec 32) : Prop :=
  (∀ a, (k0_off23 i v4016) a + S1x128x128.size a ≤ S256x128x128.size a)
theorem k0_off23_inb : ∀ (i : grid0.Coords) (v4016 : BitVec 32) (k0_hw20 : k0_chk20 i v4016), ∀ a, (k0_off23 i v4016) a + S1x128x128.size a ≤ S256x128x128.size a := fun i v4016 k0_hw20 => k0_hw20

def k0_off24 (i : grid0.Coords) (v4216 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_1630 : BitVec 32 := 0#32
  let v4236 : BitVec 1 := Scalar.cmpi .sgt v4216 c0_i32_1630
  let v4237 : BitVec 32 := Scalar.extui v4236
  let c0_i32_1631 : BitVec 32 := 0#32
  let v4238 : BitVec 1 := Scalar.cmpi .slt v4216 c0_i32_1631
  let v4239 : BitVec 32 := Scalar.extui v4238
  let v4240 : BitVec 32 := Scalar.subi v4237 v4239
  let c16384_i32_1629 : BitVec 32 := 16384#32
  let c0_i32_1632 : BitVec 32 := 0#32
  let v4241 : BitVec 1 := Scalar.cmpi .sgt c16384_i32_1629 c0_i32_1632
  let v4242 : BitVec 32 := Scalar.extui v4241
  let c0_i32_1633 : BitVec 32 := 0#32
  let v4243 : BitVec 1 := Scalar.cmpi .slt c16384_i32_1629 c0_i32_1633
  let v4244 : BitVec 32 := Scalar.extui v4243
  let v4245 : BitVec 32 := Scalar.subi v4242 v4244
  let v4246 : BitVec 1 := Scalar.cmpi .ne v4240 v4245
  let v4247 : BitVec 32 := Scalar.remsi v4216 c16384_i32_1629
  let c0_i32_1634 : BitVec 32 := 0#32
  let v4248 : BitVec 1 := Scalar.cmpi .ne v4247 c0_i32_1634
  let v4249 : BitVec 1 := Scalar.andi v4246 v4248
  let v4235 : BitVec 32 := Scalar.divsi v4216 c16384_i32_1629
  let c1_i32_1635 : BitVec 32 := 1#32
  let v4250 : BitVec 32 := Scalar.subi v4235 c1_i32_1635
  let v4251 : BitVec 32 := Scalar.select v4249 v4250 v4235
  let c16384_i32_1636 : BitVec 32 := 16384#32
  let v4252 : BitVec 32 := Scalar.muli v4251 c16384_i32_1636
  let v4253 : BitVec 32 := Scalar.subi v4216 v4252
  let c0_i32_1638 : BitVec 32 := 0#32
  let v4255 : BitVec 1 := Scalar.cmpi .sgt v4253 c0_i32_1638
  let v4256 : BitVec 32 := Scalar.extui v4255
  let c0_i32_1639 : BitVec 32 := 0#32
  let v4257 : BitVec 1 := Scalar.cmpi .slt v4253 c0_i32_1639
  let v4258 : BitVec 32 := Scalar.extui v4257
  let v4259 : BitVec 32 := Scalar.subi v4256 v4258
  let c128_i32_1637 : BitVec 32 := 128#32
  let c0_i32_1640 : BitVec 32 := 0#32
  let v4260 : BitVec 1 := Scalar.cmpi .sgt c128_i32_1637 c0_i32_1640
  let v4261 : BitVec 32 := Scalar.extui v4260
  let c0_i32_1641 : BitVec 32 := 0#32
  let v4262 : BitVec 1 := Scalar.cmpi .slt c128_i32_1637 c0_i32_1641
  let v4263 : BitVec 32 := Scalar.extui v4262
  let v4264 : BitVec 32 := Scalar.subi v4261 v4263
  let v4265 : BitVec 1 := Scalar.cmpi .ne v4259 v4264
  let v4266 : BitVec 32 := Scalar.remsi v4253 c128_i32_1637
  let c0_i32_1642 : BitVec 32 := 0#32
  let v4267 : BitVec 1 := Scalar.cmpi .ne v4266 c0_i32_1642
  let v4268 : BitVec 1 := Scalar.andi v4265 v4267
  let v4254 : BitVec 32 := Scalar.divsi v4253 c128_i32_1637
  let c1_i32_1643 : BitVec 32 := 1#32
  let v4269 : BitVec 32 := Scalar.subi v4254 c1_i32_1643
  let v4270 : BitVec 32 := Scalar.select v4268 v4269 v4254
  let c127_i32_1644 : BitVec 32 := 127#32
  let v4271 : BitVec 32 := Scalar.minsi v4270 c127_i32_1644
  let v4272 : BitVec 32 := Scalar.addi v191 v4271
  let v4273 : Index := Scalar.indexCast v4272
  let c0_1645 : Index := 0#32
  let c0_1646 : Index := 0#32
  ![v4273.toNat, 0, 0]

def k0_chk21 (i : grid0.Coords) (v4216 : BitVec 32) : Prop :=
  (∀ a, (k0_off24 i v4216) a + S1x128x128.size a ≤ S256x128x128.size a)
theorem k0_off24_inb : ∀ (i : grid0.Coords) (v4216 : BitVec 32) (k0_hw21 : k0_chk21 i v4216), ∀ a, (k0_off24 i v4216) a + S1x128x128.size a ≤ S256x128x128.size a := fun i v4216 k0_hw21 => k0_hw21

def k0_off25 (i : grid0.Coords) (v4416 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_1707 : BitVec 32 := 0#32
  let v4436 : BitVec 1 := Scalar.cmpi .sgt v4416 c0_i32_1707
  let v4437 : BitVec 32 := Scalar.extui v4436
  let c0_i32_1708 : BitVec 32 := 0#32
  let v4438 : BitVec 1 := Scalar.cmpi .slt v4416 c0_i32_1708
  let v4439 : BitVec 32 := Scalar.extui v4438
  let v4440 : BitVec 32 := Scalar.subi v4437 v4439
  let c16384_i32_1706 : BitVec 32 := 16384#32
  let c0_i32_1709 : BitVec 32 := 0#32
  let v4441 : BitVec 1 := Scalar.cmpi .sgt c16384_i32_1706 c0_i32_1709
  let v4442 : BitVec 32 := Scalar.extui v4441
  let c0_i32_1710 : BitVec 32 := 0#32
  let v4443 : BitVec 1 := Scalar.cmpi .slt c16384_i32_1706 c0_i32_1710
  let v4444 : BitVec 32 := Scalar.extui v4443
  let v4445 : BitVec 32 := Scalar.subi v4442 v4444
  let v4446 : BitVec 1 := Scalar.cmpi .ne v4440 v4445
  let v4447 : BitVec 32 := Scalar.remsi v4416 c16384_i32_1706
  let c0_i32_1711 : BitVec 32 := 0#32
  let v4448 : BitVec 1 := Scalar.cmpi .ne v4447 c0_i32_1711
  let v4449 : BitVec 1 := Scalar.andi v4446 v4448
  let v4435 : BitVec 32 := Scalar.divsi v4416 c16384_i32_1706
  let c1_i32_1712 : BitVec 32 := 1#32
  let v4450 : BitVec 32 := Scalar.subi v4435 c1_i32_1712
  let v4451 : BitVec 32 := Scalar.select v4449 v4450 v4435
  let c16384_i32_1713 : BitVec 32 := 16384#32
  let v4452 : BitVec 32 := Scalar.muli v4451 c16384_i32_1713
  let v4453 : BitVec 32 := Scalar.subi v4416 v4452
  let c0_i32_1715 : BitVec 32 := 0#32
  let v4455 : BitVec 1 := Scalar.cmpi .sgt v4453 c0_i32_1715
  let v4456 : BitVec 32 := Scalar.extui v4455
  let c0_i32_1716 : BitVec 32 := 0#32
  let v4457 : BitVec 1 := Scalar.cmpi .slt v4453 c0_i32_1716
  let v4458 : BitVec 32 := Scalar.extui v4457
  let v4459 : BitVec 32 := Scalar.subi v4456 v4458
  let c128_i32_1714 : BitVec 32 := 128#32
  let c0_i32_1717 : BitVec 32 := 0#32
  let v4460 : BitVec 1 := Scalar.cmpi .sgt c128_i32_1714 c0_i32_1717
  let v4461 : BitVec 32 := Scalar.extui v4460
  let c0_i32_1718 : BitVec 32 := 0#32
  let v4462 : BitVec 1 := Scalar.cmpi .slt c128_i32_1714 c0_i32_1718
  let v4463 : BitVec 32 := Scalar.extui v4462
  let v4464 : BitVec 32 := Scalar.subi v4461 v4463
  let v4465 : BitVec 1 := Scalar.cmpi .ne v4459 v4464
  let v4466 : BitVec 32 := Scalar.remsi v4453 c128_i32_1714
  let c0_i32_1719 : BitVec 32 := 0#32
  let v4467 : BitVec 1 := Scalar.cmpi .ne v4466 c0_i32_1719
  let v4468 : BitVec 1 := Scalar.andi v4465 v4467
  let v4454 : BitVec 32 := Scalar.divsi v4453 c128_i32_1714
  let c1_i32_1720 : BitVec 32 := 1#32
  let v4469 : BitVec 32 := Scalar.subi v4454 c1_i32_1720
  let v4470 : BitVec 32 := Scalar.select v4468 v4469 v4454
  let c127_i32_1721 : BitVec 32 := 127#32
  let v4471 : BitVec 32 := Scalar.minsi v4470 c127_i32_1721
  let v4472 : BitVec 32 := Scalar.addi v191 v4471
  let v4473 : Index := Scalar.indexCast v4472
  let c0_1722 : Index := 0#32
  let c0_1723 : Index := 0#32
  ![v4473.toNat, 0, 0]

def k0_chk22 (i : grid0.Coords) (v4416 : BitVec 32) : Prop :=
  (∀ a, (k0_off25 i v4416) a + S1x128x128.size a ≤ S256x128x128.size a)
theorem k0_off25_inb : ∀ (i : grid0.Coords) (v4416 : BitVec 32) (k0_hw22 : k0_chk22 i v4416), ∀ a, (k0_off25 i v4416) a + S1x128x128.size a ≤ S256x128x128.size a := fun i v4416 k0_hw22 => k0_hw22

def k0_off26 (i : grid0.Coords) (v4616 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_1784 : BitVec 32 := 0#32
  let v4636 : BitVec 1 := Scalar.cmpi .sgt v4616 c0_i32_1784
  let v4637 : BitVec 32 := Scalar.extui v4636
  let c0_i32_1785 : BitVec 32 := 0#32
  let v4638 : BitVec 1 := Scalar.cmpi .slt v4616 c0_i32_1785
  let v4639 : BitVec 32 := Scalar.extui v4638
  let v4640 : BitVec 32 := Scalar.subi v4637 v4639
  let c16384_i32_1783 : BitVec 32 := 16384#32
  let c0_i32_1786 : BitVec 32 := 0#32
  let v4641 : BitVec 1 := Scalar.cmpi .sgt c16384_i32_1783 c0_i32_1786
  let v4642 : BitVec 32 := Scalar.extui v4641
  let c0_i32_1787 : BitVec 32 := 0#32
  let v4643 : BitVec 1 := Scalar.cmpi .slt c16384_i32_1783 c0_i32_1787
  let v4644 : BitVec 32 := Scalar.extui v4643
  let v4645 : BitVec 32 := Scalar.subi v4642 v4644
  let v4646 : BitVec 1 := Scalar.cmpi .ne v4640 v4645
  let v4647 : BitVec 32 := Scalar.remsi v4616 c16384_i32_1783
  let c0_i32_1788 : BitVec 32 := 0#32
  let v4648 : BitVec 1 := Scalar.cmpi .ne v4647 c0_i32_1788
  let v4649 : BitVec 1 := Scalar.andi v4646 v4648
  let v4635 : BitVec 32 := Scalar.divsi v4616 c16384_i32_1783
  let c1_i32_1789 : BitVec 32 := 1#32
  let v4650 : BitVec 32 := Scalar.subi v4635 c1_i32_1789
  let v4651 : BitVec 32 := Scalar.select v4649 v4650 v4635
  let c16384_i32_1790 : BitVec 32 := 16384#32
  let v4652 : BitVec 32 := Scalar.muli v4651 c16384_i32_1790
  let v4653 : BitVec 32 := Scalar.subi v4616 v4652
  let c0_i32_1792 : BitVec 32 := 0#32
  let v4655 : BitVec 1 := Scalar.cmpi .sgt v4653 c0_i32_1792
  let v4656 : BitVec 32 := Scalar.extui v4655
  let c0_i32_1793 : BitVec 32 := 0#32
  let v4657 : BitVec 1 := Scalar.cmpi .slt v4653 c0_i32_1793
  let v4658 : BitVec 32 := Scalar.extui v4657
  let v4659 : BitVec 32 := Scalar.subi v4656 v4658
  let c128_i32_1791 : BitVec 32 := 128#32
  let c0_i32_1794 : BitVec 32 := 0#32
  let v4660 : BitVec 1 := Scalar.cmpi .sgt c128_i32_1791 c0_i32_1794
  let v4661 : BitVec 32 := Scalar.extui v4660
  let c0_i32_1795 : BitVec 32 := 0#32
  let v4662 : BitVec 1 := Scalar.cmpi .slt c128_i32_1791 c0_i32_1795
  let v4663 : BitVec 32 := Scalar.extui v4662
  let v4664 : BitVec 32 := Scalar.subi v4661 v4663
  let v4665 : BitVec 1 := Scalar.cmpi .ne v4659 v4664
  let v4666 : BitVec 32 := Scalar.remsi v4653 c128_i32_1791
  let c0_i32_1796 : BitVec 32 := 0#32
  let v4667 : BitVec 1 := Scalar.cmpi .ne v4666 c0_i32_1796
  let v4668 : BitVec 1 := Scalar.andi v4665 v4667
  let v4654 : BitVec 32 := Scalar.divsi v4653 c128_i32_1791
  let c1_i32_1797 : BitVec 32 := 1#32
  let v4669 : BitVec 32 := Scalar.subi v4654 c1_i32_1797
  let v4670 : BitVec 32 := Scalar.select v4668 v4669 v4654
  let c127_i32_1798 : BitVec 32 := 127#32
  let v4671 : BitVec 32 := Scalar.minsi v4670 c127_i32_1798
  let v4672 : BitVec 32 := Scalar.addi v191 v4671
  let v4673 : Index := Scalar.indexCast v4672
  let c0_1799 : Index := 0#32
  let c0_1800 : Index := 0#32
  ![v4673.toNat, 0, 0]

def k0_chk23 (i : grid0.Coords) (v4616 : BitVec 32) : Prop :=
  (∀ a, (k0_off26 i v4616) a + S1x128x128.size a ≤ S256x128x128.size a)
theorem k0_off26_inb : ∀ (i : grid0.Coords) (v4616 : BitVec 32) (k0_hw23 : k0_chk23 i v4616), ∀ a, (k0_off26 i v4616) a + S1x128x128.size a ≤ S256x128x128.size a := fun i v4616 k0_hw23 => k0_hw23

def k0_off27 (i : grid0.Coords) (v4816 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_1861 : BitVec 32 := 0#32
  let v4836 : BitVec 1 := Scalar.cmpi .sgt v4816 c0_i32_1861
  let v4837 : BitVec 32 := Scalar.extui v4836
  let c0_i32_1862 : BitVec 32 := 0#32
  let v4838 : BitVec 1 := Scalar.cmpi .slt v4816 c0_i32_1862
  let v4839 : BitVec 32 := Scalar.extui v4838
  let v4840 : BitVec 32 := Scalar.subi v4837 v4839
  let c16384_i32_1860 : BitVec 32 := 16384#32
  let c0_i32_1863 : BitVec 32 := 0#32
  let v4841 : BitVec 1 := Scalar.cmpi .sgt c16384_i32_1860 c0_i32_1863
  let v4842 : BitVec 32 := Scalar.extui v4841
  let c0_i32_1864 : BitVec 32 := 0#32
  let v4843 : BitVec 1 := Scalar.cmpi .slt c16384_i32_1860 c0_i32_1864
  let v4844 : BitVec 32 := Scalar.extui v4843
  let v4845 : BitVec 32 := Scalar.subi v4842 v4844
  let v4846 : BitVec 1 := Scalar.cmpi .ne v4840 v4845
  let v4847 : BitVec 32 := Scalar.remsi v4816 c16384_i32_1860
  let c0_i32_1865 : BitVec 32 := 0#32
  let v4848 : BitVec 1 := Scalar.cmpi .ne v4847 c0_i32_1865
  let v4849 : BitVec 1 := Scalar.andi v4846 v4848
  let v4835 : BitVec 32 := Scalar.divsi v4816 c16384_i32_1860
  let c1_i32_1866 : BitVec 32 := 1#32
  let v4850 : BitVec 32 := Scalar.subi v4835 c1_i32_1866
  let v4851 : BitVec 32 := Scalar.select v4849 v4850 v4835
  let c16384_i32_1867 : BitVec 32 := 16384#32
  let v4852 : BitVec 32 := Scalar.muli v4851 c16384_i32_1867
  let v4853 : BitVec 32 := Scalar.subi v4816 v4852
  let c0_i32_1869 : BitVec 32 := 0#32
  let v4855 : BitVec 1 := Scalar.cmpi .sgt v4853 c0_i32_1869
  let v4856 : BitVec 32 := Scalar.extui v4855
  let c0_i32_1870 : BitVec 32 := 0#32
  let v4857 : BitVec 1 := Scalar.cmpi .slt v4853 c0_i32_1870
  let v4858 : BitVec 32 := Scalar.extui v4857
  let v4859 : BitVec 32 := Scalar.subi v4856 v4858
  let c128_i32_1868 : BitVec 32 := 128#32
  let c0_i32_1871 : BitVec 32 := 0#32
  let v4860 : BitVec 1 := Scalar.cmpi .sgt c128_i32_1868 c0_i32_1871
  let v4861 : BitVec 32 := Scalar.extui v4860
  let c0_i32_1872 : BitVec 32 := 0#32
  let v4862 : BitVec 1 := Scalar.cmpi .slt c128_i32_1868 c0_i32_1872
  let v4863 : BitVec 32 := Scalar.extui v4862
  let v4864 : BitVec 32 := Scalar.subi v4861 v4863
  let v4865 : BitVec 1 := Scalar.cmpi .ne v4859 v4864
  let v4866 : BitVec 32 := Scalar.remsi v4853 c128_i32_1868
  let c0_i32_1873 : BitVec 32 := 0#32
  let v4867 : BitVec 1 := Scalar.cmpi .ne v4866 c0_i32_1873
  let v4868 : BitVec 1 := Scalar.andi v4865 v4867
  let v4854 : BitVec 32 := Scalar.divsi v4853 c128_i32_1868
  let c1_i32_1874 : BitVec 32 := 1#32
  let v4869 : BitVec 32 := Scalar.subi v4854 c1_i32_1874
  let v4870 : BitVec 32 := Scalar.select v4868 v4869 v4854
  let c127_i32_1875 : BitVec 32 := 127#32
  let v4871 : BitVec 32 := Scalar.minsi v4870 c127_i32_1875
  let v4872 : BitVec 32 := Scalar.addi v191 v4871
  let v4873 : Index := Scalar.indexCast v4872
  let c0_1876 : Index := 0#32
  let c0_1877 : Index := 0#32
  ![v4873.toNat, 0, 0]

def k0_chk24 (i : grid0.Coords) (v4816 : BitVec 32) : Prop :=
  (∀ a, (k0_off27 i v4816) a + S1x128x128.size a ≤ S256x128x128.size a)
theorem k0_off27_inb : ∀ (i : grid0.Coords) (v4816 : BitVec 32) (k0_hw24 : k0_chk24 i v4816), ∀ a, (k0_off27 i v4816) a + S1x128x128.size a ≤ S256x128x128.size a := fun i v4816 k0_hw24 => k0_hw24

def k0_off28 (i : grid0.Coords) (v5016 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_1938 : BitVec 32 := 0#32
  let v5036 : BitVec 1 := Scalar.cmpi .sgt v5016 c0_i32_1938
  let v5037 : BitVec 32 := Scalar.extui v5036
  let c0_i32_1939 : BitVec 32 := 0#32
  let v5038 : BitVec 1 := Scalar.cmpi .slt v5016 c0_i32_1939
  let v5039 : BitVec 32 := Scalar.extui v5038
  let v5040 : BitVec 32 := Scalar.subi v5037 v5039
  let c16384_i32_1937 : BitVec 32 := 16384#32
  let c0_i32_1940 : BitVec 32 := 0#32
  let v5041 : BitVec 1 := Scalar.cmpi .sgt c16384_i32_1937 c0_i32_1940
  let v5042 : BitVec 32 := Scalar.extui v5041
  let c0_i32_1941 : BitVec 32 := 0#32
  let v5043 : BitVec 1 := Scalar.cmpi .slt c16384_i32_1937 c0_i32_1941
  let v5044 : BitVec 32 := Scalar.extui v5043
  let v5045 : BitVec 32 := Scalar.subi v5042 v5044
  let v5046 : BitVec 1 := Scalar.cmpi .ne v5040 v5045
  let v5047 : BitVec 32 := Scalar.remsi v5016 c16384_i32_1937
  let c0_i32_1942 : BitVec 32 := 0#32
  let v5048 : BitVec 1 := Scalar.cmpi .ne v5047 c0_i32_1942
  let v5049 : BitVec 1 := Scalar.andi v5046 v5048
  let v5035 : BitVec 32 := Scalar.divsi v5016 c16384_i32_1937
  let c1_i32_1943 : BitVec 32 := 1#32
  let v5050 : BitVec 32 := Scalar.subi v5035 c1_i32_1943
  let v5051 : BitVec 32 := Scalar.select v5049 v5050 v5035
  let c16384_i32_1944 : BitVec 32 := 16384#32
  let v5052 : BitVec 32 := Scalar.muli v5051 c16384_i32_1944
  let v5053 : BitVec 32 := Scalar.subi v5016 v5052
  let c0_i32_1946 : BitVec 32 := 0#32
  let v5055 : BitVec 1 := Scalar.cmpi .sgt v5053 c0_i32_1946
  let v5056 : BitVec 32 := Scalar.extui v5055
  let c0_i32_1947 : BitVec 32 := 0#32
  let v5057 : BitVec 1 := Scalar.cmpi .slt v5053 c0_i32_1947
  let v5058 : BitVec 32 := Scalar.extui v5057
  let v5059 : BitVec 32 := Scalar.subi v5056 v5058
  let c128_i32_1945 : BitVec 32 := 128#32
  let c0_i32_1948 : BitVec 32 := 0#32
  let v5060 : BitVec 1 := Scalar.cmpi .sgt c128_i32_1945 c0_i32_1948
  let v5061 : BitVec 32 := Scalar.extui v5060
  let c0_i32_1949 : BitVec 32 := 0#32
  let v5062 : BitVec 1 := Scalar.cmpi .slt c128_i32_1945 c0_i32_1949
  let v5063 : BitVec 32 := Scalar.extui v5062
  let v5064 : BitVec 32 := Scalar.subi v5061 v5063
  let v5065 : BitVec 1 := Scalar.cmpi .ne v5059 v5064
  let v5066 : BitVec 32 := Scalar.remsi v5053 c128_i32_1945
  let c0_i32_1950 : BitVec 32 := 0#32
  let v5067 : BitVec 1 := Scalar.cmpi .ne v5066 c0_i32_1950
  let v5068 : BitVec 1 := Scalar.andi v5065 v5067
  let v5054 : BitVec 32 := Scalar.divsi v5053 c128_i32_1945
  let c1_i32_1951 : BitVec 32 := 1#32
  let v5069 : BitVec 32 := Scalar.subi v5054 c1_i32_1951
  let v5070 : BitVec 32 := Scalar.select v5068 v5069 v5054
  let c127_i32_1952 : BitVec 32 := 127#32
  let v5071 : BitVec 32 := Scalar.minsi v5070 c127_i32_1952
  let v5072 : BitVec 32 := Scalar.addi v191 v5071
  let v5073 : Index := Scalar.indexCast v5072
  let c0_1953 : Index := 0#32
  let c0_1954 : Index := 0#32
  ![v5073.toNat, 0, 0]

def k0_chk25 (i : grid0.Coords) (v5016 : BitVec 32) : Prop :=
  (∀ a, (k0_off28 i v5016) a + S1x128x128.size a ≤ S256x128x128.size a)
theorem k0_off28_inb : ∀ (i : grid0.Coords) (v5016 : BitVec 32) (k0_hw25 : k0_chk25 i v5016), ∀ a, (k0_off28 i v5016) a + S1x128x128.size a ≤ S256x128x128.size a := fun i v5016 k0_hw25 => k0_hw25

def k0_off29 (i : grid0.Coords) (v5216 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_2015 : BitVec 32 := 0#32
  let v5236 : BitVec 1 := Scalar.cmpi .sgt v5216 c0_i32_2015
  let v5237 : BitVec 32 := Scalar.extui v5236
  let c0_i32_2016 : BitVec 32 := 0#32
  let v5238 : BitVec 1 := Scalar.cmpi .slt v5216 c0_i32_2016
  let v5239 : BitVec 32 := Scalar.extui v5238
  let v5240 : BitVec 32 := Scalar.subi v5237 v5239
  let c16384_i32_2014 : BitVec 32 := 16384#32
  let c0_i32_2017 : BitVec 32 := 0#32
  let v5241 : BitVec 1 := Scalar.cmpi .sgt c16384_i32_2014 c0_i32_2017
  let v5242 : BitVec 32 := Scalar.extui v5241
  let c0_i32_2018 : BitVec 32 := 0#32
  let v5243 : BitVec 1 := Scalar.cmpi .slt c16384_i32_2014 c0_i32_2018
  let v5244 : BitVec 32 := Scalar.extui v5243
  let v5245 : BitVec 32 := Scalar.subi v5242 v5244
  let v5246 : BitVec 1 := Scalar.cmpi .ne v5240 v5245
  let v5247 : BitVec 32 := Scalar.remsi v5216 c16384_i32_2014
  let c0_i32_2019 : BitVec 32 := 0#32
  let v5248 : BitVec 1 := Scalar.cmpi .ne v5247 c0_i32_2019
  let v5249 : BitVec 1 := Scalar.andi v5246 v5248
  let v5235 : BitVec 32 := Scalar.divsi v5216 c16384_i32_2014
  let c1_i32_2020 : BitVec 32 := 1#32
  let v5250 : BitVec 32 := Scalar.subi v5235 c1_i32_2020
  let v5251 : BitVec 32 := Scalar.select v5249 v5250 v5235
  let c16384_i32_2021 : BitVec 32 := 16384#32
  let v5252 : BitVec 32 := Scalar.muli v5251 c16384_i32_2021
  let v5253 : BitVec 32 := Scalar.subi v5216 v5252
  let c0_i32_2023 : BitVec 32 := 0#32
  let v5255 : BitVec 1 := Scalar.cmpi .sgt v5253 c0_i32_2023
  let v5256 : BitVec 32 := Scalar.extui v5255
  let c0_i32_2024 : BitVec 32 := 0#32
  let v5257 : BitVec 1 := Scalar.cmpi .slt v5253 c0_i32_2024
  let v5258 : BitVec 32 := Scalar.extui v5257
  let v5259 : BitVec 32 := Scalar.subi v5256 v5258
  let c128_i32_2022 : BitVec 32 := 128#32
  let c0_i32_2025 : BitVec 32 := 0#32
  let v5260 : BitVec 1 := Scalar.cmpi .sgt c128_i32_2022 c0_i32_2025
  let v5261 : BitVec 32 := Scalar.extui v5260
  let c0_i32_2026 : BitVec 32 := 0#32
  let v5262 : BitVec 1 := Scalar.cmpi .slt c128_i32_2022 c0_i32_2026
  let v5263 : BitVec 32 := Scalar.extui v5262
  let v5264 : BitVec 32 := Scalar.subi v5261 v5263
  let v5265 : BitVec 1 := Scalar.cmpi .ne v5259 v5264
  let v5266 : BitVec 32 := Scalar.remsi v5253 c128_i32_2022
  let c0_i32_2027 : BitVec 32 := 0#32
  let v5267 : BitVec 1 := Scalar.cmpi .ne v5266 c0_i32_2027
  let v5268 : BitVec 1 := Scalar.andi v5265 v5267
  let v5254 : BitVec 32 := Scalar.divsi v5253 c128_i32_2022
  let c1_i32_2028 : BitVec 32 := 1#32
  let v5269 : BitVec 32 := Scalar.subi v5254 c1_i32_2028
  let v5270 : BitVec 32 := Scalar.select v5268 v5269 v5254
  let c127_i32_2029 : BitVec 32 := 127#32
  let v5271 : BitVec 32 := Scalar.minsi v5270 c127_i32_2029
  let v5272 : BitVec 32 := Scalar.addi v191 v5271
  let v5273 : Index := Scalar.indexCast v5272
  let c0_2030 : Index := 0#32
  let c0_2031 : Index := 0#32
  ![v5273.toNat, 0, 0]

def k0_chk26 (i : grid0.Coords) (v5216 : BitVec 32) : Prop :=
  (∀ a, (k0_off29 i v5216) a + S1x128x128.size a ≤ S256x128x128.size a)
theorem k0_off29_inb : ∀ (i : grid0.Coords) (v5216 : BitVec 32) (k0_hw26 : k0_chk26 i v5216), ∀ a, (k0_off29 i v5216) a + S1x128x128.size a ≤ S256x128x128.size a := fun i v5216 k0_hw26 => k0_hw26

def k0_off30 (i : grid0.Coords) (v5416 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_2092 : BitVec 32 := 0#32
  let v5436 : BitVec 1 := Scalar.cmpi .sgt v5416 c0_i32_2092
  let v5437 : BitVec 32 := Scalar.extui v5436
  let c0_i32_2093 : BitVec 32 := 0#32
  let v5438 : BitVec 1 := Scalar.cmpi .slt v5416 c0_i32_2093
  let v5439 : BitVec 32 := Scalar.extui v5438
  let v5440 : BitVec 32 := Scalar.subi v5437 v5439
  let c16384_i32_2091 : BitVec 32 := 16384#32
  let c0_i32_2094 : BitVec 32 := 0#32
  let v5441 : BitVec 1 := Scalar.cmpi .sgt c16384_i32_2091 c0_i32_2094
  let v5442 : BitVec 32 := Scalar.extui v5441
  let c0_i32_2095 : BitVec 32 := 0#32
  let v5443 : BitVec 1 := Scalar.cmpi .slt c16384_i32_2091 c0_i32_2095
  let v5444 : BitVec 32 := Scalar.extui v5443
  let v5445 : BitVec 32 := Scalar.subi v5442 v5444
  let v5446 : BitVec 1 := Scalar.cmpi .ne v5440 v5445
  let v5447 : BitVec 32 := Scalar.remsi v5416 c16384_i32_2091
  let c0_i32_2096 : BitVec 32 := 0#32
  let v5448 : BitVec 1 := Scalar.cmpi .ne v5447 c0_i32_2096
  let v5449 : BitVec 1 := Scalar.andi v5446 v5448
  let v5435 : BitVec 32 := Scalar.divsi v5416 c16384_i32_2091
  let c1_i32_2097 : BitVec 32 := 1#32
  let v5450 : BitVec 32 := Scalar.subi v5435 c1_i32_2097
  let v5451 : BitVec 32 := Scalar.select v5449 v5450 v5435
  let c16384_i32_2098 : BitVec 32 := 16384#32
  let v5452 : BitVec 32 := Scalar.muli v5451 c16384_i32_2098
  let v5453 : BitVec 32 := Scalar.subi v5416 v5452
  let c0_i32_2100 : BitVec 32 := 0#32
  let v5455 : BitVec 1 := Scalar.cmpi .sgt v5453 c0_i32_2100
  let v5456 : BitVec 32 := Scalar.extui v5455
  let c0_i32_2101 : BitVec 32 := 0#32
  let v5457 : BitVec 1 := Scalar.cmpi .slt v5453 c0_i32_2101
  let v5458 : BitVec 32 := Scalar.extui v5457
  let v5459 : BitVec 32 := Scalar.subi v5456 v5458
  let c128_i32_2099 : BitVec 32 := 128#32
  let c0_i32_2102 : BitVec 32 := 0#32
  let v5460 : BitVec 1 := Scalar.cmpi .sgt c128_i32_2099 c0_i32_2102
  let v5461 : BitVec 32 := Scalar.extui v5460
  let c0_i32_2103 : BitVec 32 := 0#32
  let v5462 : BitVec 1 := Scalar.cmpi .slt c128_i32_2099 c0_i32_2103
  let v5463 : BitVec 32 := Scalar.extui v5462
  let v5464 : BitVec 32 := Scalar.subi v5461 v5463
  let v5465 : BitVec 1 := Scalar.cmpi .ne v5459 v5464
  let v5466 : BitVec 32 := Scalar.remsi v5453 c128_i32_2099
  let c0_i32_2104 : BitVec 32 := 0#32
  let v5467 : BitVec 1 := Scalar.cmpi .ne v5466 c0_i32_2104
  let v5468 : BitVec 1 := Scalar.andi v5465 v5467
  let v5454 : BitVec 32 := Scalar.divsi v5453 c128_i32_2099
  let c1_i32_2105 : BitVec 32 := 1#32
  let v5469 : BitVec 32 := Scalar.subi v5454 c1_i32_2105
  let v5470 : BitVec 32 := Scalar.select v5468 v5469 v5454
  let c127_i32_2106 : BitVec 32 := 127#32
  let v5471 : BitVec 32 := Scalar.minsi v5470 c127_i32_2106
  let v5472 : BitVec 32 := Scalar.addi v191 v5471
  let v5473 : Index := Scalar.indexCast v5472
  let c0_2107 : Index := 0#32
  let c0_2108 : Index := 0#32
  ![v5473.toNat, 0, 0]

def k0_chk27 (i : grid0.Coords) (v5416 : BitVec 32) : Prop :=
  (∀ a, (k0_off30 i v5416) a + S1x128x128.size a ≤ S256x128x128.size a)
theorem k0_off30_inb : ∀ (i : grid0.Coords) (v5416 : BitVec 32) (k0_hw27 : k0_chk27 i v5416), ∀ a, (k0_off30 i v5416) a + S1x128x128.size a ≤ S256x128x128.size a := fun i v5416 k0_hw27 => k0_hw27

def k0_off31 (i : grid0.Coords) (v5616 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_2169 : BitVec 32 := 0#32
  let v5636 : BitVec 1 := Scalar.cmpi .sgt v5616 c0_i32_2169
  let v5637 : BitVec 32 := Scalar.extui v5636
  let c0_i32_2170 : BitVec 32 := 0#32
  let v5638 : BitVec 1 := Scalar.cmpi .slt v5616 c0_i32_2170
  let v5639 : BitVec 32 := Scalar.extui v5638
  let v5640 : BitVec 32 := Scalar.subi v5637 v5639
  let c16384_i32_2168 : BitVec 32 := 16384#32
  let c0_i32_2171 : BitVec 32 := 0#32
  let v5641 : BitVec 1 := Scalar.cmpi .sgt c16384_i32_2168 c0_i32_2171
  let v5642 : BitVec 32 := Scalar.extui v5641
  let c0_i32_2172 : BitVec 32 := 0#32
  let v5643 : BitVec 1 := Scalar.cmpi .slt c16384_i32_2168 c0_i32_2172
  let v5644 : BitVec 32 := Scalar.extui v5643
  let v5645 : BitVec 32 := Scalar.subi v5642 v5644
  let v5646 : BitVec 1 := Scalar.cmpi .ne v5640 v5645
  let v5647 : BitVec 32 := Scalar.remsi v5616 c16384_i32_2168
  let c0_i32_2173 : BitVec 32 := 0#32
  let v5648 : BitVec 1 := Scalar.cmpi .ne v5647 c0_i32_2173
  let v5649 : BitVec 1 := Scalar.andi v5646 v5648
  let v5635 : BitVec 32 := Scalar.divsi v5616 c16384_i32_2168
  let c1_i32_2174 : BitVec 32 := 1#32
  let v5650 : BitVec 32 := Scalar.subi v5635 c1_i32_2174
  let v5651 : BitVec 32 := Scalar.select v5649 v5650 v5635
  let c16384_i32_2175 : BitVec 32 := 16384#32
  let v5652 : BitVec 32 := Scalar.muli v5651 c16384_i32_2175
  let v5653 : BitVec 32 := Scalar.subi v5616 v5652
  let c0_i32_2177 : BitVec 32 := 0#32
  let v5655 : BitVec 1 := Scalar.cmpi .sgt v5653 c0_i32_2177
  let v5656 : BitVec 32 := Scalar.extui v5655
  let c0_i32_2178 : BitVec 32 := 0#32
  let v5657 : BitVec 1 := Scalar.cmpi .slt v5653 c0_i32_2178
  let v5658 : BitVec 32 := Scalar.extui v5657
  let v5659 : BitVec 32 := Scalar.subi v5656 v5658
  let c128_i32_2176 : BitVec 32 := 128#32
  let c0_i32_2179 : BitVec 32 := 0#32
  let v5660 : BitVec 1 := Scalar.cmpi .sgt c128_i32_2176 c0_i32_2179
  let v5661 : BitVec 32 := Scalar.extui v5660
  let c0_i32_2180 : BitVec 32 := 0#32
  let v5662 : BitVec 1 := Scalar.cmpi .slt c128_i32_2176 c0_i32_2180
  let v5663 : BitVec 32 := Scalar.extui v5662
  let v5664 : BitVec 32 := Scalar.subi v5661 v5663
  let v5665 : BitVec 1 := Scalar.cmpi .ne v5659 v5664
  let v5666 : BitVec 32 := Scalar.remsi v5653 c128_i32_2176
  let c0_i32_2181 : BitVec 32 := 0#32
  let v5667 : BitVec 1 := Scalar.cmpi .ne v5666 c0_i32_2181
  let v5668 : BitVec 1 := Scalar.andi v5665 v5667
  let v5654 : BitVec 32 := Scalar.divsi v5653 c128_i32_2176
  let c1_i32_2182 : BitVec 32 := 1#32
  let v5669 : BitVec 32 := Scalar.subi v5654 c1_i32_2182
  let v5670 : BitVec 32 := Scalar.select v5668 v5669 v5654
  let c127_i32_2183 : BitVec 32 := 127#32
  let v5671 : BitVec 32 := Scalar.minsi v5670 c127_i32_2183
  let v5672 : BitVec 32 := Scalar.addi v191 v5671
  let v5673 : Index := Scalar.indexCast v5672
  let c0_2184 : Index := 0#32
  let c0_2185 : Index := 0#32
  ![v5673.toNat, 0, 0]

def k0_chk28 (i : grid0.Coords) (v5616 : BitVec 32) : Prop :=
  (∀ a, (k0_off31 i v5616) a + S1x128x128.size a ≤ S256x128x128.size a)
theorem k0_off31_inb : ∀ (i : grid0.Coords) (v5616 : BitVec 32) (k0_hw28 : k0_chk28 i v5616), ∀ a, (k0_off31 i v5616) a + S1x128x128.size a ≤ S256x128x128.size a := fun i v5616 k0_hw28 => k0_hw28

def k0_off32 (i : grid0.Coords) (v5816 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_2246 : BitVec 32 := 0#32
  let v5836 : BitVec 1 := Scalar.cmpi .sgt v5816 c0_i32_2246
  let v5837 : BitVec 32 := Scalar.extui v5836
  let c0_i32_2247 : BitVec 32 := 0#32
  let v5838 : BitVec 1 := Scalar.cmpi .slt v5816 c0_i32_2247
  let v5839 : BitVec 32 := Scalar.extui v5838
  let v5840 : BitVec 32 := Scalar.subi v5837 v5839
  let c16384_i32_2245 : BitVec 32 := 16384#32
  let c0_i32_2248 : BitVec 32 := 0#32
  let v5841 : BitVec 1 := Scalar.cmpi .sgt c16384_i32_2245 c0_i32_2248
  let v5842 : BitVec 32 := Scalar.extui v5841
  let c0_i32_2249 : BitVec 32 := 0#32
  let v5843 : BitVec 1 := Scalar.cmpi .slt c16384_i32_2245 c0_i32_2249
  let v5844 : BitVec 32 := Scalar.extui v5843
  let v5845 : BitVec 32 := Scalar.subi v5842 v5844
  let v5846 : BitVec 1 := Scalar.cmpi .ne v5840 v5845
  let v5847 : BitVec 32 := Scalar.remsi v5816 c16384_i32_2245
  let c0_i32_2250 : BitVec 32 := 0#32
  let v5848 : BitVec 1 := Scalar.cmpi .ne v5847 c0_i32_2250
  let v5849 : BitVec 1 := Scalar.andi v5846 v5848
  let v5835 : BitVec 32 := Scalar.divsi v5816 c16384_i32_2245
  let c1_i32_2251 : BitVec 32 := 1#32
  let v5850 : BitVec 32 := Scalar.subi v5835 c1_i32_2251
  let v5851 : BitVec 32 := Scalar.select v5849 v5850 v5835
  let c16384_i32_2252 : BitVec 32 := 16384#32
  let v5852 : BitVec 32 := Scalar.muli v5851 c16384_i32_2252
  let v5853 : BitVec 32 := Scalar.subi v5816 v5852
  let c0_i32_2254 : BitVec 32 := 0#32
  let v5855 : BitVec 1 := Scalar.cmpi .sgt v5853 c0_i32_2254
  let v5856 : BitVec 32 := Scalar.extui v5855
  let c0_i32_2255 : BitVec 32 := 0#32
  let v5857 : BitVec 1 := Scalar.cmpi .slt v5853 c0_i32_2255
  let v5858 : BitVec 32 := Scalar.extui v5857
  let v5859 : BitVec 32 := Scalar.subi v5856 v5858
  let c128_i32_2253 : BitVec 32 := 128#32
  let c0_i32_2256 : BitVec 32 := 0#32
  let v5860 : BitVec 1 := Scalar.cmpi .sgt c128_i32_2253 c0_i32_2256
  let v5861 : BitVec 32 := Scalar.extui v5860
  let c0_i32_2257 : BitVec 32 := 0#32
  let v5862 : BitVec 1 := Scalar.cmpi .slt c128_i32_2253 c0_i32_2257
  let v5863 : BitVec 32 := Scalar.extui v5862
  let v5864 : BitVec 32 := Scalar.subi v5861 v5863
  let v5865 : BitVec 1 := Scalar.cmpi .ne v5859 v5864
  let v5866 : BitVec 32 := Scalar.remsi v5853 c128_i32_2253
  let c0_i32_2258 : BitVec 32 := 0#32
  let v5867 : BitVec 1 := Scalar.cmpi .ne v5866 c0_i32_2258
  let v5868 : BitVec 1 := Scalar.andi v5865 v5867
  let v5854 : BitVec 32 := Scalar.divsi v5853 c128_i32_2253
  let c1_i32_2259 : BitVec 32 := 1#32
  let v5869 : BitVec 32 := Scalar.subi v5854 c1_i32_2259
  let v5870 : BitVec 32 := Scalar.select v5868 v5869 v5854
  let c127_i32_2260 : BitVec 32 := 127#32
  let v5871 : BitVec 32 := Scalar.minsi v5870 c127_i32_2260
  let v5872 : BitVec 32 := Scalar.addi v191 v5871
  let v5873 : Index := Scalar.indexCast v5872
  let c0_2261 : Index := 0#32
  let c0_2262 : Index := 0#32
  ![v5873.toNat, 0, 0]

def k0_chk29 (i : grid0.Coords) (v5816 : BitVec 32) : Prop :=
  (∀ a, (k0_off32 i v5816) a + S1x128x128.size a ≤ S256x128x128.size a)
theorem k0_off32_inb : ∀ (i : grid0.Coords) (v5816 : BitVec 32) (k0_hw29 : k0_chk29 i v5816), ∀ a, (k0_off32 i v5816) a + S1x128x128.size a ≤ S256x128x128.size a := fun i v5816 k0_hw29 => k0_hw29

def k0_off33 (i : grid0.Coords) (v6016 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_2323 : BitVec 32 := 0#32
  let v6036 : BitVec 1 := Scalar.cmpi .sgt v6016 c0_i32_2323
  let v6037 : BitVec 32 := Scalar.extui v6036
  let c0_i32_2324 : BitVec 32 := 0#32
  let v6038 : BitVec 1 := Scalar.cmpi .slt v6016 c0_i32_2324
  let v6039 : BitVec 32 := Scalar.extui v6038
  let v6040 : BitVec 32 := Scalar.subi v6037 v6039
  let c16384_i32_2322 : BitVec 32 := 16384#32
  let c0_i32_2325 : BitVec 32 := 0#32
  let v6041 : BitVec 1 := Scalar.cmpi .sgt c16384_i32_2322 c0_i32_2325
  let v6042 : BitVec 32 := Scalar.extui v6041
  let c0_i32_2326 : BitVec 32 := 0#32
  let v6043 : BitVec 1 := Scalar.cmpi .slt c16384_i32_2322 c0_i32_2326
  let v6044 : BitVec 32 := Scalar.extui v6043
  let v6045 : BitVec 32 := Scalar.subi v6042 v6044
  let v6046 : BitVec 1 := Scalar.cmpi .ne v6040 v6045
  let v6047 : BitVec 32 := Scalar.remsi v6016 c16384_i32_2322
  let c0_i32_2327 : BitVec 32 := 0#32
  let v6048 : BitVec 1 := Scalar.cmpi .ne v6047 c0_i32_2327
  let v6049 : BitVec 1 := Scalar.andi v6046 v6048
  let v6035 : BitVec 32 := Scalar.divsi v6016 c16384_i32_2322
  let c1_i32_2328 : BitVec 32 := 1#32
  let v6050 : BitVec 32 := Scalar.subi v6035 c1_i32_2328
  let v6051 : BitVec 32 := Scalar.select v6049 v6050 v6035
  let c16384_i32_2329 : BitVec 32 := 16384#32
  let v6052 : BitVec 32 := Scalar.muli v6051 c16384_i32_2329
  let v6053 : BitVec 32 := Scalar.subi v6016 v6052
  let c0_i32_2331 : BitVec 32 := 0#32
  let v6055 : BitVec 1 := Scalar.cmpi .sgt v6053 c0_i32_2331
  let v6056 : BitVec 32 := Scalar.extui v6055
  let c0_i32_2332 : BitVec 32 := 0#32
  let v6057 : BitVec 1 := Scalar.cmpi .slt v6053 c0_i32_2332
  let v6058 : BitVec 32 := Scalar.extui v6057
  let v6059 : BitVec 32 := Scalar.subi v6056 v6058
  let c128_i32_2330 : BitVec 32 := 128#32
  let c0_i32_2333 : BitVec 32 := 0#32
  let v6060 : BitVec 1 := Scalar.cmpi .sgt c128_i32_2330 c0_i32_2333
  let v6061 : BitVec 32 := Scalar.extui v6060
  let c0_i32_2334 : BitVec 32 := 0#32
  let v6062 : BitVec 1 := Scalar.cmpi .slt c128_i32_2330 c0_i32_2334
  let v6063 : BitVec 32 := Scalar.extui v6062
  let v6064 : BitVec 32 := Scalar.subi v6061 v6063
  let v6065 : BitVec 1 := Scalar.cmpi .ne v6059 v6064
  let v6066 : BitVec 32 := Scalar.remsi v6053 c128_i32_2330
  let c0_i32_2335 : BitVec 32 := 0#32
  let v6067 : BitVec 1 := Scalar.cmpi .ne v6066 c0_i32_2335
  let v6068 : BitVec 1 := Scalar.andi v6065 v6067
  let v6054 : BitVec 32 := Scalar.divsi v6053 c128_i32_2330
  let c1_i32_2336 : BitVec 32 := 1#32
  let v6069 : BitVec 32 := Scalar.subi v6054 c1_i32_2336
  let v6070 : BitVec 32 := Scalar.select v6068 v6069 v6054
  let c127_i32_2337 : BitVec 32 := 127#32
  let v6071 : BitVec 32 := Scalar.minsi v6070 c127_i32_2337
  let v6072 : BitVec 32 := Scalar.addi v191 v6071
  let v6073 : Index := Scalar.indexCast v6072
  let c0_2338 : Index := 0#32
  let c0_2339 : Index := 0#32
  ![v6073.toNat, 0, 0]

def k0_chk30 (i : grid0.Coords) (v6016 : BitVec 32) : Prop :=
  (∀ a, (k0_off33 i v6016) a + S1x128x128.size a ≤ S256x128x128.size a)
theorem k0_off33_inb : ∀ (i : grid0.Coords) (v6016 : BitVec 32) (k0_hw30 : k0_chk30 i v6016), ∀ a, (k0_off33 i v6016) a + S1x128x128.size a ≤ S256x128x128.size a := fun i v6016 k0_hw30 => k0_hw30

def k0_off34 (i : grid0.Coords) (v6216 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_2400 : BitVec 32 := 0#32
  let v6236 : BitVec 1 := Scalar.cmpi .sgt v6216 c0_i32_2400
  let v6237 : BitVec 32 := Scalar.extui v6236
  let c0_i32_2401 : BitVec 32 := 0#32
  let v6238 : BitVec 1 := Scalar.cmpi .slt v6216 c0_i32_2401
  let v6239 : BitVec 32 := Scalar.extui v6238
  let v6240 : BitVec 32 := Scalar.subi v6237 v6239
  let c16384_i32_2399 : BitVec 32 := 16384#32
  let c0_i32_2402 : BitVec 32 := 0#32
  let v6241 : BitVec 1 := Scalar.cmpi .sgt c16384_i32_2399 c0_i32_2402
  let v6242 : BitVec 32 := Scalar.extui v6241
  let c0_i32_2403 : BitVec 32 := 0#32
  let v6243 : BitVec 1 := Scalar.cmpi .slt c16384_i32_2399 c0_i32_2403
  let v6244 : BitVec 32 := Scalar.extui v6243
  let v6245 : BitVec 32 := Scalar.subi v6242 v6244
  let v6246 : BitVec 1 := Scalar.cmpi .ne v6240 v6245
  let v6247 : BitVec 32 := Scalar.remsi v6216 c16384_i32_2399
  let c0_i32_2404 : BitVec 32 := 0#32
  let v6248 : BitVec 1 := Scalar.cmpi .ne v6247 c0_i32_2404
  let v6249 : BitVec 1 := Scalar.andi v6246 v6248
  let v6235 : BitVec 32 := Scalar.divsi v6216 c16384_i32_2399
  let c1_i32_2405 : BitVec 32 := 1#32
  let v6250 : BitVec 32 := Scalar.subi v6235 c1_i32_2405
  let v6251 : BitVec 32 := Scalar.select v6249 v6250 v6235
  let c16384_i32_2406 : BitVec 32 := 16384#32
  let v6252 : BitVec 32 := Scalar.muli v6251 c16384_i32_2406
  let v6253 : BitVec 32 := Scalar.subi v6216 v6252
  let c0_i32_2408 : BitVec 32 := 0#32
  let v6255 : BitVec 1 := Scalar.cmpi .sgt v6253 c0_i32_2408
  let v6256 : BitVec 32 := Scalar.extui v6255
  let c0_i32_2409 : BitVec 32 := 0#32
  let v6257 : BitVec 1 := Scalar.cmpi .slt v6253 c0_i32_2409
  let v6258 : BitVec 32 := Scalar.extui v6257
  let v6259 : BitVec 32 := Scalar.subi v6256 v6258
  let c128_i32_2407 : BitVec 32 := 128#32
  let c0_i32_2410 : BitVec 32 := 0#32
  let v6260 : BitVec 1 := Scalar.cmpi .sgt c128_i32_2407 c0_i32_2410
  let v6261 : BitVec 32 := Scalar.extui v6260
  let c0_i32_2411 : BitVec 32 := 0#32
  let v6262 : BitVec 1 := Scalar.cmpi .slt c128_i32_2407 c0_i32_2411
  let v6263 : BitVec 32 := Scalar.extui v6262
  let v6264 : BitVec 32 := Scalar.subi v6261 v6263
  let v6265 : BitVec 1 := Scalar.cmpi .ne v6259 v6264
  let v6266 : BitVec 32 := Scalar.remsi v6253 c128_i32_2407
  let c0_i32_2412 : BitVec 32 := 0#32
  let v6267 : BitVec 1 := Scalar.cmpi .ne v6266 c0_i32_2412
  let v6268 : BitVec 1 := Scalar.andi v6265 v6267
  let v6254 : BitVec 32 := Scalar.divsi v6253 c128_i32_2407
  let c1_i32_2413 : BitVec 32 := 1#32
  let v6269 : BitVec 32 := Scalar.subi v6254 c1_i32_2413
  let v6270 : BitVec 32 := Scalar.select v6268 v6269 v6254
  let c127_i32_2414 : BitVec 32 := 127#32
  let v6271 : BitVec 32 := Scalar.minsi v6270 c127_i32_2414
  let v6272 : BitVec 32 := Scalar.addi v191 v6271
  let v6273 : Index := Scalar.indexCast v6272
  let c0_2415 : Index := 0#32
  let c0_2416 : Index := 0#32
  ![v6273.toNat, 0, 0]

def k0_chk31 (i : grid0.Coords) (v6216 : BitVec 32) : Prop :=
  (∀ a, (k0_off34 i v6216) a + S1x128x128.size a ≤ S256x128x128.size a)
theorem k0_off34_inb : ∀ (i : grid0.Coords) (v6216 : BitVec 32) (k0_hw31 : k0_chk31 i v6216), ∀ a, (k0_off34 i v6216) a + S1x128x128.size a ≤ S256x128x128.size a := fun i v6216 k0_hw31 => k0_hw31

def k0_off35 (i : grid0.Coords) (v6416 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_2477 : BitVec 32 := 0#32
  let v6436 : BitVec 1 := Scalar.cmpi .sgt v6416 c0_i32_2477
  let v6437 : BitVec 32 := Scalar.extui v6436
  let c0_i32_2478 : BitVec 32 := 0#32
  let v6438 : BitVec 1 := Scalar.cmpi .slt v6416 c0_i32_2478
  let v6439 : BitVec 32 := Scalar.extui v6438
  let v6440 : BitVec 32 := Scalar.subi v6437 v6439
  let c16384_i32_2476 : BitVec 32 := 16384#32
  let c0_i32_2479 : BitVec 32 := 0#32
  let v6441 : BitVec 1 := Scalar.cmpi .sgt c16384_i32_2476 c0_i32_2479
  let v6442 : BitVec 32 := Scalar.extui v6441
  let c0_i32_2480 : BitVec 32 := 0#32
  let v6443 : BitVec 1 := Scalar.cmpi .slt c16384_i32_2476 c0_i32_2480
  let v6444 : BitVec 32 := Scalar.extui v6443
  let v6445 : BitVec 32 := Scalar.subi v6442 v6444
  let v6446 : BitVec 1 := Scalar.cmpi .ne v6440 v6445
  let v6447 : BitVec 32 := Scalar.remsi v6416 c16384_i32_2476
  let c0_i32_2481 : BitVec 32 := 0#32
  let v6448 : BitVec 1 := Scalar.cmpi .ne v6447 c0_i32_2481
  let v6449 : BitVec 1 := Scalar.andi v6446 v6448
  let v6435 : BitVec 32 := Scalar.divsi v6416 c16384_i32_2476
  let c1_i32_2482 : BitVec 32 := 1#32
  let v6450 : BitVec 32 := Scalar.subi v6435 c1_i32_2482
  let v6451 : BitVec 32 := Scalar.select v6449 v6450 v6435
  let c16384_i32_2483 : BitVec 32 := 16384#32
  let v6452 : BitVec 32 := Scalar.muli v6451 c16384_i32_2483
  let v6453 : BitVec 32 := Scalar.subi v6416 v6452
  let c0_i32_2485 : BitVec 32 := 0#32
  let v6455 : BitVec 1 := Scalar.cmpi .sgt v6453 c0_i32_2485
  let v6456 : BitVec 32 := Scalar.extui v6455
  let c0_i32_2486 : BitVec 32 := 0#32
  let v6457 : BitVec 1 := Scalar.cmpi .slt v6453 c0_i32_2486
  let v6458 : BitVec 32 := Scalar.extui v6457
  let v6459 : BitVec 32 := Scalar.subi v6456 v6458
  let c128_i32_2484 : BitVec 32 := 128#32
  let c0_i32_2487 : BitVec 32 := 0#32
  let v6460 : BitVec 1 := Scalar.cmpi .sgt c128_i32_2484 c0_i32_2487
  let v6461 : BitVec 32 := Scalar.extui v6460
  let c0_i32_2488 : BitVec 32 := 0#32
  let v6462 : BitVec 1 := Scalar.cmpi .slt c128_i32_2484 c0_i32_2488
  let v6463 : BitVec 32 := Scalar.extui v6462
  let v6464 : BitVec 32 := Scalar.subi v6461 v6463
  let v6465 : BitVec 1 := Scalar.cmpi .ne v6459 v6464
  let v6466 : BitVec 32 := Scalar.remsi v6453 c128_i32_2484
  let c0_i32_2489 : BitVec 32 := 0#32
  let v6467 : BitVec 1 := Scalar.cmpi .ne v6466 c0_i32_2489
  let v6468 : BitVec 1 := Scalar.andi v6465 v6467
  let v6454 : BitVec 32 := Scalar.divsi v6453 c128_i32_2484
  let c1_i32_2490 : BitVec 32 := 1#32
  let v6469 : BitVec 32 := Scalar.subi v6454 c1_i32_2490
  let v6470 : BitVec 32 := Scalar.select v6468 v6469 v6454
  let c127_i32_2491 : BitVec 32 := 127#32
  let v6471 : BitVec 32 := Scalar.minsi v6470 c127_i32_2491
  let v6472 : BitVec 32 := Scalar.addi v191 v6471
  let v6473 : Index := Scalar.indexCast v6472
  let c0_2492 : Index := 0#32
  let c0_2493 : Index := 0#32
  ![v6473.toNat, 0, 0]

def k0_chk32 (i : grid0.Coords) (v6416 : BitVec 32) : Prop :=
  (∀ a, (k0_off35 i v6416) a + S1x128x128.size a ≤ S256x128x128.size a)
theorem k0_off35_inb : ∀ (i : grid0.Coords) (v6416 : BitVec 32) (k0_hw32 : k0_chk32 i v6416), ∀ a, (k0_off35 i v6416) a + S1x128x128.size a ≤ S256x128x128.size a := fun i v6416 k0_hw32 => k0_hw32

def k0_off36 (i : grid0.Coords) (v6616 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_2554 : BitVec 32 := 0#32
  let v6636 : BitVec 1 := Scalar.cmpi .sgt v6616 c0_i32_2554
  let v6637 : BitVec 32 := Scalar.extui v6636
  let c0_i32_2555 : BitVec 32 := 0#32
  let v6638 : BitVec 1 := Scalar.cmpi .slt v6616 c0_i32_2555
  let v6639 : BitVec 32 := Scalar.extui v6638
  let v6640 : BitVec 32 := Scalar.subi v6637 v6639
  let c16384_i32_2553 : BitVec 32 := 16384#32
  let c0_i32_2556 : BitVec 32 := 0#32
  let v6641 : BitVec 1 := Scalar.cmpi .sgt c16384_i32_2553 c0_i32_2556
  let v6642 : BitVec 32 := Scalar.extui v6641
  let c0_i32_2557 : BitVec 32 := 0#32
  let v6643 : BitVec 1 := Scalar.cmpi .slt c16384_i32_2553 c0_i32_2557
  let v6644 : BitVec 32 := Scalar.extui v6643
  let v6645 : BitVec 32 := Scalar.subi v6642 v6644
  let v6646 : BitVec 1 := Scalar.cmpi .ne v6640 v6645
  let v6647 : BitVec 32 := Scalar.remsi v6616 c16384_i32_2553
  let c0_i32_2558 : BitVec 32 := 0#32
  let v6648 : BitVec 1 := Scalar.cmpi .ne v6647 c0_i32_2558
  let v6649 : BitVec 1 := Scalar.andi v6646 v6648
  let v6635 : BitVec 32 := Scalar.divsi v6616 c16384_i32_2553
  let c1_i32_2559 : BitVec 32 := 1#32
  let v6650 : BitVec 32 := Scalar.subi v6635 c1_i32_2559
  let v6651 : BitVec 32 := Scalar.select v6649 v6650 v6635
  let c16384_i32_2560 : BitVec 32 := 16384#32
  let v6652 : BitVec 32 := Scalar.muli v6651 c16384_i32_2560
  let v6653 : BitVec 32 := Scalar.subi v6616 v6652
  let c0_i32_2562 : BitVec 32 := 0#32
  let v6655 : BitVec 1 := Scalar.cmpi .sgt v6653 c0_i32_2562
  let v6656 : BitVec 32 := Scalar.extui v6655
  let c0_i32_2563 : BitVec 32 := 0#32
  let v6657 : BitVec 1 := Scalar.cmpi .slt v6653 c0_i32_2563
  let v6658 : BitVec 32 := Scalar.extui v6657
  let v6659 : BitVec 32 := Scalar.subi v6656 v6658
  let c128_i32_2561 : BitVec 32 := 128#32
  let c0_i32_2564 : BitVec 32 := 0#32
  let v6660 : BitVec 1 := Scalar.cmpi .sgt c128_i32_2561 c0_i32_2564
  let v6661 : BitVec 32 := Scalar.extui v6660
  let c0_i32_2565 : BitVec 32 := 0#32
  let v6662 : BitVec 1 := Scalar.cmpi .slt c128_i32_2561 c0_i32_2565
  let v6663 : BitVec 32 := Scalar.extui v6662
  let v6664 : BitVec 32 := Scalar.subi v6661 v6663
  let v6665 : BitVec 1 := Scalar.cmpi .ne v6659 v6664
  let v6666 : BitVec 32 := Scalar.remsi v6653 c128_i32_2561
  let c0_i32_2566 : BitVec 32 := 0#32
  let v6667 : BitVec 1 := Scalar.cmpi .ne v6666 c0_i32_2566
  let v6668 : BitVec 1 := Scalar.andi v6665 v6667
  let v6654 : BitVec 32 := Scalar.divsi v6653 c128_i32_2561
  let c1_i32_2567 : BitVec 32 := 1#32
  let v6669 : BitVec 32 := Scalar.subi v6654 c1_i32_2567
  let v6670 : BitVec 32 := Scalar.select v6668 v6669 v6654
  let c127_i32_2568 : BitVec 32 := 127#32
  let v6671 : BitVec 32 := Scalar.minsi v6670 c127_i32_2568
  let v6672 : BitVec 32 := Scalar.addi v191 v6671
  let v6673 : Index := Scalar.indexCast v6672
  let c0_2569 : Index := 0#32
  let c0_2570 : Index := 0#32
  ![v6673.toNat, 0, 0]

def k0_chk33 (i : grid0.Coords) (v6616 : BitVec 32) : Prop :=
  (∀ a, (k0_off36 i v6616) a + S1x128x128.size a ≤ S256x128x128.size a)
theorem k0_off36_inb : ∀ (i : grid0.Coords) (v6616 : BitVec 32) (k0_hw33 : k0_chk33 i v6616), ∀ a, (k0_off36 i v6616) a + S1x128x128.size a ≤ S256x128x128.size a := fun i v6616 k0_hw33 => k0_hw33

def k0_off37 (i : grid0.Coords) (v6816 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_2631 : BitVec 32 := 0#32
  let v6836 : BitVec 1 := Scalar.cmpi .sgt v6816 c0_i32_2631
  let v6837 : BitVec 32 := Scalar.extui v6836
  let c0_i32_2632 : BitVec 32 := 0#32
  let v6838 : BitVec 1 := Scalar.cmpi .slt v6816 c0_i32_2632
  let v6839 : BitVec 32 := Scalar.extui v6838
  let v6840 : BitVec 32 := Scalar.subi v6837 v6839
  let c16384_i32_2630 : BitVec 32 := 16384#32
  let c0_i32_2633 : BitVec 32 := 0#32
  let v6841 : BitVec 1 := Scalar.cmpi .sgt c16384_i32_2630 c0_i32_2633
  let v6842 : BitVec 32 := Scalar.extui v6841
  let c0_i32_2634 : BitVec 32 := 0#32
  let v6843 : BitVec 1 := Scalar.cmpi .slt c16384_i32_2630 c0_i32_2634
  let v6844 : BitVec 32 := Scalar.extui v6843
  let v6845 : BitVec 32 := Scalar.subi v6842 v6844
  let v6846 : BitVec 1 := Scalar.cmpi .ne v6840 v6845
  let v6847 : BitVec 32 := Scalar.remsi v6816 c16384_i32_2630
  let c0_i32_2635 : BitVec 32 := 0#32
  let v6848 : BitVec 1 := Scalar.cmpi .ne v6847 c0_i32_2635
  let v6849 : BitVec 1 := Scalar.andi v6846 v6848
  let v6835 : BitVec 32 := Scalar.divsi v6816 c16384_i32_2630
  let c1_i32_2636 : BitVec 32 := 1#32
  let v6850 : BitVec 32 := Scalar.subi v6835 c1_i32_2636
  let v6851 : BitVec 32 := Scalar.select v6849 v6850 v6835
  let c16384_i32_2637 : BitVec 32 := 16384#32
  let v6852 : BitVec 32 := Scalar.muli v6851 c16384_i32_2637
  let v6853 : BitVec 32 := Scalar.subi v6816 v6852
  let c0_i32_2639 : BitVec 32 := 0#32
  let v6855 : BitVec 1 := Scalar.cmpi .sgt v6853 c0_i32_2639
  let v6856 : BitVec 32 := Scalar.extui v6855
  let c0_i32_2640 : BitVec 32 := 0#32
  let v6857 : BitVec 1 := Scalar.cmpi .slt v6853 c0_i32_2640
  let v6858 : BitVec 32 := Scalar.extui v6857
  let v6859 : BitVec 32 := Scalar.subi v6856 v6858
  let c128_i32_2638 : BitVec 32 := 128#32
  let c0_i32_2641 : BitVec 32 := 0#32
  let v6860 : BitVec 1 := Scalar.cmpi .sgt c128_i32_2638 c0_i32_2641
  let v6861 : BitVec 32 := Scalar.extui v6860
  let c0_i32_2642 : BitVec 32 := 0#32
  let v6862 : BitVec 1 := Scalar.cmpi .slt c128_i32_2638 c0_i32_2642
  let v6863 : BitVec 32 := Scalar.extui v6862
  let v6864 : BitVec 32 := Scalar.subi v6861 v6863
  let v6865 : BitVec 1 := Scalar.cmpi .ne v6859 v6864
  let v6866 : BitVec 32 := Scalar.remsi v6853 c128_i32_2638
  let c0_i32_2643 : BitVec 32 := 0#32
  let v6867 : BitVec 1 := Scalar.cmpi .ne v6866 c0_i32_2643
  let v6868 : BitVec 1 := Scalar.andi v6865 v6867
  let v6854 : BitVec 32 := Scalar.divsi v6853 c128_i32_2638
  let c1_i32_2644 : BitVec 32 := 1#32
  let v6869 : BitVec 32 := Scalar.subi v6854 c1_i32_2644
  let v6870 : BitVec 32 := Scalar.select v6868 v6869 v6854
  let c127_i32_2645 : BitVec 32 := 127#32
  let v6871 : BitVec 32 := Scalar.minsi v6870 c127_i32_2645
  let v6872 : BitVec 32 := Scalar.addi v191 v6871
  let v6873 : Index := Scalar.indexCast v6872
  let c0_2646 : Index := 0#32
  let c0_2647 : Index := 0#32
  ![v6873.toNat, 0, 0]

def k0_chk34 (i : grid0.Coords) (v6816 : BitVec 32) : Prop :=
  (∀ a, (k0_off37 i v6816) a + S1x128x128.size a ≤ S256x128x128.size a)
theorem k0_off37_inb : ∀ (i : grid0.Coords) (v6816 : BitVec 32) (k0_hw34 : k0_chk34 i v6816), ∀ a, (k0_off37 i v6816) a + S1x128x128.size a ≤ S256x128x128.size a := fun i v6816 k0_hw34 => k0_hw34

def k0_off38 (i : grid0.Coords) (v7016 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_2708 : BitVec 32 := 0#32
  let v7036 : BitVec 1 := Scalar.cmpi .sgt v7016 c0_i32_2708
  let v7037 : BitVec 32 := Scalar.extui v7036
  let c0_i32_2709 : BitVec 32 := 0#32
  let v7038 : BitVec 1 := Scalar.cmpi .slt v7016 c0_i32_2709
  let v7039 : BitVec 32 := Scalar.extui v7038
  let v7040 : BitVec 32 := Scalar.subi v7037 v7039
  let c16384_i32_2707 : BitVec 32 := 16384#32
  let c0_i32_2710 : BitVec 32 := 0#32
  let v7041 : BitVec 1 := Scalar.cmpi .sgt c16384_i32_2707 c0_i32_2710
  let v7042 : BitVec 32 := Scalar.extui v7041
  let c0_i32_2711 : BitVec 32 := 0#32
  let v7043 : BitVec 1 := Scalar.cmpi .slt c16384_i32_2707 c0_i32_2711
  let v7044 : BitVec 32 := Scalar.extui v7043
  let v7045 : BitVec 32 := Scalar.subi v7042 v7044
  let v7046 : BitVec 1 := Scalar.cmpi .ne v7040 v7045
  let v7047 : BitVec 32 := Scalar.remsi v7016 c16384_i32_2707
  let c0_i32_2712 : BitVec 32 := 0#32
  let v7048 : BitVec 1 := Scalar.cmpi .ne v7047 c0_i32_2712
  let v7049 : BitVec 1 := Scalar.andi v7046 v7048
  let v7035 : BitVec 32 := Scalar.divsi v7016 c16384_i32_2707
  let c1_i32_2713 : BitVec 32 := 1#32
  let v7050 : BitVec 32 := Scalar.subi v7035 c1_i32_2713
  let v7051 : BitVec 32 := Scalar.select v7049 v7050 v7035
  let c16384_i32_2714 : BitVec 32 := 16384#32
  let v7052 : BitVec 32 := Scalar.muli v7051 c16384_i32_2714
  let v7053 : BitVec 32 := Scalar.subi v7016 v7052
  let c0_i32_2716 : BitVec 32 := 0#32
  let v7055 : BitVec 1 := Scalar.cmpi .sgt v7053 c0_i32_2716
  let v7056 : BitVec 32 := Scalar.extui v7055
  let c0_i32_2717 : BitVec 32 := 0#32
  let v7057 : BitVec 1 := Scalar.cmpi .slt v7053 c0_i32_2717
  let v7058 : BitVec 32 := Scalar.extui v7057
  let v7059 : BitVec 32 := Scalar.subi v7056 v7058
  let c128_i32_2715 : BitVec 32 := 128#32
  let c0_i32_2718 : BitVec 32 := 0#32
  let v7060 : BitVec 1 := Scalar.cmpi .sgt c128_i32_2715 c0_i32_2718
  let v7061 : BitVec 32 := Scalar.extui v7060
  let c0_i32_2719 : BitVec 32 := 0#32
  let v7062 : BitVec 1 := Scalar.cmpi .slt c128_i32_2715 c0_i32_2719
  let v7063 : BitVec 32 := Scalar.extui v7062
  let v7064 : BitVec 32 := Scalar.subi v7061 v7063
  let v7065 : BitVec 1 := Scalar.cmpi .ne v7059 v7064
  let v7066 : BitVec 32 := Scalar.remsi v7053 c128_i32_2715
  let c0_i32_2720 : BitVec 32 := 0#32
  let v7067 : BitVec 1 := Scalar.cmpi .ne v7066 c0_i32_2720
  let v7068 : BitVec 1 := Scalar.andi v7065 v7067
  let v7054 : BitVec 32 := Scalar.divsi v7053 c128_i32_2715
  let c1_i32_2721 : BitVec 32 := 1#32
  let v7069 : BitVec 32 := Scalar.subi v7054 c1_i32_2721
  let v7070 : BitVec 32 := Scalar.select v7068 v7069 v7054
  let c127_i32_2722 : BitVec 32 := 127#32
  let v7071 : BitVec 32 := Scalar.minsi v7070 c127_i32_2722
  let v7072 : BitVec 32 := Scalar.addi v191 v7071
  let v7073 : Index := Scalar.indexCast v7072
  let c0_2723 : Index := 0#32
  let c0_2724 : Index := 0#32
  ![v7073.toNat, 0, 0]

def k0_chk35 (i : grid0.Coords) (v7016 : BitVec 32) : Prop :=
  (∀ a, (k0_off38 i v7016) a + S1x128x128.size a ≤ S256x128x128.size a)
theorem k0_off38_inb : ∀ (i : grid0.Coords) (v7016 : BitVec 32) (k0_hw35 : k0_chk35 i v7016), ∀ a, (k0_off38 i v7016) a + S1x128x128.size a ≤ S256x128x128.size a := fun i v7016 k0_hw35 => k0_hw35

def k0_off39 (i : grid0.Coords) (v7216 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_2785 : BitVec 32 := 0#32
  let v7236 : BitVec 1 := Scalar.cmpi .sgt v7216 c0_i32_2785
  let v7237 : BitVec 32 := Scalar.extui v7236
  let c0_i32_2786 : BitVec 32 := 0#32
  let v7238 : BitVec 1 := Scalar.cmpi .slt v7216 c0_i32_2786
  let v7239 : BitVec 32 := Scalar.extui v7238
  let v7240 : BitVec 32 := Scalar.subi v7237 v7239
  let c16384_i32_2784 : BitVec 32 := 16384#32
  let c0_i32_2787 : BitVec 32 := 0#32
  let v7241 : BitVec 1 := Scalar.cmpi .sgt c16384_i32_2784 c0_i32_2787
  let v7242 : BitVec 32 := Scalar.extui v7241
  let c0_i32_2788 : BitVec 32 := 0#32
  let v7243 : BitVec 1 := Scalar.cmpi .slt c16384_i32_2784 c0_i32_2788
  let v7244 : BitVec 32 := Scalar.extui v7243
  let v7245 : BitVec 32 := Scalar.subi v7242 v7244
  let v7246 : BitVec 1 := Scalar.cmpi .ne v7240 v7245
  let v7247 : BitVec 32 := Scalar.remsi v7216 c16384_i32_2784
  let c0_i32_2789 : BitVec 32 := 0#32
  let v7248 : BitVec 1 := Scalar.cmpi .ne v7247 c0_i32_2789
  let v7249 : BitVec 1 := Scalar.andi v7246 v7248
  let v7235 : BitVec 32 := Scalar.divsi v7216 c16384_i32_2784
  let c1_i32_2790 : BitVec 32 := 1#32
  let v7250 : BitVec 32 := Scalar.subi v7235 c1_i32_2790
  let v7251 : BitVec 32 := Scalar.select v7249 v7250 v7235
  let c16384_i32_2791 : BitVec 32 := 16384#32
  let v7252 : BitVec 32 := Scalar.muli v7251 c16384_i32_2791
  let v7253 : BitVec 32 := Scalar.subi v7216 v7252
  let c0_i32_2793 : BitVec 32 := 0#32
  let v7255 : BitVec 1 := Scalar.cmpi .sgt v7253 c0_i32_2793
  let v7256 : BitVec 32 := Scalar.extui v7255
  let c0_i32_2794 : BitVec 32 := 0#32
  let v7257 : BitVec 1 := Scalar.cmpi .slt v7253 c0_i32_2794
  let v7258 : BitVec 32 := Scalar.extui v7257
  let v7259 : BitVec 32 := Scalar.subi v7256 v7258
  let c128_i32_2792 : BitVec 32 := 128#32
  let c0_i32_2795 : BitVec 32 := 0#32
  let v7260 : BitVec 1 := Scalar.cmpi .sgt c128_i32_2792 c0_i32_2795
  let v7261 : BitVec 32 := Scalar.extui v7260
  let c0_i32_2796 : BitVec 32 := 0#32
  let v7262 : BitVec 1 := Scalar.cmpi .slt c128_i32_2792 c0_i32_2796
  let v7263 : BitVec 32 := Scalar.extui v7262
  let v7264 : BitVec 32 := Scalar.subi v7261 v7263
  let v7265 : BitVec 1 := Scalar.cmpi .ne v7259 v7264
  let v7266 : BitVec 32 := Scalar.remsi v7253 c128_i32_2792
  let c0_i32_2797 : BitVec 32 := 0#32
  let v7267 : BitVec 1 := Scalar.cmpi .ne v7266 c0_i32_2797
  let v7268 : BitVec 1 := Scalar.andi v7265 v7267
  let v7254 : BitVec 32 := Scalar.divsi v7253 c128_i32_2792
  let c1_i32_2798 : BitVec 32 := 1#32
  let v7269 : BitVec 32 := Scalar.subi v7254 c1_i32_2798
  let v7270 : BitVec 32 := Scalar.select v7268 v7269 v7254
  let c127_i32_2799 : BitVec 32 := 127#32
  let v7271 : BitVec 32 := Scalar.minsi v7270 c127_i32_2799
  let v7272 : BitVec 32 := Scalar.addi v191 v7271
  let v7273 : Index := Scalar.indexCast v7272
  let c0_2800 : Index := 0#32
  let c0_2801 : Index := 0#32
  ![v7273.toNat, 0, 0]

def k0_chk36 (i : grid0.Coords) (v7216 : BitVec 32) : Prop :=
  (∀ a, (k0_off39 i v7216) a + S1x128x128.size a ≤ S256x128x128.size a)
theorem k0_off39_inb : ∀ (i : grid0.Coords) (v7216 : BitVec 32) (k0_hw36 : k0_chk36 i v7216), ∀ a, (k0_off39 i v7216) a + S1x128x128.size a ≤ S256x128x128.size a := fun i v7216 k0_hw36 => k0_hw36

def k0_off40 (i : grid0.Coords) (v7416 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_2862 : BitVec 32 := 0#32
  let v7436 : BitVec 1 := Scalar.cmpi .sgt v7416 c0_i32_2862
  let v7437 : BitVec 32 := Scalar.extui v7436
  let c0_i32_2863 : BitVec 32 := 0#32
  let v7438 : BitVec 1 := Scalar.cmpi .slt v7416 c0_i32_2863
  let v7439 : BitVec 32 := Scalar.extui v7438
  let v7440 : BitVec 32 := Scalar.subi v7437 v7439
  let c16384_i32_2861 : BitVec 32 := 16384#32
  let c0_i32_2864 : BitVec 32 := 0#32
  let v7441 : BitVec 1 := Scalar.cmpi .sgt c16384_i32_2861 c0_i32_2864
  let v7442 : BitVec 32 := Scalar.extui v7441
  let c0_i32_2865 : BitVec 32 := 0#32
  let v7443 : BitVec 1 := Scalar.cmpi .slt c16384_i32_2861 c0_i32_2865
  let v7444 : BitVec 32 := Scalar.extui v7443
  let v7445 : BitVec 32 := Scalar.subi v7442 v7444
  let v7446 : BitVec 1 := Scalar.cmpi .ne v7440 v7445
  let v7447 : BitVec 32 := Scalar.remsi v7416 c16384_i32_2861
  let c0_i32_2866 : BitVec 32 := 0#32
  let v7448 : BitVec 1 := Scalar.cmpi .ne v7447 c0_i32_2866
  let v7449 : BitVec 1 := Scalar.andi v7446 v7448
  let v7435 : BitVec 32 := Scalar.divsi v7416 c16384_i32_2861
  let c1_i32_2867 : BitVec 32 := 1#32
  let v7450 : BitVec 32 := Scalar.subi v7435 c1_i32_2867
  let v7451 : BitVec 32 := Scalar.select v7449 v7450 v7435
  let c16384_i32_2868 : BitVec 32 := 16384#32
  let v7452 : BitVec 32 := Scalar.muli v7451 c16384_i32_2868
  let v7453 : BitVec 32 := Scalar.subi v7416 v7452
  let c0_i32_2870 : BitVec 32 := 0#32
  let v7455 : BitVec 1 := Scalar.cmpi .sgt v7453 c0_i32_2870
  let v7456 : BitVec 32 := Scalar.extui v7455
  let c0_i32_2871 : BitVec 32 := 0#32
  let v7457 : BitVec 1 := Scalar.cmpi .slt v7453 c0_i32_2871
  let v7458 : BitVec 32 := Scalar.extui v7457
  let v7459 : BitVec 32 := Scalar.subi v7456 v7458
  let c128_i32_2869 : BitVec 32 := 128#32
  let c0_i32_2872 : BitVec 32 := 0#32
  let v7460 : BitVec 1 := Scalar.cmpi .sgt c128_i32_2869 c0_i32_2872
  let v7461 : BitVec 32 := Scalar.extui v7460
  let c0_i32_2873 : BitVec 32 := 0#32
  let v7462 : BitVec 1 := Scalar.cmpi .slt c128_i32_2869 c0_i32_2873
  let v7463 : BitVec 32 := Scalar.extui v7462
  let v7464 : BitVec 32 := Scalar.subi v7461 v7463
  let v7465 : BitVec 1 := Scalar.cmpi .ne v7459 v7464
  let v7466 : BitVec 32 := Scalar.remsi v7453 c128_i32_2869
  let c0_i32_2874 : BitVec 32 := 0#32
  let v7467 : BitVec 1 := Scalar.cmpi .ne v7466 c0_i32_2874
  let v7468 : BitVec 1 := Scalar.andi v7465 v7467
  let v7454 : BitVec 32 := Scalar.divsi v7453 c128_i32_2869
  let c1_i32_2875 : BitVec 32 := 1#32
  let v7469 : BitVec 32 := Scalar.subi v7454 c1_i32_2875
  let v7470 : BitVec 32 := Scalar.select v7468 v7469 v7454
  let c127_i32_2876 : BitVec 32 := 127#32
  let v7471 : BitVec 32 := Scalar.minsi v7470 c127_i32_2876
  let v7472 : BitVec 32 := Scalar.addi v191 v7471
  let v7473 : Index := Scalar.indexCast v7472
  let c0_2877 : Index := 0#32
  let c0_2878 : Index := 0#32
  ![v7473.toNat, 0, 0]

def k0_chk37 (i : grid0.Coords) (v7416 : BitVec 32) : Prop :=
  (∀ a, (k0_off40 i v7416) a + S1x128x128.size a ≤ S256x128x128.size a)
theorem k0_off40_inb : ∀ (i : grid0.Coords) (v7416 : BitVec 32) (k0_hw37 : k0_chk37 i v7416), ∀ a, (k0_off40 i v7416) a + S1x128x128.size a ≤ S256x128x128.size a := fun i v7416 k0_hw37 => k0_hw37

def k0_off41 (i : grid0.Coords) (v7616 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_2939 : BitVec 32 := 0#32
  let v7636 : BitVec 1 := Scalar.cmpi .sgt v7616 c0_i32_2939
  let v7637 : BitVec 32 := Scalar.extui v7636
  let c0_i32_2940 : BitVec 32 := 0#32
  let v7638 : BitVec 1 := Scalar.cmpi .slt v7616 c0_i32_2940
  let v7639 : BitVec 32 := Scalar.extui v7638
  let v7640 : BitVec 32 := Scalar.subi v7637 v7639
  let c16384_i32_2938 : BitVec 32 := 16384#32
  let c0_i32_2941 : BitVec 32 := 0#32
  let v7641 : BitVec 1 := Scalar.cmpi .sgt c16384_i32_2938 c0_i32_2941
  let v7642 : BitVec 32 := Scalar.extui v7641
  let c0_i32_2942 : BitVec 32 := 0#32
  let v7643 : BitVec 1 := Scalar.cmpi .slt c16384_i32_2938 c0_i32_2942
  let v7644 : BitVec 32 := Scalar.extui v7643
  let v7645 : BitVec 32 := Scalar.subi v7642 v7644
  let v7646 : BitVec 1 := Scalar.cmpi .ne v7640 v7645
  let v7647 : BitVec 32 := Scalar.remsi v7616 c16384_i32_2938
  let c0_i32_2943 : BitVec 32 := 0#32
  let v7648 : BitVec 1 := Scalar.cmpi .ne v7647 c0_i32_2943
  let v7649 : BitVec 1 := Scalar.andi v7646 v7648
  let v7635 : BitVec 32 := Scalar.divsi v7616 c16384_i32_2938
  let c1_i32_2944 : BitVec 32 := 1#32
  let v7650 : BitVec 32 := Scalar.subi v7635 c1_i32_2944
  let v7651 : BitVec 32 := Scalar.select v7649 v7650 v7635
  let c16384_i32_2945 : BitVec 32 := 16384#32
  let v7652 : BitVec 32 := Scalar.muli v7651 c16384_i32_2945
  let v7653 : BitVec 32 := Scalar.subi v7616 v7652
  let c0_i32_2947 : BitVec 32 := 0#32
  let v7655 : BitVec 1 := Scalar.cmpi .sgt v7653 c0_i32_2947
  let v7656 : BitVec 32 := Scalar.extui v7655
  let c0_i32_2948 : BitVec 32 := 0#32
  let v7657 : BitVec 1 := Scalar.cmpi .slt v7653 c0_i32_2948
  let v7658 : BitVec 32 := Scalar.extui v7657
  let v7659 : BitVec 32 := Scalar.subi v7656 v7658
  let c128_i32_2946 : BitVec 32 := 128#32
  let c0_i32_2949 : BitVec 32 := 0#32
  let v7660 : BitVec 1 := Scalar.cmpi .sgt c128_i32_2946 c0_i32_2949
  let v7661 : BitVec 32 := Scalar.extui v7660
  let c0_i32_2950 : BitVec 32 := 0#32
  let v7662 : BitVec 1 := Scalar.cmpi .slt c128_i32_2946 c0_i32_2950
  let v7663 : BitVec 32 := Scalar.extui v7662
  let v7664 : BitVec 32 := Scalar.subi v7661 v7663
  let v7665 : BitVec 1 := Scalar.cmpi .ne v7659 v7664
  let v7666 : BitVec 32 := Scalar.remsi v7653 c128_i32_2946
  let c0_i32_2951 : BitVec 32 := 0#32
  let v7667 : BitVec 1 := Scalar.cmpi .ne v7666 c0_i32_2951
  let v7668 : BitVec 1 := Scalar.andi v7665 v7667
  let v7654 : BitVec 32 := Scalar.divsi v7653 c128_i32_2946
  let c1_i32_2952 : BitVec 32 := 1#32
  let v7669 : BitVec 32 := Scalar.subi v7654 c1_i32_2952
  let v7670 : BitVec 32 := Scalar.select v7668 v7669 v7654
  let c127_i32_2953 : BitVec 32 := 127#32
  let v7671 : BitVec 32 := Scalar.minsi v7670 c127_i32_2953
  let v7672 : BitVec 32 := Scalar.addi v191 v7671
  let v7673 : Index := Scalar.indexCast v7672
  let c0_2954 : Index := 0#32
  let c0_2955 : Index := 0#32
  ![v7673.toNat, 0, 0]

def k0_chk38 (i : grid0.Coords) (v7616 : BitVec 32) : Prop :=
  (∀ a, (k0_off41 i v7616) a + S1x128x128.size a ≤ S256x128x128.size a)
theorem k0_off41_inb : ∀ (i : grid0.Coords) (v7616 : BitVec 32) (k0_hw38 : k0_chk38 i v7616), ∀ a, (k0_off41 i v7616) a + S1x128x128.size a ≤ S256x128x128.size a := fun i v7616 k0_hw38 => k0_hw38

def k0_off42 (i : grid0.Coords) (v7816 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_3017 : BitVec 32 := 0#32
  let v7836 : BitVec 1 := Scalar.cmpi .sgt v7816 c0_i32_3017
  let v7837 : BitVec 32 := Scalar.extui v7836
  let c0_i32_3018 : BitVec 32 := 0#32
  let v7838 : BitVec 1 := Scalar.cmpi .slt v7816 c0_i32_3018
  let v7839 : BitVec 32 := Scalar.extui v7838
  let v7840 : BitVec 32 := Scalar.subi v7837 v7839
  let c16384_i32_3016 : BitVec 32 := 16384#32
  let c0_i32_3019 : BitVec 32 := 0#32
  let v7841 : BitVec 1 := Scalar.cmpi .sgt c16384_i32_3016 c0_i32_3019
  let v7842 : BitVec 32 := Scalar.extui v7841
  let c0_i32_3020 : BitVec 32 := 0#32
  let v7843 : BitVec 1 := Scalar.cmpi .slt c16384_i32_3016 c0_i32_3020
  let v7844 : BitVec 32 := Scalar.extui v7843
  let v7845 : BitVec 32 := Scalar.subi v7842 v7844
  let v7846 : BitVec 1 := Scalar.cmpi .ne v7840 v7845
  let v7847 : BitVec 32 := Scalar.remsi v7816 c16384_i32_3016
  let c0_i32_3021 : BitVec 32 := 0#32
  let v7848 : BitVec 1 := Scalar.cmpi .ne v7847 c0_i32_3021
  let v7849 : BitVec 1 := Scalar.andi v7846 v7848
  let v7835 : BitVec 32 := Scalar.divsi v7816 c16384_i32_3016
  let c1_i32_3022 : BitVec 32 := 1#32
  let v7850 : BitVec 32 := Scalar.subi v7835 c1_i32_3022
  let v7851 : BitVec 32 := Scalar.select v7849 v7850 v7835
  let c16384_i32_3023 : BitVec 32 := 16384#32
  let v7852 : BitVec 32 := Scalar.muli v7851 c16384_i32_3023
  let v7853 : BitVec 32 := Scalar.subi v7816 v7852
  let c0_i32_3025 : BitVec 32 := 0#32
  let v7855 : BitVec 1 := Scalar.cmpi .sgt v7853 c0_i32_3025
  let v7856 : BitVec 32 := Scalar.extui v7855
  let c0_i32_3026 : BitVec 32 := 0#32
  let v7857 : BitVec 1 := Scalar.cmpi .slt v7853 c0_i32_3026
  let v7858 : BitVec 32 := Scalar.extui v7857
  let v7859 : BitVec 32 := Scalar.subi v7856 v7858
  let c128_i32_3024 : BitVec 32 := 128#32
  let c0_i32_3027 : BitVec 32 := 0#32
  let v7860 : BitVec 1 := Scalar.cmpi .sgt c128_i32_3024 c0_i32_3027
  let v7861 : BitVec 32 := Scalar.extui v7860
  let c0_i32_3028 : BitVec 32 := 0#32
  let v7862 : BitVec 1 := Scalar.cmpi .slt c128_i32_3024 c0_i32_3028
  let v7863 : BitVec 32 := Scalar.extui v7862
  let v7864 : BitVec 32 := Scalar.subi v7861 v7863
  let v7865 : BitVec 1 := Scalar.cmpi .ne v7859 v7864
  let v7866 : BitVec 32 := Scalar.remsi v7853 c128_i32_3024
  let c0_i32_3029 : BitVec 32 := 0#32
  let v7867 : BitVec 1 := Scalar.cmpi .ne v7866 c0_i32_3029
  let v7868 : BitVec 1 := Scalar.andi v7865 v7867
  let v7854 : BitVec 32 := Scalar.divsi v7853 c128_i32_3024
  let c1_i32_3030 : BitVec 32 := 1#32
  let v7869 : BitVec 32 := Scalar.subi v7854 c1_i32_3030
  let v7870 : BitVec 32 := Scalar.select v7868 v7869 v7854
  let c127_i32_3031 : BitVec 32 := 127#32
  let v7871 : BitVec 32 := Scalar.minsi v7870 c127_i32_3031
  let v7872 : BitVec 32 := Scalar.addi v191 v7871
  let v7873 : Index := Scalar.indexCast v7872
  let c0_3032 : Index := 0#32
  let c0_3033 : Index := 0#32
  ![v7873.toNat, 0, 0]

def k0_chk39 (i : grid0.Coords) (v7816 : BitVec 32) : Prop :=
  (∀ a, (k0_off42 i v7816) a + S1x128x128.size a ≤ S256x128x128.size a)
theorem k0_off42_inb : ∀ (i : grid0.Coords) (v7816 : BitVec 32) (k0_hw39 : k0_chk39 i v7816), ∀ a, (k0_off42 i v7816) a + S1x128x128.size a ≤ S256x128x128.size a := fun i v7816 k0_hw39 => k0_hw39

def k0_off43 (i : grid0.Coords) (v8016 : BitVec 32) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c128_i32_84 : BitVec 32 := 128#32
  let v191 : BitVec 32 := Scalar.muli v2 c128_i32_84
  let c0_i32_3095 : BitVec 32 := 0#32
  let v8036 : BitVec 1 := Scalar.cmpi .sgt v8016 c0_i32_3095
  let v8037 : BitVec 32 := Scalar.extui v8036
  let c0_i32_3096 : BitVec 32 := 0#32
  let v8038 : BitVec 1 := Scalar.cmpi .slt v8016 c0_i32_3096
  let v8039 : BitVec 32 := Scalar.extui v8038
  let v8040 : BitVec 32 := Scalar.subi v8037 v8039
  let c16384_i32_3094 : BitVec 32 := 16384#32
  let c0_i32_3097 : BitVec 32 := 0#32
  let v8041 : BitVec 1 := Scalar.cmpi .sgt c16384_i32_3094 c0_i32_3097
  let v8042 : BitVec 32 := Scalar.extui v8041
  let c0_i32_3098 : BitVec 32 := 0#32
  let v8043 : BitVec 1 := Scalar.cmpi .slt c16384_i32_3094 c0_i32_3098
  let v8044 : BitVec 32 := Scalar.extui v8043
  let v8045 : BitVec 32 := Scalar.subi v8042 v8044
  let v8046 : BitVec 1 := Scalar.cmpi .ne v8040 v8045
  let v8047 : BitVec 32 := Scalar.remsi v8016 c16384_i32_3094
  let c0_i32_3099 : BitVec 32 := 0#32
  let v8048 : BitVec 1 := Scalar.cmpi .ne v8047 c0_i32_3099
  let v8049 : BitVec 1 := Scalar.andi v8046 v8048
  let v8035 : BitVec 32 := Scalar.divsi v8016 c16384_i32_3094
  let c1_i32_3100 : BitVec 32 := 1#32
  let v8050 : BitVec 32 := Scalar.subi v8035 c1_i32_3100
  let v8051 : BitVec 32 := Scalar.select v8049 v8050 v8035
  let c16384_i32_3101 : BitVec 32 := 16384#32
  let v8052 : BitVec 32 := Scalar.muli v8051 c16384_i32_3101
  let v8053 : BitVec 32 := Scalar.subi v8016 v8052
  let c0_i32_3103 : BitVec 32 := 0#32
  let v8055 : BitVec 1 := Scalar.cmpi .sgt v8053 c0_i32_3103
  let v8056 : BitVec 32 := Scalar.extui v8055
  let c0_i32_3104 : BitVec 32 := 0#32
  let v8057 : BitVec 1 := Scalar.cmpi .slt v8053 c0_i32_3104
  let v8058 : BitVec 32 := Scalar.extui v8057
  let v8059 : BitVec 32 := Scalar.subi v8056 v8058
  let c128_i32_3102 : BitVec 32 := 128#32
  let c0_i32_3105 : BitVec 32 := 0#32
  let v8060 : BitVec 1 := Scalar.cmpi .sgt c128_i32_3102 c0_i32_3105
  let v8061 : BitVec 32 := Scalar.extui v8060
  let c0_i32_3106 : BitVec 32 := 0#32
  let v8062 : BitVec 1 := Scalar.cmpi .slt c128_i32_3102 c0_i32_3106
  let v8063 : BitVec 32 := Scalar.extui v8062
  let v8064 : BitVec 32 := Scalar.subi v8061 v8063
  let v8065 : BitVec 1 := Scalar.cmpi .ne v8059 v8064
  let v8066 : BitVec 32 := Scalar.remsi v8053 c128_i32_3102
  let c0_i32_3107 : BitVec 32 := 0#32
  let v8067 : BitVec 1 := Scalar.cmpi .ne v8066 c0_i32_3107
  let v8068 : BitVec 1 := Scalar.andi v8065 v8067
  let v8054 : BitVec 32 := Scalar.divsi v8053 c128_i32_3102
  let c1_i32_3108 : BitVec 32 := 1#32
  let v8069 : BitVec 32 := Scalar.subi v8054 c1_i32_3108
  let v8070 : BitVec 32 := Scalar.select v8068 v8069 v8054
  let c127_i32_3109 : BitVec 32 := 127#32
  let v8071 : BitVec 32 := Scalar.minsi v8070 c127_i32_3109
  let v8072 : BitVec 32 := Scalar.addi v191 v8071
  let v8073 : Index := Scalar.indexCast v8072
  let c0_3110 : Index := 0#32
  let c0_3111 : Index := 0#32
  ![v8073.toNat, 0, 0]

def k0_chk40 (i : grid0.Coords) (v8016 : BitVec 32) : Prop :=
  (∀ a, (k0_off43 i v8016) a + S1x128x128.size a ≤ S256x128x128.size a)
theorem k0_off43_inb : ∀ (i : grid0.Coords) (v8016 : BitVec 32) (k0_hw40 : k0_chk40 i v8016), ∀ a, (k0_off43 i v8016) a + S1x128x128.size a ≤ S256x128x128.size a := fun i v8016 k0_hw40 => k0_hw40

def cc0_transform_0 (i : grid0.Coords) : Fin 4 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

abbrev stage0_0 : Fin 2 → Memref sig .tc .vmem S1x128x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x192x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x80 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x80 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x40x1x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16x128x128x64 : Shape := ⟨4, ![16, 128, 128, 64]⟩
abbrev S3x3x64x64 : Shape := ⟨4, ![3, 3, 64, 64]⟩
abbrev S64 : Shape := ⟨1, ![64]⟩
abbrev S1x1x64x80 : Shape := ⟨4, ![1, 1, 64, 80]⟩
abbrev S80 : Shape := ⟨1, ![80]⟩
abbrev S1x1x64x2 : Shape := ⟨4, ![1, 1, 64, 2]⟩
abbrev S2 : Shape := ⟨1, ![2]⟩
abbrev S_ : Shape := ⟨0, ![]⟩
abbrev S16x130x130x64 : Shape := ⟨4, ![16, 130, 130, 64]⟩
abbrev S1x1x64x64 : Shape := ⟨4, ![1, 1, 64, 64]⟩
abbrev S64x64 : Shape := ⟨2, ![64, 64]⟩
abbrev S1x1x1x64 : Shape := ⟨4, ![1, 1, 1, 64]⟩
abbrev S64x80 : Shape := ⟨2, ![64, 80]⟩
abbrev S16x128x128x80 : Shape := ⟨4, ![16, 128, 128, 80]⟩
abbrev S1x1x1x80 : Shape := ⟨4, ![1, 1, 1, 80]⟩
abbrev S64x2 : Shape := ⟨2, ![64, 2]⟩
abbrev S16x128x128x2 : Shape := ⟨4, ![16, 128, 128, 2]⟩
abbrev S1x1x1x2 : Shape := ⟨4, ![1, 1, 1, 2]⟩
abbrev S16x80x128x128 : Shape := ⟨4, ![16, 80, 128, 128]⟩
abbrev S16x1310720 : Shape := ⟨2, ![16, 1310720]⟩
abbrev S16x40 : Shape := ⟨2, ![16, 40]⟩
abbrev S16x16384x2 : Shape := ⟨3, ![16, 16384, 2]⟩
abbrev S16x16384x1 : Shape := ⟨3, ![16, 16384, 1]⟩
abbrev S16x16384 : Shape := ⟨2, ![16, 16384]⟩
abbrev S16x40x1 : Shape := ⟨3, ![16, 40, 1]⟩
abbrev S16x40x4 : Shape := ⟨3, ![16, 40, 4]⟩
abbrev S16x40x6 : Shape := ⟨3, ![16, 40, 6]⟩

abbrev nBuf : Space → Nat
  | .hbm => 297
  | .vmem => 0
  | .smem => 0
  | _ => 0

abbrev hbmTy0_0 (i : Nat) : BufTy := match i % 128 with
  | 0 => ⟨S16x128x128x64, .f32⟩
  | 1 => ⟨S3x3x64x64, .f32⟩
  | 2 => ⟨S64, .f32⟩
  | 3 => ⟨S1x1x64x80, .f32⟩
  | 4 => ⟨S80, .f32⟩
  | 5 => ⟨S3x3x64x64, .f32⟩
  | 6 => ⟨S64, .f32⟩
  | 7 => ⟨S1x1x64x2, .f32⟩
  | 8 => ⟨S2, .f32⟩
  | 9 => ⟨S3x3x64x64, .f32⟩
  | 10 => ⟨S64, .f32⟩
  | 11 => ⟨S1x1x64x2, .f32⟩
  | 12 => ⟨S2, .f32⟩
  | 13 => ⟨S_, .i32⟩
  | 14 => ⟨S_, .f32⟩
  | 15 => ⟨S16x130x130x64, .f32⟩
  | 16 => ⟨S16x128x128x64, .f32⟩
  | 17 => ⟨S1x1x64x64, .f32⟩
  | 18 => ⟨S64x64, .f32⟩
  | 19 => ⟨S16x128x128x64, .f32⟩
  | 20 => ⟨S16x128x128x64, .f32⟩
  | 21 => ⟨S1x1x64x64, .f32⟩
  | 22 => ⟨S64x64, .f32⟩
  | 23 => ⟨S16x128x128x64, .f32⟩
  | 24 => ⟨S16x128x128x64, .f32⟩
  | 25 => ⟨S16x128x128x64, .f32⟩
  | 26 => ⟨S1x1x64x64, .f32⟩
  | 27 => ⟨S64x64, .f32⟩
  | 28 => ⟨S16x128x128x64, .f32⟩
  | 29 => ⟨S16x128x128x64, .f32⟩
  | 30 => ⟨S16x128x128x64, .f32⟩
  | 31 => ⟨S1x1x64x64, .f32⟩
  | 32 => ⟨S64x64, .f32⟩
  | 33 => ⟨S16x128x128x64, .f32⟩
  | 34 => ⟨S16x128x128x64, .f32⟩
  | 35 => ⟨S16x128x128x64, .f32⟩
  | 36 => ⟨S1x1x64x64, .f32⟩
  | 37 => ⟨S64x64, .f32⟩
  | 38 => ⟨S16x128x128x64, .f32⟩
  | 39 => ⟨S16x128x128x64, .f32⟩
  | 40 => ⟨S16x128x128x64, .f32⟩
  | 41 => ⟨S1x1x64x64, .f32⟩
  | 42 => ⟨S64x64, .f32⟩
  | 43 => ⟨S16x128x128x64, .f32⟩
  | 44 => ⟨S16x128x128x64, .f32⟩
  | 45 => ⟨S16x128x128x64, .f32⟩
  | 46 => ⟨S1x1x64x64, .f32⟩
  | 47 => ⟨S64x64, .f32⟩
  | 48 => ⟨S16x128x128x64, .f32⟩
  | 49 => ⟨S16x128x128x64, .f32⟩
  | 50 => ⟨S16x128x128x64, .f32⟩
  | 51 => ⟨S1x1x64x64, .f32⟩
  | 52 => ⟨S64x64, .f32⟩
  | 53 => ⟨S16x128x128x64, .f32⟩
  | 54 => ⟨S16x128x128x64, .f32⟩
  | 55 => ⟨S16x128x128x64, .f32⟩
  | 56 => ⟨S1x1x64x64, .f32⟩
  | 57 => ⟨S64x64, .f32⟩
  | 58 => ⟨S16x128x128x64, .f32⟩
  | 59 => ⟨S16x128x128x64, .f32⟩
  | 60 => ⟨S1x1x1x64, .f32⟩
  | 61 => ⟨S16x128x128x64, .f32⟩
  | 62 => ⟨S16x128x128x64, .f32⟩
  | 63 => ⟨S_, .f32⟩
  | 64 => ⟨S16x128x128x64, .f32⟩
  | 65 => ⟨S16x128x128x64, .f32⟩
  | 66 => ⟨S64x80, .f32⟩
  | 67 => ⟨S16x128x128x80, .f32⟩
  | 68 => ⟨S1x1x1x80, .f32⟩
  | 69 => ⟨S16x128x128x80, .f32⟩
  | 70 => ⟨S16x128x128x80, .f32⟩
  | 71 => ⟨S16x128x128x80, .f32⟩
  | 72 => ⟨S16x128x128x80, .f32⟩
  | 73 => ⟨S_, .f32⟩
  | 74 => ⟨S16x128x128x80, .f32⟩
  | 75 => ⟨S16x128x128x80, .f32⟩
  | 76 => ⟨S_, .f32⟩
  | 77 => ⟨S16x128x128x80, .f32⟩
  | 78 => ⟨S16x128x128x80, .f32⟩
  | 79 => ⟨S_, .i32⟩
  | 80 => ⟨S_, .f32⟩
  | 81 => ⟨S16x130x130x64, .f32⟩
  | 82 => ⟨S16x128x128x64, .f32⟩
  | 83 => ⟨S1x1x64x64, .f32⟩
  | 84 => ⟨S64x64, .f32⟩
  | 85 => ⟨S16x128x128x64, .f32⟩
  | 86 => ⟨S16x128x128x64, .f32⟩
  | 87 => ⟨S1x1x64x64, .f32⟩
  | 88 => ⟨S64x64, .f32⟩
  | 89 => ⟨S16x128x128x64, .f32⟩
  | 90 => ⟨S16x128x128x64, .f32⟩
  | 91 => ⟨S16x128x128x64, .f32⟩
  | 92 => ⟨S1x1x64x64, .f32⟩
  | 93 => ⟨S64x64, .f32⟩
  | 94 => ⟨S16x128x128x64, .f32⟩
  | 95 => ⟨S16x128x128x64, .f32⟩
  | 96 => ⟨S16x128x128x64, .f32⟩
  | 97 => ⟨S1x1x64x64, .f32⟩
  | 98 => ⟨S64x64, .f32⟩
  | 99 => ⟨S16x128x128x64, .f32⟩
  | 100 => ⟨S16x128x128x64, .f32⟩
  | 101 => ⟨S16x128x128x64, .f32⟩
  | 102 => ⟨S1x1x64x64, .f32⟩
  | 103 => ⟨S64x64, .f32⟩
  | 104 => ⟨S16x128x128x64, .f32⟩
  | 105 => ⟨S16x128x128x64, .f32⟩
  | 106 => ⟨S16x128x128x64, .f32⟩
  | 107 => ⟨S1x1x64x64, .f32⟩
  | 108 => ⟨S64x64, .f32⟩
  | 109 => ⟨S16x128x128x64, .f32⟩
  | 110 => ⟨S16x128x128x64, .f32⟩
  | 111 => ⟨S16x128x128x64, .f32⟩
  | 112 => ⟨S1x1x64x64, .f32⟩
  | 113 => ⟨S64x64, .f32⟩
  | 114 => ⟨S16x128x128x64, .f32⟩
  | 115 => ⟨S16x128x128x64, .f32⟩
  | 116 => ⟨S16x128x128x64, .f32⟩
  | 117 => ⟨S1x1x64x64, .f32⟩
  | 118 => ⟨S64x64, .f32⟩
  | 119 => ⟨S16x128x128x64, .f32⟩
  | 120 => ⟨S16x128x128x64, .f32⟩
  | 121 => ⟨S16x128x128x64, .f32⟩
  | 122 => ⟨S1x1x64x64, .f32⟩
  | 123 => ⟨S64x64, .f32⟩
  | 124 => ⟨S16x128x128x64, .f32⟩
  | 125 => ⟨S16x128x128x64, .f32⟩
  | 126 => ⟨S1x1x1x64, .f32⟩
  | 127 => ⟨S16x128x128x64, .f32⟩
  | _ => ⟨S16x128x128x64, .f32⟩

abbrev hbmTy0_1 (i : Nat) : BufTy := match i % 128 with
  | 0 => ⟨S16x128x128x64, .f32⟩
  | 1 => ⟨S_, .f32⟩
  | 2 => ⟨S16x128x128x64, .f32⟩
  | 3 => ⟨S16x128x128x64, .f32⟩
  | 4 => ⟨S64x2, .f32⟩
  | 5 => ⟨S16x128x128x2, .f32⟩
  | 6 => ⟨S1x1x1x2, .f32⟩
  | 7 => ⟨S16x128x128x2, .f32⟩
  | 8 => ⟨S16x128x128x2, .f32⟩
  | 9 => ⟨S_, .i32⟩
  | 10 => ⟨S_, .f32⟩
  | 11 => ⟨S16x130x130x64, .f32⟩
  | 12 => ⟨S16x128x128x64, .f32⟩
  | 13 => ⟨S1x1x64x64, .f32⟩
  | 14 => ⟨S64x64, .f32⟩
  | 15 => ⟨S16x128x128x64, .f32⟩
  | 16 => ⟨S16x128x128x64, .f32⟩
  | 17 => ⟨S1x1x64x64, .f32⟩
  | 18 => ⟨S64x64, .f32⟩
  | 19 => ⟨S16x128x128x64, .f32⟩
  | 20 => ⟨S16x128x128x64, .f32⟩
  | 21 => ⟨S16x128x128x64, .f32⟩
  | 22 => ⟨S1x1x64x64, .f32⟩
  | 23 => ⟨S64x64, .f32⟩
  | 24 => ⟨S16x128x128x64, .f32⟩
  | 25 => ⟨S16x128x128x64, .f32⟩
  | 26 => ⟨S16x128x128x64, .f32⟩
  | 27 => ⟨S1x1x64x64, .f32⟩
  | 28 => ⟨S64x64, .f32⟩
  | 29 => ⟨S16x128x128x64, .f32⟩
  | 30 => ⟨S16x128x128x64, .f32⟩
  | 31 => ⟨S16x128x128x64, .f32⟩
  | 32 => ⟨S1x1x64x64, .f32⟩
  | 33 => ⟨S64x64, .f32⟩
  | 34 => ⟨S16x128x128x64, .f32⟩
  | 35 => ⟨S16x128x128x64, .f32⟩
  | 36 => ⟨S16x128x128x64, .f32⟩
  | 37 => ⟨S1x1x64x64, .f32⟩
  | 38 => ⟨S64x64, .f32⟩
  | 39 => ⟨S16x128x128x64, .f32⟩
  | 40 => ⟨S16x128x128x64, .f32⟩
  | 41 => ⟨S16x128x128x64, .f32⟩
  | 42 => ⟨S1x1x64x64, .f32⟩
  | 43 => ⟨S64x64, .f32⟩
  | 44 => ⟨S16x128x128x64, .f32⟩
  | 45 => ⟨S16x128x128x64, .f32⟩
  | 46 => ⟨S16x128x128x64, .f32⟩
  | 47 => ⟨S1x1x64x64, .f32⟩
  | 48 => ⟨S64x64, .f32⟩
  | 49 => ⟨S16x128x128x64, .f32⟩
  | 50 => ⟨S16x128x128x64, .f32⟩
  | 51 => ⟨S16x128x128x64, .f32⟩
  | 52 => ⟨S1x1x64x64, .f32⟩
  | 53 => ⟨S64x64, .f32⟩
  | 54 => ⟨S16x128x128x64, .f32⟩
  | 55 => ⟨S16x128x128x64, .f32⟩
  | 56 => ⟨S1x1x1x64, .f32⟩
  | 57 => ⟨S16x128x128x64, .f32⟩
  | 58 => ⟨S16x128x128x64, .f32⟩
  | 59 => ⟨S_, .f32⟩
  | 60 => ⟨S16x128x128x64, .f32⟩
  | 61 => ⟨S16x128x128x64, .f32⟩
  | 62 => ⟨S64x2, .f32⟩
  | 63 => ⟨S16x128x128x2, .f32⟩
  | 64 => ⟨S1x1x1x2, .f32⟩
  | 65 => ⟨S16x128x128x2, .f32⟩
  | 66 => ⟨S16x128x128x2, .f32⟩
  | 67 => ⟨S_, .f32⟩
  | 68 => ⟨S_, .f32⟩
  | 69 => ⟨S16x128x128x80, .f32⟩
  | 70 => ⟨S16x128x128x80, .i1⟩
  | 71 => ⟨S16x128x128x80, .f32⟩
  | 72 => ⟨S16x128x128x80, .f32⟩
  | 73 => ⟨S16x80x128x128, .f32⟩
  | 74 => ⟨S16x1310720, .f32⟩
  | 75 => ⟨S16x40, .f32⟩
  | 76 => ⟨S16x40, .i32⟩
  | 77 => ⟨S16x40, .f32⟩
  | 78 => ⟨S16x40, .i32⟩
  | 79 => ⟨S_, .i32⟩
  | 80 => ⟨S16x40, .i32⟩
  | 81 => ⟨S16x40, .i32⟩
  | 82 => ⟨S16x40, .f32⟩
  | 83 => ⟨S_, .i32⟩
  | 84 => ⟨S16x40, .i32⟩
  | 85 => ⟨S16x40, .i32⟩
  | 86 => ⟨S_, .i32⟩
  | 87 => ⟨S16x40, .i32⟩
  | 88 => ⟨S16x40, .i32⟩
  | 89 => ⟨S16x40, .f32⟩
  | 90 => ⟨S_, .i32⟩
  | 91 => ⟨S16x40, .i32⟩
  | 92 => ⟨S16x40, .i32⟩
  | 93 => ⟨S16x40, .f32⟩
  | 94 => ⟨S16x16384x2, .f32⟩
  | 95 => ⟨S16x16384x2, .f32⟩
  | 96 => ⟨S16x16384x1, .f32⟩
  | 97 => ⟨S16x16384, .f32⟩
  | 98 => ⟨S_, .i32⟩
  | 99 => ⟨S16x40, .i32⟩
  | 100 => ⟨S16x40, .i1⟩
  | 101 => ⟨S_, .i32⟩
  | 102 => ⟨S16x40, .i32⟩
  | 103 => ⟨S16x40, .i32⟩
  | 104 => ⟨S16x40, .i32⟩
  | 105 => ⟨S16x40x1, .i32⟩
  | 106 => ⟨S16x40, .f32⟩
  | 107 => ⟨S16x16384x1, .f32⟩
  | 108 => ⟨S16x16384, .f32⟩
  | 109 => ⟨S_, .i32⟩
  | 110 => ⟨S16x40, .i32⟩
  | 111 => ⟨S16x40, .i1⟩
  | 112 => ⟨S_, .i32⟩
  | 113 => ⟨S16x40, .i32⟩
  | 114 => ⟨S16x40, .i32⟩
  | 115 => ⟨S16x40, .i32⟩
  | 116 => ⟨S16x40x1, .i32⟩
  | 117 => ⟨S16x40, .f32⟩
  | 118 => ⟨S16x16384x1, .f32⟩
  | 119 => ⟨S16x16384, .f32⟩
  | 120 => ⟨S_, .i32⟩
  | 121 => ⟨S16x40, .i32⟩
  | 122 => ⟨S16x40, .i1⟩
  | 123 => ⟨S_, .i32⟩
  | 124 => ⟨S16x40, .i32⟩
  | 125 => ⟨S16x40, .i32⟩
  | 126 => ⟨S16x40, .i32⟩
  | 127 => ⟨S16x40x1, .i32⟩
  | _ => ⟨S16x128x128x64, .f32⟩

abbrev hbmTy0_2 (i : Nat) : BufTy := match i % 128 with
  | 0 => ⟨S16x40, .f32⟩
  | 1 => ⟨S16x16384x1, .f32⟩
  | 2 => ⟨S16x16384, .f32⟩
  | 3 => ⟨S_, .i32⟩
  | 4 => ⟨S16x40, .i32⟩
  | 5 => ⟨S16x40, .i1⟩
  | 6 => ⟨S_, .i32⟩
  | 7 => ⟨S16x40, .i32⟩
  | 8 => ⟨S16x40, .i32⟩
  | 9 => ⟨S16x40, .i32⟩
  | 10 => ⟨S16x40x1, .i32⟩
  | 11 => ⟨S16x40, .f32⟩
  | 12 => ⟨S16x40, .f32⟩
  | 13 => ⟨S16x40, .f32⟩
  | 14 => ⟨S_, .f32⟩
  | 15 => ⟨S16x40, .f32⟩
  | 16 => ⟨S16x40, .f32⟩
  | 17 => ⟨S16x40, .f32⟩
  | 18 => ⟨S_, .f32⟩
  | 19 => ⟨S16x40, .f32⟩
  | 20 => ⟨S16x40, .f32⟩
  | 21 => ⟨S16x40, .f32⟩
  | 22 => ⟨S_, .f32⟩
  | 23 => ⟨S16x40, .f32⟩
  | 24 => ⟨S16x40, .f32⟩
  | 25 => ⟨S16x40, .f32⟩
  | 26 => ⟨S_, .f32⟩
  | 27 => ⟨S16x40, .f32⟩
  | 28 => ⟨S16x40, .f32⟩
  | 29 => ⟨S16x40, .f32⟩
  | 30 => ⟨S16x40x1, .f32⟩
  | 31 => ⟨S16x40x1, .f32⟩
  | 32 => ⟨S16x40x1, .f32⟩
  | 33 => ⟨S16x40x1, .f32⟩
  | 34 => ⟨S16x40x4, .f32⟩
  | 35 => ⟨S_, .f32⟩
  | 36 => ⟨S16x40x4, .f32⟩
  | 37 => ⟨S16x40x4, .f32⟩
  | 38 => ⟨S16x40x1, .f32⟩
  | 39 => ⟨S16x40x1, .f32⟩
  | 40 => ⟨S16x40x6, .f32⟩
  | _ => ⟨S16x128x128x64, .f32⟩

abbrev hbmTy (i : Nat) : BufTy := match i / 128 with
  | 0 => hbmTy0_0 i
  | 1 => hbmTy0_1 i
  | 2 => hbmTy0_2 i
  | _ => ⟨S16x128x128x64, .f32⟩

abbrev bufTy : (tb : Table) → Fin (tcTables nBuf tb) → BufTy
  | .hbm, ⟨i, _⟩ => hbmTy i
  | _, _ => ⟨S16x128x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_call1_cst : Ref sig .tc := ⟨.hbm, 63, rfl⟩
abbrev main_call1_v0 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst : Ref sig .tc := ⟨.hbm, 73, rfl⟩
abbrev main_v56 : Ref sig .tc := ⟨.hbm, 74, rfl⟩
abbrev main_v57 : Ref sig .tc := ⟨.hbm, 75, rfl⟩
abbrev main_cst_0 : Ref sig .tc := ⟨.hbm, 76, rfl⟩
abbrev main_v58 : Ref sig .tc := ⟨.hbm, 77, rfl⟩
abbrev main_v59 : Ref sig .tc := ⟨.hbm, 78, rfl⟩
abbrev main_c_1 : Ref sig .tc := ⟨.hbm, 79, rfl⟩
abbrev main_call2_v0 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_call3_cst : Ref sig .tc := ⟨.hbm, 129, rfl⟩
abbrev main_call3_v0 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_c_2 : Ref sig .tc := ⟨.hbm, 137, rfl⟩
abbrev main_call4_v0 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_call5_cst : Ref sig .tc := ⟨.hbm, 187, rfl⟩
abbrev main_call5_v0 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_cst_3 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_values : Ref sig .tc := ⟨.hbm, 203, rfl⟩
abbrev main_indices : Ref sig .tc := ⟨.hbm, 204, rfl⟩
abbrev main_v175 : Ref sig .tc := ⟨.hbm, 205, rfl⟩
abbrev main_v176 : Ref sig .tc := ⟨.hbm, 206, rfl⟩
abbrev main_c_4 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_c_5 : Ref sig .tc := ⟨.hbm, 211, rfl⟩
abbrev main_v180 : Ref sig .tc := ⟨.hbm, 212, rfl⟩
abbrev main_v181 : Ref sig .tc := ⟨.hbm, 213, rfl⟩
abbrev main_c_6 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_c_7 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_call6_c : Ref sig .tc := ⟨.hbm, 226, rfl⟩
abbrev main_call6_v0 : Ref sig .tc := ⟨.hbm, 227, rfl⟩
abbrev main_call6_v1 : Ref sig .tc := ⟨.hbm, 228, rfl⟩
abbrev main_call6_c_0 : Ref sig .tc := ⟨.hbm, 229, rfl⟩
abbrev main_call6_v2 : Ref sig .tc := ⟨.hbm, 230, rfl⟩
abbrev main_call6_v3 : Ref sig .tc := ⟨.hbm, 231, rfl⟩
abbrev main_call6_v4 : Ref sig .tc := ⟨.hbm, 232, rfl⟩
abbrev main_call6_v5 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_call7_c : Ref sig .tc := ⟨.hbm, 237, rfl⟩
abbrev main_call7_v0 : Ref sig .tc := ⟨.hbm, 238, rfl⟩
abbrev main_call7_v1 : Ref sig .tc := ⟨.hbm, 239, rfl⟩
abbrev main_call7_c_0 : Ref sig .tc := ⟨.hbm, 240, rfl⟩
abbrev main_call7_v2 : Ref sig .tc := ⟨.hbm, 241, rfl⟩
abbrev main_call7_v3 : Ref sig .tc := ⟨.hbm, 242, rfl⟩
abbrev main_call7_v4 : Ref sig .tc := ⟨.hbm, 243, rfl⟩
abbrev main_call7_v5 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_call8_c : Ref sig .tc := ⟨.hbm, 248, rfl⟩
abbrev main_call8_v0 : Ref sig .tc := ⟨.hbm, 249, rfl⟩
abbrev main_call8_v1 : Ref sig .tc := ⟨.hbm, 250, rfl⟩
abbrev main_call8_c_0 : Ref sig .tc := ⟨.hbm, 251, rfl⟩
abbrev main_call8_v2 : Ref sig .tc := ⟨.hbm, 252, rfl⟩
abbrev main_call8_v3 : Ref sig .tc := ⟨.hbm, 253, rfl⟩
abbrev main_call8_v4 : Ref sig .tc := ⟨.hbm, 254, rfl⟩
abbrev main_call8_v5 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_call9_c : Ref sig .tc := ⟨.hbm, 259, rfl⟩
abbrev main_call9_v0 : Ref sig .tc := ⟨.hbm, 260, rfl⟩
abbrev main_call9_v1 : Ref sig .tc := ⟨.hbm, 261, rfl⟩
abbrev main_call9_c_0 : Ref sig .tc := ⟨.hbm, 262, rfl⟩
abbrev main_call9_v2 : Ref sig .tc := ⟨.hbm, 263, rfl⟩
abbrev main_call9_v3 : Ref sig .tc := ⟨.hbm, 264, rfl⟩
abbrev main_call9_v4 : Ref sig .tc := ⟨.hbm, 265, rfl⟩
abbrev main_call9_v5 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_cst_8 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_cst_9 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_cst_10 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_cst_11 : Ref sig .tc := ⟨.hbm, 282, rfl⟩
abbrev main_v213 : Ref sig .tc := ⟨.hbm, 283, rfl⟩
abbrev main_v214 : Ref sig .tc := ⟨.hbm, 284, rfl⟩
abbrev main_v215 : Ref sig .tc := ⟨.hbm, 285, rfl⟩
abbrev main_v216 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩
abbrev main_v220 : Ref sig .tc := ⟨.hbm, 290, rfl⟩
abbrev main_cst_12 : Ref sig .tc := ⟨.hbm, 291, rfl⟩
abbrev main_v221 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_v225 : Ref sig .tc := ⟨.hbm, 296, rfl⟩

abbrev nD : Nat := 1
abbrev τ : Topo := Topo.v7x

variable {F : FTy → Type} [FloatOps F]
-- ==== Proof.Step.lean ====
/- One extraction step of the kernel, written once, and the whole body as a convolution phase followed
   by forty such steps. -/
module

public import proofs.«01_k».proof.Proof.Gen.KernelIdeal

@[expose] public section

set_option synthInstance.maxSize 4096

noncomputable section

namespace Cert.KernelIdeal.Body

open Idealize.ShloMosaic Idealize.SL.Sem
open Cert.KernelIdeal Facts₀ Facts

variable {F : FTy → Type} [FloatOps F]

/-! ## The pure values of one step -/

/-- The largest entry of the table of column maxima. -/
def maxOf (t : FVec F S128x128 .f32) : F .f32 :=
  extractAt ![0, 0, 0] (shapeCast S1x1x1
    (multiReduction .maximumf [1, 2] S1 (shapeCast S1x128x128 t shapeCasts_S128x128_S1x128x128)
      0xFF800000#32 reduces_S1x128x128_S1 (.inl rfl) rfl) shapeCasts_S1_S1x1x1) inpos_S1x1x1_p0_0_0

/-- The row number of each entry of a 128 × 128 table, and its column number. -/
def rows : IVec S128x128 32 := iota .tc S128x128 32 [0] iota_S128x128_d0_w32
def cols : IVec S128x128 32 := iota .tc S128x128 32 [1] iota_S128x128_d1_w32
/-- The same two numbers for one slab, the lane numbers of one row, and those of one output row. -/
def slabRows : IVec S1x128x128 32 := iota .tc S1x128x128 32 [1] iota_S1x128x128_d1_w32
def slabCols : IVec S1x128x128 32 := iota .tc S1x128x128 32 [2] iota_S1x128x128_d2_w32
def lanes : IVec S1x128 32 := iota .tc S1x128 32 [1] iota_S1x128_d1_w32
def outLanes : IVec S1x1x8 32 := iota .tc S1x1x8 32 [2] iota_S1x1x8_d2_w32

/-- The place of the first entry equal to the largest, class first and image row second: the class
    times 16384 plus the row times 128. -/
def posOf (t : FVec F S128x128 .f32) : BitVec 32 :=
  extractAt ![0, 0, 0] (shapeCast S1x1x1
    (multiReductionI .minsi [1, 2] S1 (shapeCast S1x128x128
      (select (cmpf .oeq t (broadcast S128x128 (maxOf t)))
        (addi (muli cols (broadcast S128x128 16384#32)) (muli rows (broadcast S128x128 128#32)))
        (broadcast S128x128 1073741824#32)) shapeCasts_S128x128_S1x128x128)
      2147483647#32 reduces_S1x128x128_S1 rfl) shapeCasts_S1_S1x1x1) inpos_S1x1x1_p0_0_0

/-- The sign of a word: 1, 0 or −1. -/
def sgn (p : BitVec 32) : BitVec 32 :=
  Scalar.subi (Scalar.extui (Scalar.cmpi .sgt p 0#32)) (Scalar.extui (Scalar.cmpi .slt p 0#32))

/-- Division rounding down, as the kernel computes it from the division rounding to zero. -/
def floorDiv (p d : BitVec 32) : BitVec 32 :=
  Scalar.select (Scalar.andi (Scalar.cmpi .ne (sgn p) (sgn d)) (Scalar.cmpi .ne (Scalar.remsi p d) 0#32))
    (Scalar.subi (Scalar.divsi p d) 1#32) (Scalar.divsi p d)

/-- The class and the image row a place names, each held at most 127. -/
def clsOf (p : BitVec 32) : BitVec 32 := Scalar.minsi (floorDiv p 16384#32) 127#32
def rowOf (p : BitVec 32) : BitVec 32 :=
  Scalar.minsi (floorDiv (Scalar.subi p (Scalar.muli (floorDiv p 16384#32) 16384#32)) 128#32) 127#32

/-- The first column of the slab at which the class's entry is the given value. -/
def colOf (v : F .f32) (c : BitVec 32) (s : FVec F S1x128x128 .f32) : BitVec 32 :=
  extractAt ![0, 0, 0, 0] (shapeCast S1x1x1x1
    (multiReductionI .minsi [1, 2, 3] S1 (shapeCast S1x1x128x128
      (select (andi (cmpf .oeq s (broadcast S1x128x128 v)) (cmpi .eq slabCols (broadcast S1x128x128 c)))
        slabRows (broadcast S1x128x128 1073741824#32)) shapeCasts_S1x128x128_S1x1x128x128)
      2147483647#32 reduces_S1x1x128x128_S1 rfl) shapeCasts_S1_S1x1x1x1) inpos_S1x1x1x1_p0_0_0_0

/-- The slab with the chosen entry set to zero. -/
def slabNext (x c : BitVec 32) (s : FVec F S1x128x128 .f32) : FVec F S1x128x128 .f32 :=
  select (andi (cmpi .eq slabRows (broadcast S1x128x128 x)) (cmpi .eq slabCols (broadcast S1x128x128 c)))
    (broadcast S1x128x128 (Scalar.ofBits .f32 0x00000000#32)) s

/-- The largest entry of each class in a slab; −1 in the lanes that are no class. -/
def chanMax (s : FVec F S1x128x128 .f32) : FVec F S1x128 .f32 :=
  multiReduction .maximumf [1] S1x128
    (select (cmpi .slt slabCols (broadcast S1x128x128 80#32)) s
      (broadcast S1x128x128 (Scalar.ofBits .f32 0xBF800000#32)))
    0xFF800000#32 reduces_S1x128x128_S1x128 (.inl rfl) rfl

/-- The table of column maxima with the changed slab's row replaced. -/
def tabNext (y : BitVec 32) (s : FVec F S1x128x128 .f32) (t : FVec F S128x128 .f32) : FVec F S128x128 .f32 :=
  select (cmpi .eq rows (broadcast S128x128 y))
    (broadcastTo S128x128 (shapeCast S1x128 (chanMax s) shapeCasts_S1x128_S1x128) broadcasts_S1x128_S128x128) t

/-- The lanes of the slab at one column, as the sum over the columns of the slab masked to it. -/
def colVec (x : BitVec 32) (s : FVec F S1x128x128 .f32) : FVec F S1x128 .f32 :=
  multiReduction .add [1] S1x128
    (select (cmpi .eq slabRows (broadcast S1x128x128 x)) s
      (broadcast S1x128x128 (Scalar.ofBits .f32 0x00000000#32)))
    0x00000000#32 reduces_S1x128x128_S1x128 (.inl rfl) rfl

/-- One lane of a row of lanes, as the sum of the row masked to it. -/
def lane (l : BitVec 32) (v : FVec F S1x128 .f32) : F .f32 :=
  extractAt ![0, 0, 0] (shapeCast S1x1x1
    (multiReduction .add [1, 2] S1 (shapeCast S1x1x128
      (select (cmpi .eq lanes (broadcast S1x128 l)) v (broadcast S1x128 (Scalar.ofBits .f32 0x00000000#32)))
      shapeCasts_S1x128_S1x1x128) 0x00000000#32 reduces_S1x1x128_S1 (.inl rfl) rfl) shapeCasts_S1_S1x1x1)
    inpos_S1x1x1_p0_0_0

/-- A value in one lane of an output row, zero in the others. -/
def atLane (l : BitVec 32) (v : F .f32) : FVec F S1x1x8 .f32 :=
  select (cmpi .eq outLanes (broadcast S1x1x8 l)) (broadcast S1x1x8 v)
    (broadcast S1x1x8 (Scalar.ofBits .f32 0x00000000#32))

/-- The decoded centre along one axis, and the two ends of the box along it, in input pixels. -/
def ctr (n : BitVec 32) (o : F .f32) : F .f32 := Scalar.addf (Scalar.sitofp .f32 n) o
def lowEnd (a s : F .f32) : F .f32 :=
  Scalar.mulf (Scalar.subf a (Scalar.mulf (Scalar.ofBits .f32 0x3F000000#32) s)) (Scalar.ofBits .f32 0x40800000#32)
def highEnd (a s : F .f32) : F .f32 :=
  Scalar.mulf (Scalar.addf a (Scalar.mulf (Scalar.ofBits .f32 0x3F000000#32) s)) (Scalar.ofBits .f32 0x40800000#32)

/-- The output row of one step: the box, the class and the score. -/
def outRow (v : F .f32) (c y x : BitVec 32) (k : FVec F S1x128 .f32) : FVec F S1x1x8 .f32 :=
  addf (addf (addf (addf (addf (addf (broadcast S1x1x8 (Scalar.ofBits .f32 0x00000000#32))
    (atLane 0#32 (lowEnd (ctr x (lane 82#32 k)) (lane 80#32 k))))
    (atLane 1#32 (lowEnd (ctr y (lane 83#32 k)) (lane 81#32 k))))
    (atLane 2#32 (highEnd (ctr x (lane 82#32 k)) (lane 80#32 k))))
    (atLane 3#32 (highEnd (ctr y (lane 83#32 k)) (lane 81#32 k))))
    (atLane 4#32 (Scalar.sitofp .f32 c)))
    (atLane 5#32 v)

/-! ## One step and the loop of them -/

/-- The output block's row `n` lies inside it. -/
theorem outRow_inb (n : ℕ) (h : n < 40) : ∀ a, (![0, n, 0, 0] : Fin 4 → Nat) a + S1x1x1x8.size a ≤ S1x40x1x8.size a := by
  intro a; fin_cases a <;> simp <;> omega

/-- One extraction: the largest entry is found in the table, its slab is read, the entry is set to zero
    in the slab, and the row is written to output row `n`. Returns the new table. -/
def step (i : grid0.Coords) (arg8 : Memref sig .tc .vmem S1x40x1x8 .f32) (arg9 : Memref sig .tc .vmem S256x128x128 .f32)
    (n : ℕ) (hn : n < 40) (t : FVec F S128x128 .f32) :
    Prog (TpuEff nD τ sig (Elt F) Λ₀ .tc) (FVec F S128x128 .f32) := do
  have hw : k0_chk1 i (posOf t) := (← Prog.lift (TpuEff.assume (k0_chk1 i (posOf t)) (k0_chk1.dec i (posOf t)))).down
  let s : Vec F S1x128x128 .f32 ← Prog.lift (.load arg9 (Rect.unit (s := S256x128x128) (k0_off4 i (posOf t)) S1x128x128.size (k0_off4_inb i (posOf t) hw)).toLoadRect (View.loadsAt_vmem h_S1x128x128))
  let _ : Vec F S1x128x128 .f32 ← Prog.lift (.load arg9 (Rect.unit (s := S256x128x128) (k0_off4 i (posOf t)) S1x128x128.size (k0_off4_inb i (posOf t) hw)).toLoadRect (View.loadsAt_vmem h_S1x128x128))
  Prog.lift (.store arg9 (Rect.unit (s := S256x128x128) (k0_off4 i (posOf t)) S1x128x128.size (k0_off4_inb i (posOf t) hw))
    (shapeCast S1x128x128 (slabNext (colOf (maxOf t) (clsOf (posOf t)) s) (clsOf (posOf t)) s) shapeCasts_S1x128x128_S1x128x128)
    Finset.univ (View.stores_vmem_bits_univ h_S1x128x128 rfl) (.inl rfl))
  let _ : Vec F S1x1x1x8 .f32 ← Prog.lift (.load arg8 (Rect.unit (s := S1x40x1x8) ![0, n, 0, 0] S1x1x1x8.size (outRow_inb n hn)).toLoadRect (View.loadsAt_vmem h_S1x1x1x8))
  Prog.lift (.store arg8 (Rect.unit (s := S1x40x1x8) ![0, n, 0, 0] S1x1x1x8.size (outRow_inb n hn))
    (shapeCast S1x1x1x8 (outRow (maxOf t) (clsOf (posOf t)) (rowOf (posOf t)) (colOf (maxOf t) (clsOf (posOf t)) s)
      (colVec (colOf (maxOf t) (clsOf (posOf t)) s) s)) shapeCasts_S1x1x8_S1x1x1x8)
    Finset.univ (View.stores_vmem_bits_univ h_S1x1x1x8 rfl) (.inl rfl))
  pure (tabNext (rowOf (posOf t)) (slabNext (colOf (maxOf t) (clsOf (posOf t)) s) (clsOf (posOf t)) s) t)

/-- The last `n` extractions, writing output rows `n − 1, …, 0` in this order. -/
def steps (i : grid0.Coords) (arg8 : Memref sig .tc .vmem S1x40x1x8 .f32) (arg9 : Memref sig .tc .vmem S256x128x128 .f32) :
    (n : ℕ) → n ≤ 40 → FVec F S128x128 .f32 → Prog (TpuEff nD τ sig (Elt F) Λ₀ .tc) PUnit
  | 0, _, _ => pure ⟨⟩
  | n + 1, h, t => do
    let t' ← step i arg8 arg9 n h t
    steps i arg8 arg9 n (Nat.le_of_succ_le h) t'

end Cert.KernelIdeal.Body

end
-- ==== Proof.Conv.lean ====
/- The convolution phase of the kernel's body, written once for both half images, and the whole body:
   this phase followed by the forty extraction steps. -/
module

public import proofs.«01_k».proof.Proof.Step

@[expose] public section

set_option synthInstance.maxSize 4096

noncomputable section

namespace Cert.KernelIdeal.Body

open Idealize.ShloMosaic Idealize.SL.Sem
open Cert.KernelIdeal Facts₀ Facts

variable {F : FTy → Type} [FloatOps F]

/-- The zero of the format. -/
def zf : F .f32 := Scalar.ofBits .f32 0x00000000#32

/-- The rows of the upper half with one row of the lower, three image rows side by side in the lanes:
    the row above (zero at the top edge), the row itself, the row below. -/
def topRows (x : FVec F S128x128x64 .f32) : FVec F S65x128x192 .f32 :=
  concatenate S65x128x192 2
    [⟨S65x128x64, concatenate S65x128x64 0
        [⟨S1x128x64, (broadcast S1x128x64 zf : FVec F S1x128x64 .f32)⟩,
         ⟨S64x128x64, extractStridedSlice S64x128x64 ![0, 0, 0] x slices_S128x128x64_o0_0_0_S64x128x64⟩]
        concatenates_S1x128x64_S64x128x64_S65x128x64_d0⟩,
     ⟨S65x128x64, extractStridedSlice S65x128x64 ![0, 0, 0] x slices_S128x128x64_o0_0_0_S65x128x64⟩,
     ⟨S65x128x64, extractStridedSlice S65x128x64 ![1, 0, 0] x slices_S128x128x64_o1_0_0_S65x128x64⟩]
    concatenates_S65x128x64_S65x128x64_S65x128x64_S65x128x192_d2

/-- The same for the lower half with one row of the upper: zero below the bottom edge. -/
def botRows (x : FVec F S128x128x64 .f32) : FVec F S65x128x192 .f32 :=
  concatenate S65x128x192 2
    [⟨S65x128x64, extractStridedSlice S65x128x64 ![62, 0, 0] x slices_S128x128x64_o62_0_0_S65x128x64⟩,
     ⟨S65x128x64, extractStridedSlice S65x128x64 ![63, 0, 0] x slices_S128x128x64_o63_0_0_S65x128x64⟩,
     ⟨S65x128x64, concatenate S65x128x64 0
        [⟨S64x128x64, extractStridedSlice S64x128x64 ![64, 0, 0] x slices_S128x128x64_o64_0_0_S64x128x64⟩,
         ⟨S1x128x64, (broadcast S1x128x64 zf : FVec F S1x128x64 .f32)⟩]
        concatenates_S64x128x64_S1x128x64_S65x128x64_d0⟩]
    concatenates_S65x128x64_S65x128x64_S65x128x64_S65x128x192_d2

/-- The product of the stacked rows with the weights of one kernel column. -/
def tap (r : FVec F S65x128x192 .f32) (w : FVec F S1x192x192 .f32) : FVec F S65x128x192 .f32 :=
  shapeCast S65x128x192 (matmul dot_S8320x192_S192x192_S8320x192_1_0_0_1_n_n none
    (shapeCast S8320x192 r shapeCasts_S65x128x192_S8320x192) (shapeCast S192x192 w shapeCasts_S1x192x192_S192x192)
    (constant S8320x192 .f32 0x00000000#32)) shapeCasts_S8320x192_S65x128x192

/-- The three heads' hidden features of a half image: the first tap moved one column right, the second
    in place, the third moved one column left, the bias added, negative values cut to zero. -/
def feats (r : FVec F S65x128x192 .f32) (w0 w1 w2 : FVec F S1x192x192 .f32) (b : FVec F S1x1x192 .f32) :
    FVec F S8320x192 .f32 :=
  shapeCast S8320x192 (maximumf
    (addf
      (addf
        (addf
          (concatenate S65x128x192 1
            [⟨S65x1x192, (broadcast S65x1x192 zf : FVec F S65x1x192 .f32)⟩,
             ⟨S65x127x192, extractStridedSlice S65x127x192 ![0, 0, 0] (tap r w0) slices_S65x128x192_o0_0_0_S65x127x192⟩]
            concatenates_S65x1x192_S65x127x192_S65x128x192_d1)
          (tap r w1))
        (concatenate S65x128x192 1
          [⟨S65x127x192, extractStridedSlice S65x127x192 ![0, 1, 0] (tap r w2) slices_S65x128x192_o0_1_0_S65x127x192⟩,
           ⟨S65x1x192, (broadcast S65x1x192 zf : FVec F S65x1x192 .f32)⟩]
          concatenates_S65x127x192_S65x1x192_S65x128x192_d1))
      (broadcastTo S65x128x192 (shapeCast S1x1x192 b shapeCasts_S1x1x192_S1x1x192) broadcasts_S1x1x192_S65x128x192))
    (broadcast S65x128x192 zf)) shapeCasts_S65x128x192_S8320x192

/-- The heat map of a half image from its hidden features. -/
def heatOf (f : FVec F S8320x192 .f32) (w : FVec F S64x80 .f32) (b : FVec F S1x80 .f32) : FVec F S65x128x80 .f32 :=
  shapeCast S65x128x80 (logistic (addf
    (matmul dot_S8320x64_S64x80_S8320x80_1_0_0_1_n_n none
      (extractStridedSlice S8320x64 ![0, 0] f slices_S8320x192_o0_0_S8320x64) (shapeCast S64x80 w shapeCasts_S64x80_S64x80)
      (constant S8320x80 .f32 0x00000000#32))
    (broadcastTo S8320x80 (shapeCast S1x80 b shapeCasts_S1x80_S1x80) broadcasts_S1x80_S8320x80)))
    shapeCasts_S8320x80_S65x128x80

/-- The box sizes and the offsets of a half image from its hidden features, four lanes. -/
def regOf (f : FVec F S8320x192 .f32) (w : FVec F S128x4 .f32) (b : FVec F S1x4 .f32) : FVec F S65x128x4 .f32 :=
  shapeCast S65x128x4 (addf
    (matmul dot_S8320x128_S128x4_S8320x4_1_0_0_1_n_n none
      (extractStridedSlice S8320x128 ![0, 64] f slices_S8320x192_o0_64_S8320x128) (shapeCast S128x4 w shapeCasts_S128x4_S128x4)
      (constant S8320x4 .f32 0x00000000#32))
    (broadcastTo S8320x4 (shapeCast S1x4 b shapeCasts_S1x4_S1x4) broadcasts_S1x4_S8320x4))
    shapeCasts_S8320x4_S65x128x4

/-- The largest of each entry and its two neighbours in the row, zero beyond the edges. -/
def poolRow (h : FVec F S65x128x80 .f32) : FVec F S65x128x80 .f32 :=
  maximumf
    (maximumf
      (concatenate S65x128x80 1
        [⟨S65x1x80, (broadcast S65x1x80 zf : FVec F S65x1x80 .f32)⟩,
         ⟨S65x127x80, extractStridedSlice S65x127x80 ![0, 0, 0] h slices_S65x128x80_o0_0_0_S65x127x80⟩]
        concatenates_S65x1x80_S65x127x80_S65x128x80_d1) h)
    (concatenate S65x128x80 1
      [⟨S65x127x80, extractStridedSlice S65x127x80 ![0, 1, 0] h slices_S65x128x80_o0_1_0_S65x127x80⟩,
       ⟨S65x1x80, (broadcast S65x1x80 zf : FVec F S65x1x80 .f32)⟩]
      concatenates_S65x127x80_S65x1x80_S65x128x80_d1)

/-- The largest of each entry and its two neighbours in the column, zero beyond the half's edges. -/
def poolCol (h : FVec F S65x128x80 .f32) : FVec F S65x128x80 .f32 :=
  maximumf
    (maximumf
      (concatenate S65x128x80 0
        [⟨S1x128x80, (broadcast S1x128x80 zf : FVec F S1x128x80 .f32)⟩,
         ⟨S64x128x80, extractStridedSlice S64x128x80 ![0, 0, 0] h slices_S65x128x80_o0_0_0_S64x128x80⟩]
        concatenates_S1x128x80_S64x128x80_S65x128x80_d0) h)
    (concatenate S65x128x80 0
      [⟨S64x128x80, extractStridedSlice S64x128x80 ![1, 0, 0] h slices_S65x128x80_o1_0_0_S64x128x80⟩,
       ⟨S1x128x80, (broadcast S1x128x80 zf : FVec F S1x128x80 .f32)⟩]
      concatenates_S64x128x80_S1x128x80_S65x128x80_d0)

/-- An entry kept where it equals the largest of its neighbourhood, zero elsewhere. -/
def peaks (h p : FVec F S64x128x80 .f32) : FVec F S64x128x80 .f32 :=
  mulf h (sitofp .f32 (extui 32 (cmpf .oeq p h) natLt_1_32))

/-- The peaks of the upper half (its first 64 rows) and of the lower half (its last 64). -/
def topPeaks (h : FVec F S65x128x80 .f32) : FVec F S64x128x80 .f32 :=
  peaks (extractStridedSlice S64x128x80 ![0, 0, 0] h slices_S65x128x80_o0_0_0_S64x128x80)
    (extractStridedSlice S64x128x80 ![0, 0, 0] (poolCol (poolRow h)) slices_S65x128x80_o0_0_0_S64x128x80)
def botPeaks (h : FVec F S65x128x80 .f32) : FVec F S64x128x80 .f32 :=
  peaks (extractStridedSlice S64x128x80 ![1, 0, 0] h slices_S65x128x80_o1_0_0_S64x128x80)
    (extractStridedSlice S64x128x80 ![1, 0, 0] (poolCol (poolRow h)) slices_S65x128x80_o1_0_0_S64x128x80)

/-- Peaks, box sizes and offsets, and zeros, side by side in 128 lanes. -/
def pack (p : FVec F S64x128x80 .f32) (r : FVec F S64x128x4 .f32) : FVec F S64x128x128 .f32 :=
  shapeCast S64x128x128 (concatenate S64x128x128 2
    [⟨S64x128x80, p⟩, ⟨S64x128x4, r⟩, ⟨S64x128x44, (broadcast S64x128x44 zf : FVec F S64x128x44 .f32)⟩]
    concatenates_S64x128x80_S64x128x4_S64x128x44_S64x128x128_d2) shapeCasts_S64x128x128_S64x128x128

/-- The largest peak of each image row and class, −1 in the lanes that are no class. -/
def colMax (p : FVec F S64x128x80 .f32) : FVec F S64x128 .f32 :=
  shapeCast S64x128 (concatenate S64x128 1
    [⟨S64x80, multiReduction .maximumf [1] S64x80 p 0xFF800000#32 reduces_S64x128x80_S64x80 (.inl rfl) rfl⟩,
     ⟨S64x48, (broadcast S64x48 (Scalar.ofBits .f32 0xBF800000#32) : FVec F S64x48 .f32)⟩]
    concatenates_S64x80_S64x48_S64x128_d1) shapeCasts_S64x128_S64x128

def topReg (r : FVec F S65x128x4 .f32) : FVec F S64x128x4 .f32 :=
  extractStridedSlice S64x128x4 ![0, 0, 0] r slices_S65x128x4_o0_0_0_S64x128x4
def botReg (r : FVec F S65x128x4 .f32) : FVec F S64x128x4 .f32 :=
  extractStridedSlice S64x128x4 ![1, 0, 0] r slices_S65x128x4_o1_0_0_S64x128x4

/-- The reads of the weights and biases, returning the heat map and the four regression lanes of the
    half image whose stacked rows are given. -/
def halfMaps (arg2 : Memref sig .tc .vmem S3x192x192 .f32) (arg3 : Memref sig .tc .vmem S1x1x192 .f32)
    (arg4 : Memref sig .tc .vmem S64x80 .f32) (arg5 : Memref sig .tc .vmem S1x80 .f32)
    (arg6 : Memref sig .tc .vmem S128x4 .f32) (arg7 : Memref sig .tc .vmem S1x4 .f32)
    (r : FVec F S65x128x192 .f32) :
    Prog (TpuEff nD τ sig (Elt F) Λ₀ .tc) (FVec F S65x128x80 .f32 × FVec F S65x128x4 .f32) := do
  let w0 : Vec F S1x192x192 .f32 ← Prog.lift (.load arg2 (Rect.unit (s := S3x192x192) ![0, 0, 0] S1x192x192.size inb_S3x192x192_S1x192x192_0_0_0).toLoadRect (View.loadsAt_vmem h_S1x192x192))
  let w1 : Vec F S1x192x192 .f32 ← Prog.lift (.load arg2 (Rect.unit (s := S3x192x192) ![1, 0, 0] S1x192x192.size inb_S3x192x192_S1x192x192_1_0_0).toLoadRect (View.loadsAt_vmem h_S1x192x192))
  let w2 : Vec F S1x192x192 .f32 ← Prog.lift (.load arg2 (Rect.unit (s := S3x192x192) ![2, 0, 0] S1x192x192.size inb_S3x192x192_S1x192x192_2_0_0).toLoadRect (View.loadsAt_vmem h_S1x192x192))
  let b : Vec F S1x1x192 .f32 ← Prog.lift (.load arg3 (Rect.unit (s := S1x1x192) ![0, 0, 0] S1x1x192.size inb_S1x1x192_S1x1x192_0_0_0).toLoadRect (View.loadsAt_vmem h_S1x1x192))
  let wh : Vec F S64x80 .f32 ← Prog.lift (.load arg4 (Rect.unit (s := S64x80) ![0, 0] S64x80.size inb_S64x80_S64x80_0_0).toLoadRect (View.loadsAt_vmem h_S64x80))
  let bh : Vec F S1x80 .f32 ← Prog.lift (.load arg5 (Rect.unit (s := S1x80) ![0, 0] S1x80.size inb_S1x80_S1x80_0_0).toLoadRect (View.loadsAt_vmem h_S1x80))
  let wr : Vec F S128x4 .f32 ← Prog.lift (.load arg6 (Rect.unit (s := S128x4) ![0, 0] S128x4.size inb_S128x4_S128x4_0_0).toLoadRect (View.loadsAt_vmem h_S128x4))
  let br : Vec F S1x4 .f32 ← Prog.lift (.load arg7 (Rect.unit (s := S1x4) ![0, 0] S1x4.size inb_S1x4_S1x4_0_0).toLoadRect (View.loadsAt_vmem h_S1x4))
  pure (heatOf (feats r w0 w1 w2 b) wh bh, regOf (feats r w0 w1 w2 b) wr br)

/-- One half's results stored at row `64 k` of the image's slot of the two scratch buffers. -/
def putHalf (i : grid0.Coords) (arg9 : Memref sig .tc .vmem S256x128x128 .f32) (arg10 : Memref sig .tc .vmem S256x128 .f32)
    (k : Fin 2) (p : FVec F S64x128x80 .f32) (r : FVec F S64x128x4 .f32) :
    Prog (TpuEff nD τ sig (Elt F) Λ₀ .tc) PUnit := do
  let _ : Vec F S64x128x128 .f32 ← Prog.lift (.load arg9 (Rect.unit (s := S256x128x128) (k0_off1 i (BitVec.ofNat 32 (64 * k.val))) S64x128x128.size (k0_off1_inb i k)).toLoadRect (View.loadsAt_vmem h_S64x128x128))
  Prog.lift (.store arg9 (Rect.unit (s := S256x128x128) (k0_off1 i (BitVec.ofNat 32 (64 * k.val))) S64x128x128.size (k0_off1_inb i k)) (pack p r) Finset.univ (View.stores_vmem_bits_univ h_S64x128x128 rfl) (.inl rfl))
  let _ : Vec F S64x128 .f32 ← Prog.lift (.load arg10 (Rect.unit (s := S256x128) (k0_off2 i (BitVec.ofNat 32 (64 * k.val))) S64x128.size (k0_off2_inb i k)).toLoadRect (View.loadsAt_vmem h_S64x128))
  Prog.lift (.store arg10 (Rect.unit (s := S256x128) (k0_off2 i (BitVec.ofNat 32 (64 * k.val))) S64x128.size (k0_off2_inb i k)) (colMax p) Finset.univ (View.stores_vmem_bits_univ h_S64x128 rfl) (.inl rfl))

/-- The whole body: both halves of the image computed and stored, then the forty extractions from the
    other slot. -/
def body (i : grid0.Coords) (arg1 : Memref sig .tc .vmem S1x128x128x64 .f32)
    (arg2 : Memref sig .tc .vmem S3x192x192 .f32) (arg3 : Memref sig .tc .vmem S1x1x192 .f32)
    (arg4 : Memref sig .tc .vmem S64x80 .f32) (arg5 : Memref sig .tc .vmem S1x80 .f32)
    (arg6 : Memref sig .tc .vmem S128x4 .f32) (arg7 : Memref sig .tc .vmem S1x4 .f32)
    (arg8 : Memref sig .tc .vmem S1x40x1x8 .f32) (arg9 : Memref sig .tc .vmem S256x128x128 .f32)
    (arg10 : Memref sig .tc .vmem S256x128 .f32) : Prog (TpuEff nD τ sig (Elt F) Λ₀ .tc) PUnit := do
  let x : Vec F S1x128x128x64 .f32 ← Prog.lift (.load arg1 (Rect.unit (s := S1x128x128x64) ![0, 0, 0, 0] S1x128x128x64.size inb_S1x128x128x64_S1x128x128x64_0_0_0_0).toLoadRect (View.loadsAt_vmem h_S1x128x128x64))
  let u ← halfMaps arg2 arg3 arg4 arg5 arg6 arg7 (topRows (shapeCast S128x128x64 x shapeCasts_S1x128x128x64_S128x128x64))
  putHalf i arg9 arg10 0 (topPeaks u.1) (topReg u.2)
  let l ← halfMaps arg2 arg3 arg4 arg5 arg6 arg7 (botRows (shapeCast S128x128x64 x shapeCasts_S1x128x128x64_S128x128x64))
  putHalf i arg9 arg10 1 (botPeaks l.1) (botReg l.2)
  let t : Vec F S128x128 .f32 ← Prog.lift (.load arg10 (Rect.unit (s := S256x128) (k0_off3 i) S128x128.size (k0_off3_inb i)).toLoadRect (View.loadsAt_vmem h_S128x128))
  steps i arg8 arg9 40 (Nat.le_refl 40) t

end Cert.KernelIdeal.Body

end
-- ==== Proof.Words.lean ====
/- The words the extraction computes with, as natural numbers: the place of the largest entry, the class
   and image row it names, the column, and the rows of the scratch buffers the body reads and writes. -/
module

public import proofs.«01_k».proof.Proof.Conv
public import Idealize.ShloMosaic.PureOps.Reduce
public import Idealize.ShloMosaic.Lib.Routing.Words
public import Idealize.ShloMosaic.Lib.PlanTiles.Rows

@[expose] public section

set_option synthInstance.maxSize 4096

noncomputable section

namespace Cert.KernelIdeal.Body

open Cert.KernelIdeal Facts₀ Facts
open Idealize.ShloMosaic Idealize.ShloMosaic.Routing Idealize.ShloMosaic.PlanTiles

variable {F : FTy → Type} [FloatOps F]

/-! ## The minimum of words of naturals -/

/-- A fold of the signed minimum over words of naturals below 2³¹, from the largest word: the word of a
    natural that is at most every one met, and is one of them unless it is 2³¹ − 1. -/
theorem fold_minsi_nat {ι : Type} [DecidableEq ι] (g : ι → BitVec 32) (f : ι → ℕ) (hf : ∀ i, g i = BitVec.ofNat 32 (f i))
    (hb : ∀ i, f i < 2 ^ 31) (S : Finset ι) :
    ∃ n, S.fold IntOp.minsi 2147483647#32 g = BitVec.ofNat 32 n ∧ n < 2 ^ 31 ∧ (∀ i ∈ S, n ≤ f i)
      ∧ (n = 2 ^ 31 - 1 ∨ ∃ i ∈ S, n = f i) := by
  induction S using Finset.induction_on with
  | empty => exact ⟨2 ^ 31 - 1, by rw [Finset.fold_empty]; decide, by norm_num, by simp, Or.inl rfl⟩
  | insert a S ha ih =>
    obtain ⟨n, h1, h2, h3, h4⟩ := ih
    refine ⟨min n (f a), ?_, lt_of_le_of_lt (Nat.min_le_left _ _) h2, ?_, ?_⟩
    · rw [Finset.fold_insert ha, h1, hf a, minsi_word (hb a) h2]
    · intro i hi
      rcases Finset.mem_insert.mp hi with rfl | hi
      · exact Nat.min_le_right _ _
      · exact le_trans (Nat.min_le_left _ _) (h3 i hi)
    · rcases Nat.le_total n (f a) with h | h
      · rw [Nat.min_eq_left h]
        rcases h4 with h4 | ⟨i, hi, h4⟩
        · exact Or.inl h4
        · exact Or.inr ⟨i, Finset.mem_insert_of_mem hi, h4⟩
      · rw [Nat.min_eq_right h]
        exact Or.inr ⟨a, Finset.mem_insert_self _ _, rfl⟩

/-- The same of a whole vector reduced to one entry. -/
theorem minsi_all {s t : Shape} {axes : List (Fin s.rank)} (src : IVec s 32) (f : s.Idx → ℕ)
    (hf : ∀ i, src i = BitVec.ofNat 32 (f i)) (hb : ∀ i, f i < 2 ^ 31) (h : s.Reduces axes t) (hacc : 2147483647#32 = IKind.minsi.neutral)
    (ht : ∀ a b : t.Idx, a = b) (j : t.Idx) :
    ∃ n, multiReductionI .minsi axes t src 2147483647#32 h hacc j = BitVec.ofNat 32 n ∧ n < 2 ^ 31 ∧ (∀ i, n ≤ f i)
      ∧ (n = 2 ^ 31 - 1 ∨ ∃ i, n = f i) := by
  classical
  rw [multiReductionI_eq_fold]
  rw [show (Finset.univ.filter fun i => h.drop i = j) = Finset.univ from
    Finset.filter_true_of_mem fun i _ => ht _ _]
  obtain ⟨n, h1, h2, h3, h4⟩ := fold_minsi_nat src f hf hb Finset.univ
  refine ⟨n, h1, h2, fun i => h3 i (Finset.mem_univ i), ?_⟩
  rcases h4 with h4 | ⟨i, _, h4⟩
  · exact Or.inl h4
  · exact Or.inr ⟨i, h4⟩

theorem S1_one (a b : S1.Idx) : a = b := by
  funext k; apply Fin.ext
  have := (a k).isLt; have := (b k).isLt
  fin_cases k; simp [S1] at *; omega

/-- The first entry of a table, and of a slab. -/
def origin2 : S128x128.Idx := fun a => ⟨0, by revert a; decide⟩
def origin3 : S1x128x128.Idx := fun a => ⟨0, by revert a; decide⟩

/-- The entry equals the table's largest. -/
def Hit (t : FVec F S128x128 .f32) (i : S128x128.Idx) : Prop := FloatOps.cmpf .oeq (t i) (maxOf t) = 1#1

theorem sel_at (t : FVec F S128x128 .f32) (m : F .f32) (x y : IVec S128x128 32) (a b d : BitVec 32) (k : S128x128.Idx) :
    select (cmpf .oeq t (broadcast S128x128 m)) (addi (muli x (broadcast S128x128 a)) (muli y (broadcast S128x128 b)))
      (broadcast S128x128 d) k = Scalar.select (FloatOps.cmpf .oeq (t k) m) (x k * a + y k * b) d := rfl

/-- The place is the least class-then-row number among the entries equal to the largest. -/
theorem posOf_spec (t : FVec F S128x128 .f32) :
    ∃ n, posOf t = BitVec.ofNat 32 n ∧ n ≤ 2 ^ 30 ∧ (∀ i, Hit t i → n ≤ (i 1).val * 16384 + (i 0).val * 128)
      ∧ (n = 2 ^ 30 ∨ ∃ i, Hit t i ∧ n = (i 1).val * 16384 + (i 0).val * 128) := by
  classical
  let g : S128x128.Idx → ℕ := fun i => if Hit t i then (i 1).val * 16384 + (i 0).val * 128 else 2 ^ 30
  have hlt : ∀ i : S128x128.Idx, (i 1).val < 128 ∧ (i 0).val < 128 := fun i => ⟨(i 1).isLt, (i 0).isLt⟩
  have hg : ∀ i, g i ≤ 2 ^ 30 := fun i => by
    have := hlt i
    show (if Hit t i then _ else _) ≤ _
    split <;> omega
  obtain ⟨n, h1, h2, h3, h4⟩ := minsi_all
    (shapeCast S1x128x128
      (select (cmpf .oeq t (broadcast S128x128 (maxOf t)))
        (addi (muli cols (broadcast S128x128 16384#32)) (muli rows (broadcast S128x128 128#32)))
        (broadcast S128x128 1073741824#32)) shapeCasts_S128x128_S1x128x128)
    (fun i => g (Shape.reshapeEquiv shapeCasts_S128x128_S1x128x128 i))
    (fun i => by
      generalize hk : Shape.reshapeEquiv shapeCasts_S128x128_S1x128x128 i = k
      show select _ _ _ (Shape.reshapeEquiv shapeCasts_S128x128_S1x128x128 i) = _
      rw [hk]
      have hc : (cols : IVec S128x128 32) k = BitVec.ofNat 32 (0 * 128 + (k 1).val) := rfl
      have hr : (rows : IVec S128x128 32) k = BitVec.ofNat 32 (0 * 128 + (k 0).val) := rfl
      have hs := sel_at t (maxOf t) cols rows 16384#32 128#32 1073741824#32 k
      rw [hs, hc, hr]
      change (if FloatOps.cmpf .oeq (t k) (maxOf t) = 1 then
          BitVec.ofNat 32 (0 * 128 + (k 1).val) * BitVec.ofNat 32 16384 + BitVec.ofNat 32 (0 * 128 + (k 0).val) * BitVec.ofNat 32 128
          else BitVec.ofNat 32 (2 ^ 30)) = BitVec.ofNat 32 (if Hit t k then _ else _)
      by_cases hh : Hit t k
      · have hh' : FloatOps.cmpf .oeq (t k) (maxOf t) = 1 := hh
        rw [if_pos hh, if_pos hh', ← BitVec.ofNat_mul, ← BitVec.ofNat_mul, ← BitVec.ofNat_add]
        simp
      · have hh' : ¬ FloatOps.cmpf .oeq (t k) (maxOf t) = 1 := hh
        rw [if_neg hh, if_neg hh'])
    (fun i => lt_of_le_of_lt (hg _) (by norm_num))
    reduces_S1x128x128_S1 rfl S1_one (Shape.reshapeEquiv shapeCasts_S1_S1x1x1 fun a => ⟨(![0, 0, 0] : Fin 3 → ℕ) a, inpos_S1x1x1_p0_0_0 a⟩)
  have hn : ∀ k : S128x128.Idx, n ≤ g k := fun k => by
    have := h3 ((Shape.reshapeEquiv shapeCasts_S128x128_S1x128x128).symm k)
    simpa using this
  refine ⟨n, h1, ?_, ?_, ?_⟩
  · exact le_trans (hn origin2) (hg _)
  · intro i hi
    have := hn i
    simp only [g, if_pos hi] at this
    exact this
  · rcases h4 with h4 | ⟨i, h4⟩
    · exfalso
      have := le_trans (hn origin2) (hg _)
      omega
    · by_cases hh : Hit t (Shape.reshapeEquiv shapeCasts_S128x128_S1x128x128 i)
      · right; exact ⟨_, hh, by simpa only [g, if_pos hh] using h4⟩
      · left; simpa only [g, if_neg hh] using h4

/-- A slab's entry that holds the value and lies in the class. -/
def ColHit (v : F .f32) (c : ℕ) (s : FVec F S1x128x128 .f32) (i : S1x128x128.Idx) : Prop :=
  FloatOps.cmpf .oeq (s i) v = 1#1 ∧ (i 2).val = c

/-- The column is the least one at which the class's entry is the given value. -/
theorem colOf_spec (v : F .f32) (c : ℕ) (hc : c < 2 ^ 31) (s : FVec F S1x128x128 .f32) :
    ∃ n, colOf v (BitVec.ofNat 32 c) s = BitVec.ofNat 32 n ∧ n ≤ 2 ^ 30 ∧ (∀ i, ColHit v c s i → n ≤ (i 1).val)
      ∧ (n = 2 ^ 30 ∨ ∃ i, ColHit v c s i ∧ n = (i 1).val) := by
  classical
  let g : S1x128x128.Idx → ℕ := fun i => if ColHit v c s i then (i 1).val else 2 ^ 30
  have hlt : ∀ i : S1x128x128.Idx, (i 1).val < 128 ∧ (i 2).val < 128 := fun i => ⟨(i 1).isLt, (i 2).isLt⟩
  have hg : ∀ i, g i ≤ 2 ^ 30 := fun i => by
    have := hlt i
    show (if ColHit v c s i then _ else _) ≤ _
    split <;> omega
  obtain ⟨n, h1, h2, h3, h4⟩ := minsi_all
    (shapeCast S1x1x128x128
      (select (andi (cmpf .oeq s (broadcast S1x128x128 v)) (cmpi .eq slabCols (broadcast S1x128x128 (BitVec.ofNat 32 c))))
        slabRows (broadcast S1x128x128 1073741824#32)) shapeCasts_S1x128x128_S1x1x128x128)
    (fun i => g (Shape.reshapeEquiv shapeCasts_S1x128x128_S1x1x128x128 i))
    (fun i => by
      generalize hk : Shape.reshapeEquiv shapeCasts_S1x128x128_S1x1x128x128 i = k
      show select _ _ _ (Shape.reshapeEquiv shapeCasts_S1x128x128_S1x1x128x128 i) = _
      rw [hk]
      have e : (BitVec.ofNat 32 ((0 : ℕ) * 128 + (k 2).val) = BitVec.ofNat 32 c) ↔ (k 2).val = c := by
        have := hlt k
        constructor
        · intro h
          have := congrArg BitVec.toNat h
          simp only [BitVec.toNat_ofNat] at this
          omega
        · intro h; rw [h]; simp
      show (if (FloatOps.cmpf .oeq (s k) v) &&& (BitVec.ofBool (BitVec.ofNat 32 ((0 : ℕ) * 128 + (k 2).val) == BitVec.ofNat 32 c)) = 1 then
          BitVec.ofNat 32 ((0 : ℕ) * 128 + (k 1).val) else 1073741824#32) = BitVec.ofNat 32 (if ColHit v c s k then _ else _)
      have hand : ∀ (a : BitVec 1) (b : Bool), (a &&& BitVec.ofBool b = 1) ↔ (a = 1#1 ∧ b = true) := by decide
      by_cases hh : ColHit v c s k
      · rw [if_pos hh, if_pos ((hand _ _).mpr ⟨hh.1, beq_iff_eq.mpr (e.mpr hh.2)⟩)]
        simp
      · rw [if_neg hh, show (1073741824#32 : BitVec 32) = BitVec.ofNat 32 (2 ^ 30) from by decide, if_neg fun h => hh ⟨((hand _ _).mp h).1, e.mp (beq_iff_eq.mp ((hand _ _).mp h).2)⟩])
    (fun i => lt_of_le_of_lt (hg _) (by norm_num))
    reduces_S1x1x128x128_S1 rfl S1_one (Shape.reshapeEquiv shapeCasts_S1_S1x1x1x1 fun a => ⟨(![0, 0, 0, 0] : Fin 4 → ℕ) a, inpos_S1x1x1x1_p0_0_0_0 a⟩)
  have hn : ∀ k : S1x128x128.Idx, n ≤ g k := fun k => by
    have := h3 ((Shape.reshapeEquiv shapeCasts_S1x128x128_S1x1x128x128).symm k)
    simpa using this
  have h0 : n ≤ 2 ^ 30 := le_trans (hn origin3) (hg _)
  refine ⟨n, h1, h0, ?_, ?_⟩
  · intro i hi
    have := hn i
    simp only [g, if_pos hi] at this
    exact this
  · rcases h4 with h4 | ⟨i, h4⟩
    · exfalso; omega
    · by_cases hh : ColHit v c s (Shape.reshapeEquiv shapeCasts_S1x128x128_S1x1x128x128 i)
      · right; exact ⟨_, hh, by simpa only [g, if_pos hh] using h4⟩
      · left; simpa only [g, if_neg hh] using h4

/-! ## The class and the row a place names -/

theorem sgn_pos (n : ℕ) (h0 : 0 < n) (h : n < 2 ^ 31) : sgn (BitVec.ofNat 32 n) = 1#32 := by
  have e : (BitVec.ofNat 32 n).toInt = n := by
    rw [BitVec.toInt_eq_toNat_cond, BitVec.toNat_ofNat, Nat.mod_eq_of_lt (by omega), if_pos (by omega)]
  have h1 : (0#32 : BitVec 32).slt (BitVec.ofNat 32 n) = true := by
    rw [BitVec.slt_iff_toInt_lt, e]; simp; omega
  have h2 : (BitVec.ofNat 32 n).slt 0#32 = false := by
    rw [Bool.eq_false_iff, Ne, BitVec.slt_iff_toInt_lt, e]; simp
  show ((BitVec.ofBool ((0#32 : BitVec 32).slt (BitVec.ofNat 32 n))).setWidth 32)
    - ((BitVec.ofBool ((BitVec.ofNat 32 n).slt 0#32)).setWidth 32) = 1#32
  rw [h1, h2]; rfl

/-- The kernel's rounded-down division of naturals is the natural division. -/
theorem floorDiv_nat (n d : ℕ) (h : n < 2 ^ 31) (hd0 : 0 < d) (hd : d < 2 ^ 31) :
    floorDiv (BitVec.ofNat 32 n) (BitVec.ofNat 32 d) = BitVec.ofNat 32 (n / d) := by
  have hdiv : Scalar.divsi (BitVec.ofNat 32 n) (BitVec.ofNat 32 d) = BitVec.ofNat 32 (n / d) := divsi_word .scalar h hd0 hd
  have hrem : Scalar.remsi (BitVec.ofNat 32 n) (BitVec.ofNat 32 d) = BitVec.ofNat 32 (n % d) := remsi_word .scalar h hd0 hd
  unfold floorDiv
  rw [hdiv, hrem]
  show (if (BitVec.ofBool (sgn (BitVec.ofNat 32 n) != sgn (BitVec.ofNat 32 d)) &&& BitVec.ofBool (BitVec.ofNat 32 (n % d) != 0#32)) = 1
    then _ else _) = _
  rw [if_neg]
  rcases Nat.eq_zero_or_pos n with rfl | hn
  · rw [Nat.zero_mod]; simp
  · rw [sgn_pos n hn h, sgn_pos d hd0 hd]; simp

theorem clsOf_nat (n : ℕ) (h : n < 2 ^ 31) : clsOf (BitVec.ofNat 32 n) = BitVec.ofNat 32 (min 127 (n / 16384)) := by
  unfold clsOf
  rw [show (16384#32 : BitVec 32) = BitVec.ofNat 32 16384 from rfl, floorDiv_nat n 16384 h (by norm_num) (by norm_num)]
  exact minsi_word (a := n / 16384) (b := 127) (by omega) (by norm_num)

theorem rowOf_nat (n : ℕ) (h : n < 2 ^ 31) : rowOf (BitVec.ofNat 32 n) = BitVec.ofNat 32 (min 127 (n % 16384 / 128)) := by
  unfold rowOf
  rw [show (16384#32 : BitVec 32) = BitVec.ofNat 32 16384 from rfl, floorDiv_nat n 16384 h (by norm_num) (by norm_num)]
  have e : Scalar.subi (BitVec.ofNat 32 n) (Scalar.muli (BitVec.ofNat 32 (n / 16384)) (BitVec.ofNat 32 16384)) = BitVec.ofNat 32 (n % 16384) := by
    show BitVec.ofNat 32 n - BitVec.ofNat 32 (n / 16384) * BitVec.ofNat 32 16384 = _
    rw [← BitVec.ofNat_mul]
    apply BitVec.eq_of_toNat_eq
    rw [BitVec.toNat_sub]
    simp only [BitVec.toNat_ofNat]
    omega
  rw [e, show (128#32 : BitVec 32) = BitVec.ofNat 32 128 from rfl, floorDiv_nat (n % 16384) 128 (by omega) (by norm_num) (by norm_num)]
  exact minsi_word (a := n % 16384 / 128) (b := 127) (by omega) (by norm_num)

/-! ## The rows of the scratch buffers -/

/-- The slot an odd or even point extracts from, and the one it fills. -/
def takeSlot (i : grid0.Coords) : ℕ := ((i 0).val + 1) % 2
def fillSlot (i : grid0.Coords) : ℕ := (i 0).val % 2

theorem off4_nat (i : grid0.Coords) (n : ℕ) (h : n < 2 ^ 31) :
    k0_off4 i (BitVec.ofNat 32 n) = ![128 * takeSlot i + min 127 (n % 16384 / 128), 0, 0] := by
  have hi : (i 0).val < 17 := (i 0).isLt
  show ![(Scalar.addi (Scalar.muli (Scalar.remsi (Scalar.addi (BitVec.ofNat 32 (i 0).val) 1#32) 2#32) 128#32) (rowOf (BitVec.ofNat 32 n))).toNat, 0, 0] = _
  rw [rowOf_nat n h]
  have e1 : Scalar.addi (BitVec.ofNat 32 (i 0).val) 1#32 = BitVec.ofNat 32 ((i 0).val + 1) := (BitVec.ofNat_add (n := 32) _ _).symm
  have e2 : Scalar.remsi (BitVec.ofNat 32 ((i 0).val + 1)) 2#32 = BitVec.ofNat 32 (((i 0).val + 1) % 2) :=
    remsi_word .scalar (by omega) (by norm_num) (by norm_num)
  rw [e1, e2]
  show ![(BitVec.ofNat 32 _ * BitVec.ofNat 32 128 + BitVec.ofNat 32 _).toNat, 0, 0] = _
  rw [← BitVec.ofNat_mul, ← BitVec.ofNat_add, BitVec.toNat_ofNat, Nat.mod_eq_of_lt (by omega)]
  unfold takeSlot
  rw [Nat.mul_comm]

theorem off1_nat (i : grid0.Coords) (k : Fin 2) :
    k0_off1 i (BitVec.ofNat 32 (64 * k.val)) = ![128 * fillSlot i + 64 * k.val, 0, 0] := by
  have hi : (i 0).val < 17 := (i 0).isLt
  show ![(Scalar.addi (Scalar.muli (Scalar.remsi (BitVec.ofNat 32 (i 0).val) 2#32) 128#32) (BitVec.ofNat 32 (64 * k.val))).toNat, 0, 0] = _
  have e2 : Scalar.remsi (BitVec.ofNat 32 (i 0).val) 2#32 = BitVec.ofNat 32 ((i 0).val % 2) :=
    remsi_word .scalar (by omega) (by norm_num) (by norm_num)
  rw [e2]
  show ![(BitVec.ofNat 32 _ * BitVec.ofNat 32 128 + BitVec.ofNat 32 _).toNat, 0, 0] = _
  rw [← BitVec.ofNat_mul, ← BitVec.ofNat_add, BitVec.toNat_ofNat, Nat.mod_eq_of_lt (by omega)]
  unfold fillSlot
  rw [Nat.mul_comm]

theorem off2_nat (i : grid0.Coords) (k : Fin 2) :
    k0_off2 i (BitVec.ofNat 32 (64 * k.val)) = ![128 * fillSlot i + 64 * k.val, 0] := by
  have h := congrFun (off1_nat i k) 0
  show ![k0_off1 i (BitVec.ofNat 32 (64 * k.val)) 0, 0] = _
  rw [h]; rfl

theorem off3_nat (i : grid0.Coords) : k0_off3 i = ![128 * takeSlot i, 0] := by
  have hi : (i 0).val < 17 := (i 0).isLt
  show ![(Scalar.muli (Scalar.remsi (Scalar.addi (BitVec.ofNat 32 (i 0).val) 1#32) 2#32) 128#32).toNat, 0] = _
  have e1 : Scalar.addi (BitVec.ofNat 32 (i 0).val) 1#32 = BitVec.ofNat 32 ((i 0).val + 1) := (BitVec.ofNat_add (n := 32) _ _).symm
  have e2 : Scalar.remsi (BitVec.ofNat 32 ((i 0).val + 1)) 2#32 = BitVec.ofNat 32 (((i 0).val + 1) % 2) :=
    remsi_word .scalar (by omega) (by norm_num) (by norm_num)
  rw [e1, e2]
  show ![(BitVec.ofNat 32 _ * BitVec.ofNat 32 128).toNat, 0] = _
  rw [← BitVec.ofNat_mul, BitVec.toNat_ofNat, Nat.mod_eq_of_lt (by omega)]
  unfold takeSlot
  rw [Nat.mul_comm]

/-- The slab the place names always lies inside the scratch buffer. -/
theorem chk (i : grid0.Coords) (t : FVec F S128x128 .f32) : k0_chk1 i (posOf t) := by
  obtain ⟨n, h1, h2, -, -⟩ := posOf_spec t
  have ht : takeSlot i < 2 := Nat.mod_lt _ (by norm_num)
  rw [h1]
  unfold k0_chk1
  rw [off4_nat i n (by omega)]
  intro a
  fin_cases a <;> simp [S1x128x128, S256x128x128] <;> omega

end Cert.KernelIdeal.Body

end
-- ==== Proof.Hoare.lean ====
/- The kernel's body run once over symbolic memrefs: each window's block and each scratch buffer held
   at named values, and what the body leaves in the output block and the two scratch buffers as plain
   functions of them. -/
module

public import proofs.«01_k».proof.Proof.Words
public import proofs.«01_k».proof.Proof.Gen.KernelIdeal.Frame
public import Idealize.ShloMosaic.Lib.Tactic
public import Idealize.ShloMosaic.Lib.VecWindow
public import Idealize.ShloMosaic.Lib.WordCmp

@[expose] public section

set_option synthInstance.maxSize 4096

noncomputable section

namespace Cert.KernelIdeal.Body

open Cert.KernelIdeal Facts₀ Facts
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem
open VecWindow (window put)

variable {F : FTy → Type} [FloatOps F]

local notation "𝕄" => MT nD τ sig Unit (Elt F) ℕ (UR sig nD τ) ℕ

/-! ## Loads and stores by values -/

section Access

variable (c : Dev nD) {sp : CoreSpace} {s : Shape} {e : EltTy} {α : Type}

/-- A load through a unit-stride rectangle of a memref that reads `X` returns the window of `X`. -/
theorem load_owns (m : Memref sig .tc sp s e) (X : s.Idx → Elt F e) (off size : Fin s.rank → ℕ)
    (inb : ∀ a, off a + size a ≤ s.size a) (hl : m.view.LoadsAt (Rect.unit off size inb).toLoadRect)
    (k : ((Rect.unit off size inb).shape.Idx → Elt F e) → Prog (TpuEff nD τ sig (Elt F) Λ₀ .tc) α) (K : α → sProp 𝕄) :
    iprop(owns (c : Thread nD τ) m fullShare X
        ∗ (owns (c : Thread nD τ) m fullShare X -∗
            wp frame (wpE (defs₀ (F := F)) Variants.none (c : Thread nD τ) none) Set.univ (k (window X off size inb)) K))
      ⊢ wp frame (wpE (defs₀ (F := F)) Variants.none (c : Thread nD τ) none) Set.univ
          (.op (.load m (Rect.unit off size inb).toLoadRect hl) k) K := by
  unfold owns
  iintro ⟨⟨%f, %hf, H⟩, Hk⟩
  have hw : window X off size inb = m.view.readAt (Elt F) (Rect.unit off size inb).toLoadRect f := by
    rw [View.readAt_unit m.view f inb rfl inb, hf]
  iapply (wp_load Variants.none (c : Thread nD τ) none Set.univ (m := m) (r := (Rect.unit off size inb).toLoadRect)
    (hl := hl) (k := k) (Q := K) (S := m.view.set) (q := fullShare) (f := f) (m.view.setOn_subset_set _)) $$ [H]
  · iexact H
  iintro H
  rw [← hw]
  iapply Hk
  iexists f
  isplitr
  · ipureintro; exact hf
  iexact H

/-- An unmasked store through a unit-stride rectangle of a memref that reads `X` leaves `X` with the payload put there. -/
theorem store_owns (m : Memref sig .tc sp s e) (X : s.Idx → Elt F e) (off size : Fin s.rank → ℕ)
    (inb : ∀ a, off a + size a ≤ s.size a) (w : (Rect.unit off size inb).shape.Idx → Elt F e)
    (hx : (m.access (Rect.unit off size inb)).Stores Finset.univ)
    (hm : (Finset.univ : Finset (Rect.unit off size inb).shape.Idx) = Finset.univ ∨ ∀ a, (Rect.unit off size inb).stride a = 1)
    (k : PUnit → Prog (TpuEff nD τ sig (Elt F) Λ₀ .tc) α) (K : α → sProp 𝕄) :
    iprop(owns (c : Thread nD τ) m fullShare X
        ∗ (owns (c : Thread nD τ) m fullShare (put X off size w) -∗
            wp frame (wpE (defs₀ (F := F)) Variants.none (c : Thread nD τ) none) Set.univ (k ⟨⟩) K))
      ⊢ wp frame (wpE (defs₀ (F := F)) Variants.none (c : Thread nD τ) none) Set.univ
          (.op (.store m (Rect.unit off size inb) w Finset.univ hx hm) k) K := by
  unfold owns
  iintro ⟨⟨%f, %hf, H⟩, Hk⟩
  iapply (wp_store_writes₀ Variants.none (c : Thread nD τ) none Set.univ (m := m) (r := Rect.unit off size inb) (w := w)
    (hx := hx) (hm := hm) (k := k) (Q := K) (S := m.view.set) (f := f) (View.set_slice_subset _ _)) $$ [H]
  · iexact H
  iintro H
  iapply Hk
  iexists _
  isplitr
  swap
  · iexact H
  ipureintro
  rw [View.read_writes_cons_put m.view f inb w [] rfl, View.writes_nil, hf]

/-- A finished program's postcondition. -/
theorem ret_wp (a : α) (K : α → sProp 𝕄) :
    K a ⊢ wp frame (wpE (defs₀ (F := F)) Variants.none (c : Thread nD τ) none) Set.univ (Prog.ret a) K := by
  rw [wp_ret]; exact BI.fupd_intro

end Access

/-! ## The extraction -/

/-- The slab the place of a table names, in the whole scratch buffer. -/
def slabAt (i : grid0.Coords) (t : FVec F S128x128 .f32) (X9 : FVec F S256x128x128 .f32) : FVec F S1x128x128 .f32 :=
  window X9 (k0_off4 i (posOf t)) S1x128x128.size (chk i t)

/-- The slab with the extracted entry set to zero. -/
def slabAfter (t : FVec F S128x128 .f32) (s : FVec F S1x128x128 .f32) : FVec F S1x128x128 .f32 :=
  slabNext (colOf (maxOf t) (clsOf (posOf t)) s) (clsOf (posOf t)) s

/-- The table after an extraction, and the row it writes. -/
def tabAfter (t : FVec F S128x128 .f32) (s : FVec F S1x128x128 .f32) : FVec F S128x128 .f32 :=
  tabNext (rowOf (posOf t)) (slabAfter t s) t
def rowAfter (t : FVec F S128x128 .f32) (s : FVec F S1x128x128 .f32) : FVec F S1x1x1x8 .f32 :=
  shapeCast S1x1x1x8 (outRow (maxOf t) (clsOf (posOf t)) (rowOf (posOf t)) (colOf (maxOf t) (clsOf (posOf t)) s)
    (colVec (colOf (maxOf t) (clsOf (posOf t)) s) s)) shapeCasts_S1x1x8_S1x1x1x8

/-- The scratch buffer after an extraction. -/
def heatAfter (i : grid0.Coords) (t : FVec F S128x128 .f32) (X9 : FVec F S256x128x128 .f32) : FVec F S256x128x128 .f32 :=
  put X9 (k0_off4 i (posOf t)) S1x128x128.size
    (shapeCast S1x128x128 (slabAfter t (slabAt i t X9)) shapeCasts_S1x128x128_S1x128x128)

/-- The last `n` extractions: the scratch buffer and the output block they leave. -/
def runs (i : grid0.Coords) : ℕ → FVec F S128x128 .f32 → FVec F S256x128x128 .f32 → FVec F S1x40x1x8 .f32 →
    FVec F S256x128x128 .f32 × FVec F S1x40x1x8 .f32
  | 0, _, X9, X8 => (X9, X8)
  | n + 1, t, X9, X8 => runs i n (tabAfter t (slabAt i t X9)) (heatAfter i t X9)
      (put X8 ![0, n, 0, 0] S1x1x1x8.size (rowAfter t (slabAt i t X9)))

section Body

variable (c : Dev nD) (i : grid0.Coords)

theorem step_wp (arg8 : Memref sig .tc .vmem S1x40x1x8 .f32) (arg9 : Memref sig .tc .vmem S256x128x128 .f32)
    (n : ℕ) (hn : n < 40) (t : FVec F S128x128 .f32) (X8 : FVec F S1x40x1x8 .f32) (X9 : FVec F S256x128x128 .f32)
    (K : FVec F S128x128 .f32 → sProp 𝕄) :
    iprop(owns (c : Thread nD τ) arg8 fullShare X8 ∗ owns (c : Thread nD τ) arg9 fullShare X9
        ∗ (owns (c : Thread nD τ) arg8 fullShare (put X8 ![0, n, 0, 0] S1x1x1x8.size (rowAfter t (slabAt i t X9)))
            -∗ owns (c : Thread nD τ) arg9 fullShare (heatAfter i t X9) -∗ K (tabAfter t (slabAt i t X9))))
      ⊢ wp frame (wpE (defs₀ (F := F)) Variants.none (c : Thread nD τ) none) Set.univ (step i arg8 arg9 n hn t) K := by
  unfold tabAfter heatAfter rowAfter slabAfter slabAt step
  simp only [Prog.bind_lift]
  rw [wp_assume_of Variants.none (c : Thread nD τ) none Set.univ (chk i t)]
  iintro ⟨H8, H9, Hk⟩
  iapply (load_owns c arg9 X9)
  isplitl [H9]; · iexact H9
  iintro H9
  iapply (load_owns c arg9 X9)
  isplitl [H9]; · iexact H9
  iintro H9
  iapply (store_owns c arg9 X9)
  isplitl [H9]; · iexact H9
  iintro H9
  iapply (load_owns c arg8 X8)
  isplitl [H8]; · iexact H8
  iintro H8
  iapply (store_owns c arg8 X8)
  isplitl [H8]; · iexact H8
  iintro H8
  iapply (ret_wp c)
  iapply Hk $$ [H8] [H9]
  · iexact H8
  · iexact H9

theorem steps_wp (arg8 : Memref sig .tc .vmem S1x40x1x8 .f32) (arg9 : Memref sig .tc .vmem S256x128x128 .f32)
    (n : ℕ) (hn : n ≤ 40) (t : FVec F S128x128 .f32) (X8 : FVec F S1x40x1x8 .f32) (X9 : FVec F S256x128x128 .f32)
    (K : PUnit → sProp 𝕄) :
    iprop(owns (c : Thread nD τ) arg8 fullShare X8 ∗ owns (c : Thread nD τ) arg9 fullShare X9
        ∗ (owns (c : Thread nD τ) arg8 fullShare (runs i n t X9 X8).2
            -∗ owns (c : Thread nD τ) arg9 fullShare (runs i n t X9 X8).1 -∗ K ⟨⟩))
      ⊢ wp frame (wpE (defs₀ (F := F)) Variants.none (c : Thread nD τ) none) Set.univ (steps i arg8 arg9 n hn t) K := by
  induction n generalizing t X8 X9 with
  | zero =>
    unfold steps runs
    iintro ⟨H8, H9, Hk⟩
    iapply (ret_wp c)
    iapply Hk $$ [H8] [H9]
    · iexact H8
    · iexact H9
  | succ n ih =>
    unfold steps
    rw [wp_bind]
    iintro ⟨H8, H9, Hk⟩
    iapply (step_wp c i arg8 arg9 n hn t X8 X9)
    isplitl [H8]; · iexact H8
    isplitl [H9]; · iexact H9
    iintro H8 H9
    iapply (ih (Nat.le_of_succ_le hn))
    isplitl [H8]; · iexact H8
    isplitl [H9]; · iexact H9
    iexact Hk

end Body

/-! ## The convolution phase -/

/-- The stored heat map and regression lanes of a half image, as functions of the blocks. -/
def halfOf (X2 : FVec F S3x192x192 .f32) (X3 : FVec F S1x1x192 .f32) (X4 : FVec F S64x80 .f32) (X5 : FVec F S1x80 .f32)
    (X6 : FVec F S128x4 .f32) (X7 : FVec F S1x4 .f32) (r : FVec F S65x128x192 .f32) :
    FVec F S65x128x80 .f32 × FVec F S65x128x4 .f32 :=
  let f := feats r (window X2 ![0, 0, 0] S1x192x192.size inb_S3x192x192_S1x192x192_0_0_0)
    (window X2 ![1, 0, 0] S1x192x192.size inb_S3x192x192_S1x192x192_1_0_0)
    (window X2 ![2, 0, 0] S1x192x192.size inb_S3x192x192_S1x192x192_2_0_0)
    (window X3 ![0, 0, 0] S1x1x192.size inb_S1x1x192_S1x1x192_0_0_0)
  (heatOf f (window X4 ![0, 0] S64x80.size inb_S64x80_S64x80_0_0) (window X5 ![0, 0] S1x80.size inb_S1x80_S1x80_0_0),
   regOf f (window X6 ![0, 0] S128x4.size inb_S128x4_S128x4_0_0) (window X7 ![0, 0] S1x4.size inb_S1x4_S1x4_0_0))

/-- The image the block of the first window holds. -/
def imageOf (X1 : FVec F S1x128x128x64 .f32) : FVec F S128x128x64 .f32 :=
  shapeCast S128x128x64 (window X1 ![0, 0, 0, 0] S1x128x128x64.size inb_S1x128x128x64_S1x128x128x64_0_0_0_0)
    shapeCasts_S1x128x128x64_S128x128x64

section Body

variable (c : Dev nD) (i : grid0.Coords)

theorem halfMaps_wp (arg2 : Memref sig .tc .vmem S3x192x192 .f32) (arg3 : Memref sig .tc .vmem S1x1x192 .f32)
    (arg4 : Memref sig .tc .vmem S64x80 .f32) (arg5 : Memref sig .tc .vmem S1x80 .f32)
    (arg6 : Memref sig .tc .vmem S128x4 .f32) (arg7 : Memref sig .tc .vmem S1x4 .f32) (r : FVec F S65x128x192 .f32)
    (X2 : FVec F S3x192x192 .f32) (X3 : FVec F S1x1x192 .f32) (X4 : FVec F S64x80 .f32) (X5 : FVec F S1x80 .f32)
    (X6 : FVec F S128x4 .f32) (X7 : FVec F S1x4 .f32) (K : FVec F S65x128x80 .f32 × FVec F S65x128x4 .f32 → sProp 𝕄) :
    iprop(owns (c : Thread nD τ) arg2 fullShare X2 ∗ owns (c : Thread nD τ) arg3 fullShare X3
        ∗ owns (c : Thread nD τ) arg4 fullShare X4 ∗ owns (c : Thread nD τ) arg5 fullShare X5
        ∗ owns (c : Thread nD τ) arg6 fullShare X6 ∗ owns (c : Thread nD τ) arg7 fullShare X7
        ∗ (owns (c : Thread nD τ) arg2 fullShare X2 -∗ owns (c : Thread nD τ) arg3 fullShare X3
            -∗ owns (c : Thread nD τ) arg4 fullShare X4 -∗ owns (c : Thread nD τ) arg5 fullShare X5
            -∗ owns (c : Thread nD τ) arg6 fullShare X6 -∗ owns (c : Thread nD τ) arg7 fullShare X7
            -∗ K (halfOf X2 X3 X4 X5 X6 X7 r)))
      ⊢ wp frame (wpE (defs₀ (F := F)) Variants.none (c : Thread nD τ) none) Set.univ
          (halfMaps arg2 arg3 arg4 arg5 arg6 arg7 r) K := by
  unfold halfMaps halfOf
  simp only [Prog.bind_lift]
  iintro ⟨H2, H3, H4, H5, H6, H7, Hk⟩
  iapply (load_owns c arg2 X2)
  isplitl [H2]; · iexact H2
  iintro H2
  iapply (load_owns c arg2 X2)
  isplitl [H2]; · iexact H2
  iintro H2
  iapply (load_owns c arg2 X2)
  isplitl [H2]; · iexact H2
  iintro H2
  iapply (load_owns c arg3 X3)
  isplitl [H3]; · iexact H3
  iintro H3
  iapply (load_owns c arg4 X4)
  isplitl [H4]; · iexact H4
  iintro H4
  iapply (load_owns c arg5 X5)
  isplitl [H5]; · iexact H5
  iintro H5
  iapply (load_owns c arg6 X6)
  isplitl [H6]; · iexact H6
  iintro H6
  iapply (load_owns c arg7 X7)
  isplitl [H7]; · iexact H7
  iintro H7
  iapply (ret_wp c)
  iapply Hk $$ [H2] [H3] [H4] [H5] [H6] [H7]
  · iexact H2
  · iexact H3
  · iexact H4
  · iexact H5
  · iexact H6
  · iexact H7

/-- What one half's stores leave in the two scratch buffers. -/
def fillHeat (k : Fin 2) (p : FVec F S64x128x80 .f32) (r : FVec F S64x128x4 .f32) (X9 : FVec F S256x128x128 .f32) :
    FVec F S256x128x128 .f32 := put X9 (k0_off1 i (BitVec.ofNat 32 (64 * k.val))) S64x128x128.size (pack p r)
def fillTab (k : Fin 2) (p : FVec F S64x128x80 .f32) (X10 : FVec F S256x128 .f32) : FVec F S256x128 .f32 :=
  put X10 (k0_off2 i (BitVec.ofNat 32 (64 * k.val))) S64x128.size (colMax p)

theorem putHalf_wp (arg9 : Memref sig .tc .vmem S256x128x128 .f32) (arg10 : Memref sig .tc .vmem S256x128 .f32)
    (k : Fin 2) (p : FVec F S64x128x80 .f32) (r : FVec F S64x128x4 .f32) (X9 : FVec F S256x128x128 .f32)
    (X10 : FVec F S256x128 .f32) (K : PUnit → sProp 𝕄) :
    iprop(owns (c : Thread nD τ) arg9 fullShare X9 ∗ owns (c : Thread nD τ) arg10 fullShare X10
        ∗ (owns (c : Thread nD τ) arg9 fullShare (fillHeat i k p r X9)
            -∗ owns (c : Thread nD τ) arg10 fullShare (fillTab i k p X10) -∗ K ⟨⟩))
      ⊢ wp frame (wpE (defs₀ (F := F)) Variants.none (c : Thread nD τ) none) Set.univ (putHalf i arg9 arg10 k p r) K := by
  unfold putHalf
  simp only [Prog.bind_lift]
  iintro ⟨H9, H10, Hk⟩
  iapply (load_owns c arg9 X9)
  isplitl [H9]; · iexact H9
  iintro H9
  iapply (store_owns c arg9 X9)
  isplitl [H9]; · iexact H9
  iintro H9
  iapply (load_owns c arg10 X10)
  isplitl [H10]; · iexact H10
  iintro H10
  iapply (store_owns c arg10 X10)
  isplitl [H10]; · iexact H10
  iintro H10
  iapply (ret_wp c)
  iapply Hk $$ [H9] [H10]
  · iexact H9
  · iexact H10

/-- Both halves of an image's peaks and regression lanes stored: the heat buffer and the table. -/
def heatFilled (U L : FVec F S65x128x80 .f32 × FVec F S65x128x4 .f32) (X9 : FVec F S256x128x128 .f32) : FVec F S256x128x128 .f32 :=
  fillHeat i 1 (botPeaks L.1) (botReg L.2) (fillHeat i 0 (topPeaks U.1) (topReg U.2) X9)
def tabFilled (U L : FVec F S65x128x80 .f32 × FVec F S65x128x4 .f32) (X10 : FVec F S256x128 .f32) : FVec F S256x128 .f32 :=
  fillTab i 1 (botPeaks L.1) (fillTab i 0 (topPeaks U.1) X10)

/-- The table the extraction starts from. -/
def tabAt (X10 : FVec F S256x128 .f32) : FVec F S128x128 .f32 := window X10 (k0_off3 i) S128x128.size (k0_off3_inb i)

/-- The whole body, run once: the seven input blocks kept, the two scratch buffers filled and then
    extracted from, the output block written. -/
theorem body_wp (arg1 : Memref sig .tc .vmem S1x128x128x64 .f32)
    (arg2 : Memref sig .tc .vmem S3x192x192 .f32) (arg3 : Memref sig .tc .vmem S1x1x192 .f32)
    (arg4 : Memref sig .tc .vmem S64x80 .f32) (arg5 : Memref sig .tc .vmem S1x80 .f32)
    (arg6 : Memref sig .tc .vmem S128x4 .f32) (arg7 : Memref sig .tc .vmem S1x4 .f32)
    (arg8 : Memref sig .tc .vmem S1x40x1x8 .f32) (arg9 : Memref sig .tc .vmem S256x128x128 .f32)
    (arg10 : Memref sig .tc .vmem S256x128 .f32)
    (X1 : FVec F S1x128x128x64 .f32)
    (X2 : FVec F S3x192x192 .f32) (X3 : FVec F S1x1x192 .f32) (X4 : FVec F S64x80 .f32) (X5 : FVec F S1x80 .f32)
    (X6 : FVec F S128x4 .f32) (X7 : FVec F S1x4 .f32) (X8 : FVec F S1x40x1x8 .f32) (X9 : FVec F S256x128x128 .f32)
    (X10 : FVec F S256x128 .f32) (U L : FVec F S65x128x80 .f32 × FVec F S65x128x4 .f32)
    (hU : U = halfOf X2 X3 X4 X5 X6 X7 (topRows (imageOf X1))) (hL : L = halfOf X2 X3 X4 X5 X6 X7 (botRows (imageOf X1)))
    (K : PUnit → sProp 𝕄) :
    iprop(owns (c : Thread nD τ) arg1 fullShare X1
        ∗ owns (c : Thread nD τ) arg2 fullShare X2 ∗ owns (c : Thread nD τ) arg3 fullShare X3
        ∗ owns (c : Thread nD τ) arg4 fullShare X4 ∗ owns (c : Thread nD τ) arg5 fullShare X5
        ∗ owns (c : Thread nD τ) arg6 fullShare X6 ∗ owns (c : Thread nD τ) arg7 fullShare X7
        ∗ owns (c : Thread nD τ) arg8 fullShare X8 ∗ owns (c : Thread nD τ) arg9 fullShare X9
        ∗ owns (c : Thread nD τ) arg10 fullShare X10
        ∗ (owns (c : Thread nD τ) arg1 fullShare X1
            -∗ owns (c : Thread nD τ) arg2 fullShare X2 -∗ owns (c : Thread nD τ) arg3 fullShare X3
            -∗ owns (c : Thread nD τ) arg4 fullShare X4 -∗ owns (c : Thread nD τ) arg5 fullShare X5
            -∗ owns (c : Thread nD τ) arg6 fullShare X6 -∗ owns (c : Thread nD τ) arg7 fullShare X7
            -∗ owns (c : Thread nD τ) arg8 fullShare (runs i 40 (tabAt i (tabFilled i U L X10)) (heatFilled i U L X9) X8).2
            -∗ owns (c : Thread nD τ) arg9 fullShare (runs i 40 (tabAt i (tabFilled i U L X10)) (heatFilled i U L X9) X8).1
            -∗ owns (c : Thread nD τ) arg10 fullShare (tabFilled i U L X10)
            -∗ K ⟨⟩))
      ⊢ wp frame (wpE (defs₀ (F := F)) Variants.none (c : Thread nD τ) none) Set.univ
          (body i arg1 arg2 arg3 arg4 arg5 arg6 arg7 arg8 arg9 arg10) K := by
  unfold body
  simp only [Prog.bind_lift]
  iintro ⟨H1, H2, H3, H4, H5, H6, H7, H8, H9, H10, Hk⟩
  iapply (load_owns c arg1 X1)
  isplitl [H1]; · iexact H1
  iintro H1
  rw [wp_bind]
  iapply (halfMaps_wp c arg2 arg3 arg4 arg5 arg6 arg7 (topRows (imageOf X1)) X2 X3 X4 X5 X6 X7)
  isplitl [H2]; · iexact H2
  isplitl [H3]; · iexact H3
  isplitl [H4]; · iexact H4
  isplitl [H5]; · iexact H5
  isplitl [H6]; · iexact H6
  isplitl [H7]; · iexact H7
  iintro H2 H3 H4 H5 H6 H7
  rw [← hU, wp_bind]
  iapply (putHalf_wp c i arg9 arg10 0 (topPeaks U.1) (topReg U.2) X9 X10)
  isplitl [H9]; · iexact H9
  isplitl [H10]; · iexact H10
  iintro H9 H10
  rw [wp_bind]
  iapply (halfMaps_wp c arg2 arg3 arg4 arg5 arg6 arg7 (botRows (imageOf X1)) X2 X3 X4 X5 X6 X7)
  isplitl [H2]; · iexact H2
  isplitl [H3]; · iexact H3
  isplitl [H4]; · iexact H4
  isplitl [H5]; · iexact H5
  isplitl [H6]; · iexact H6
  isplitl [H7]; · iexact H7
  iintro H2 H3 H4 H5 H6 H7
  rw [← hL, wp_bind]
  iapply (putHalf_wp c i arg9 arg10 1 (botPeaks L.1) (botReg L.2))
  isplitl [H9]; · iexact H9
  isplitl [H10]; · iexact H10
  iintro H9 H10
  iapply (load_owns c arg10)
  isplitl [H10]; · iexact H10
  iintro H10
  iapply (steps_wp c i arg8 arg9 40)
  isplitl [H8]; · iexact H8
  isplitl [H9]; · iexact H9
  iintro H8 H9
  iapply Hk $$ [H1] [H2] [H3] [H4] [H5] [H6] [H7] [H8] [H9] [H10]
  · iexact H1
  · iexact H2
  · iexact H3
  · iexact H4
  · iexact H5
  · iexact H6
  · iexact H7
  · iexact H8
  · iexact H9
  · iexact H10

end Body

end Cert.KernelIdeal.Body

end
-- ==== Proof.Slots.lean ====
/- The two slots of the scratch buffers. One run of the body fills one slot and extracts from the other;
   here the extraction is followed inside its slot alone, so that the forty output rows are a function of
   the slot's heat map and table and of nothing else. -/
module

public import proofs.«01_k».proof.Proof.Hoare
public import Idealize.ShloMosaic.Lib.Pointwise.Index

@[expose] public section

set_option synthInstance.maxSize 4096

noncomputable section

namespace Cert.KernelIdeal.Body

open Cert.KernelIdeal Facts₀ Facts
open Idealize.ShloMosaic
open VecWindow (window put)

/-! ## Windows of puts -/

section General

variable {α : Type} {s : Shape}

/-- A window of a put that lies inside the window is the put, moved, of the window. -/
theorem window_put_within (x : s.Idx → α) (off size off' size' offl : Fin s.rank → ℕ) (inb' : ∀ a, off' a + size' a ≤ s.size a)
    (w : ((a : Fin s.rank) → Fin (size a)) → α) (h : ∀ a, off a = off' a + offl a) :
    window (put x off size w) off' size' inb'
      = put (s := ⟨s.rank, size'⟩) (window x off' size' inb') offl size w := by
  funext y
  unfold put window
  beta_reduce
  have e : ∀ a, ((Rect.unit off' size' inb').emb y a).val = off' a + 1 * (y a).val := fun _ => rfl
  by_cases hm : ∀ a, off a ≤ ((Rect.unit off' size' inb').emb y a).val ∧ ((Rect.unit off' size' inb').emb y a).val < off a + size a
  · have hm' : ∀ a : Fin s.rank, offl a ≤ (y a).val ∧ (y a).val < offl a + size a := fun a => by
      have := hm a; have := e a; have := h a; omega
    rw [dif_pos hm, dif_pos hm']
    exact congrArg w (funext fun a => Fin.ext (by
      show ((Rect.unit off' size' inb').emb y a).val - off a = (y a).val - offl a
      have := e a; have := h a; omega))
  · have hm' : ¬ ∀ a : Fin s.rank, offl a ≤ (y a).val ∧ (y a).val < offl a + size a := fun h' => hm fun a => by
      have := h' a; have := e a; have := h a; omega
    rw [dif_neg hm, dif_neg hm']

/-- A window of a window is the window at the sum of the offsets. -/
theorem window_window (x : s.Idx → α) (off size off' size' offl : Fin s.rank → ℕ) (inb : ∀ a, off a + size a ≤ s.size a)
    (inb' : ∀ a, off' a + size' a ≤ s.size a) (inbl : ∀ a, offl a + size a ≤ size' a) (h : ∀ a, off a = off' a + offl a) :
    window x off size inb = window (s := ⟨s.rank, size'⟩) (window x off' size' inb') offl size inbl := by
  funext y
  exact congrArg x (funext fun a => Fin.ext (by
    show off a + 1 * (y a).val = off' a + 1 * (offl a + 1 * (y a).val)
    have := h a; omega))

end General

variable {F : FTy → Type} [FloatOps F]

/-! ## The slots -/

/-- The shape of one slot of the heat buffer. -/
abbrev S128x128x128 : Shape := ⟨3, ![128, 128, 128]⟩

theorem slot_inb (k : Fin 2) : ∀ a, (![128 * k.val, 0, 0] : Fin 3 → ℕ) a + S128x128x128.size a ≤ S256x128x128.size a := by
  have := k.isLt
  intro a; fin_cases a <;> simp [S128x128x128, S256x128x128] <;> omega
theorem tslot_inb (k : Fin 2) : ∀ a, (![128 * k.val, 0] : Fin 2 → ℕ) a + S128x128.size a ≤ S256x128.size a := by
  have := k.isLt
  intro a; fin_cases a <;> simp [S128x128, S256x128] <;> omega

/-- A slot of the heat buffer, and of the table buffer. -/
def slotHeat (k : Fin 2) (X : FVec F S256x128x128 .f32) : FVec F S128x128x128 .f32 :=
  window X ![128 * k.val, 0, 0] S128x128x128.size (slot_inb k)
def slotTab (k : Fin 2) (X : FVec F S256x128 .f32) : FVec F S128x128 .f32 :=
  window X ![128 * k.val, 0] S128x128.size (tslot_inb k)

/-- The slot a point extracts from, and the slot it fills. -/
def takes (i : grid0.Coords) : Fin 2 := ⟨takeSlot i, Nat.mod_lt _ (by norm_num)⟩
def fills (i : grid0.Coords) : Fin 2 := ⟨fillSlot i, Nat.mod_lt _ (by norm_num)⟩

theorem fills_ne_takes (i : grid0.Coords) : (fills i).val ≠ (takes i).val := by
  show (i 0).val % 2 ≠ ((i 0).val + 1) % 2
  omega

/-- The image row of the entry a table names, as a number. -/
def rowNat (t : FVec F S128x128 .f32) : ℕ := (rowOf (posOf t)).toNat

theorem rowNat_le (t : FVec F S128x128 .f32) : rowNat t ≤ 127 := by
  obtain ⟨n, h1, h2, -, -⟩ := posOf_spec t
  unfold rowNat
  rw [h1, rowOf_nat n (by omega), BitVec.toNat_ofNat]
  have : min 127 (n % 16384 / 128) ≤ 127 := Nat.min_le_left _ _
  omega

theorem row_inb (t : FVec F S128x128 .f32) : ∀ a, (![rowNat t, 0, 0] : Fin 3 → ℕ) a + S1x128x128.size a ≤ S128x128x128.size a := by
  have := rowNat_le t
  intro a; fin_cases a <;> simp [S128x128x128, S1x128x128] <;> omega

theorem off4_row (i : grid0.Coords) (t : FVec F S128x128 .f32) :
    k0_off4 i (posOf t) = ![128 * (takes i).val + rowNat t, 0, 0] := by
  obtain ⟨n, h1, h2, -, -⟩ := posOf_spec t
  unfold rowNat
  rw [h1, off4_nat i n (by omega), rowOf_nat n (by omega), BitVec.toNat_ofNat]
  have : min 127 (n % 16384 / 128) ≤ 127 := Nat.min_le_left _ _
  rw [Nat.mod_eq_of_lt (show min 127 (n % 16384 / 128) < 2 ^ 32 by omega)]
  rfl

/-! ## One extraction inside the slot -/

/-- The slab a table names, in a slot, and the slot after an extraction. -/
def slabIn (t : FVec F S128x128 .f32) (H : FVec F S128x128x128 .f32) : FVec F S1x128x128 .f32 :=
  window H ![rowNat t, 0, 0] S1x128x128.size (row_inb t)
def heatIn (t : FVec F S128x128 .f32) (H : FVec F S128x128x128 .f32) : FVec F S128x128x128 .f32 :=
  put H ![rowNat t, 0, 0] S1x128x128.size
    (shapeCast S1x128x128 (slabAfter t (slabIn t H)) shapeCasts_S1x128x128_S1x128x128)

theorem window_off_congr {α : Type} {s : Shape} (x : s.Idx → α) (off off' size : Fin s.rank → ℕ) (inb : ∀ a, off a + size a ≤ s.size a)
    (inb' : ∀ a, off' a + size a ≤ s.size a) (h : off = off') : window x off size inb = window x off' size inb' := by
  subst h; rfl

theorem slabAt_eq (i : grid0.Coords) (t : FVec F S128x128 .f32) (X : FVec F S256x128x128 .f32) :
    slabAt i t X = slabIn t (slotHeat (takes i) X) :=
  window_window X _ S1x128x128.size ![128 * (takes i).val, 0, 0] S128x128x128.size ![rowNat t, 0, 0] _ (slot_inb _) (row_inb t)
    (fun a => by rw [off4_row]; fin_cases a <;> rfl)

theorem slot_heatAfter (i : grid0.Coords) (t : FVec F S128x128 .f32) (X : FVec F S256x128x128 .f32) :
    slotHeat (takes i) (heatAfter i t X) = heatIn t (slotHeat (takes i) X) := by
  unfold heatAfter heatIn
  rw [slabAt_eq]
  exact window_put_within X _ S1x128x128.size ![128 * (takes i).val, 0, 0] S128x128x128.size ![rowNat t, 0, 0] (slot_inb _) _
    (fun a => by rw [off4_row]; fin_cases a <;> rfl)

theorem other_heatAfter (i : grid0.Coords) (t : FVec F S128x128 .f32) (X : FVec F S256x128x128 .f32) :
    slotHeat (fills i) (heatAfter i t X) = slotHeat (fills i) X := by
  unfold heatAfter slotHeat
  refine VecWindow.window_put_of_disjoint X _ _ _ _ _ _ 0 ?_
  rw [off4_row]
  have h1 := fills_ne_takes i
  have h2 := rowNat_le t
  have h3 := (fills i).isLt
  have h4 := (takes i).isLt
  show 128 * (fills i).val + 128 ≤ 128 * (takes i).val + rowNat t ∨ 128 * (takes i).val + rowNat t + 1 ≤ 128 * (fills i).val
  omega

/-! ## All extractions inside the slot -/

/-- The table and the slot after one more extraction, and after `k`. -/
def next (p : FVec F S128x128 .f32 × FVec F S128x128x128 .f32) : FVec F S128x128 .f32 × FVec F S128x128x128 .f32 :=
  (tabAfter p.1 (slabIn p.1 p.2), heatIn p.1 p.2)
def states : ℕ → FVec F S128x128 .f32 × FVec F S128x128x128 .f32 → FVec F S128x128 .f32 × FVec F S128x128x128 .f32
  | 0, p => p
  | k + 1, p => states k (next p)

/-- The row an extraction writes. -/
def rowIn (p : FVec F S128x128 .f32 × FVec F S128x128x128 .f32) (l : Fin 8) : F .f32 :=
  rowAfter p.1 (slabIn p.1 p.2) (ix4 0 0 0 l)

/-- The output block of forty extractions: the first written to the last row. -/
def blockOf (p : FVec F S128x128 .f32 × FVec F S128x128x128 .f32) : FVec F S1x40x1x8 .f32 :=
  fun j => rowIn (states (39 - (j 1).val) p) (j 3)

theorem runs_row (i : grid0.Coords) (n : ℕ) (t : FVec F S128x128 .f32) (X : FVec F S256x128x128 .f32) (Y : FVec F S1x40x1x8 .f32)
    (j : S1x40x1x8.Idx) :
    (runs i n t X Y).2 j = if (j 1).val < n then rowIn (states (n - 1 - (j 1).val) (t, slotHeat (takes i) X)) (j 3) else Y j := by
  induction n generalizing t X Y with
  | zero => rfl
  | succ n ih =>
    unfold runs
    rw [ih, slot_heatAfter, slabAt_eq]
    by_cases h1 : (j 1).val < n
    · rw [if_pos h1, if_pos (by omega), show n + 1 - 1 - (j 1).val = (n - 1 - (j 1).val) + 1 by omega]
      rfl
    · rw [if_neg h1]
      have hj0 : (j 0).val < 1 := (j 0).isLt
      have hj2 : (j 2).val < 1 := (j 2).isLt
      have hj3 : (j 3).val < 8 := (j 3).isLt
      by_cases h2 : (j 1).val = n
      · rw [if_pos (by omega), show n + 1 - 1 - (j 1).val = 0 by omega]
        unfold put
        have hm : ∀ a : Fin 4, (![0, n, 0, 0] : Fin 4 → ℕ) a ≤ (j a).val ∧ (j a).val < (![0, n, 0, 0] : Fin 4 → ℕ) a + S1x1x1x8.size a := by
          intro a
          fin_cases a <;> simp [S1x1x1x8] <;> omega
        rw [dif_pos hm]
        refine congrArg (rowAfter t (slabIn t (slotHeat (takes i) X))) (funext fun a => Fin.ext ?_)
        show (j a).val - (![0, n, 0, 0] : Fin 4 → ℕ) a = (ix4 (0 : Fin 1) (0 : Fin 1) (0 : Fin 1) (j 3) a).val
        fin_cases a <;> simp [ix4] <;> omega
      · rw [if_neg (by omega)]
        unfold put
        rw [dif_neg]
        intro hm
        have := hm 1
        simp [S1x1x1x8] at this
        omega

/-- The output block the body leaves is that of the slot it extracts from. -/
theorem runs_block (i : grid0.Coords) (t : FVec F S128x128 .f32) (X : FVec F S256x128x128 .f32) (Y : FVec F S1x40x1x8 .f32) :
    (runs i 40 t X Y).2 = blockOf (t, slotHeat (takes i) X) := by
  funext j
  rw [runs_row, if_pos (show (j 1).val < 40 from (j 1).isLt)]
  rfl

/-- The extraction leaves the other slot as it was. -/
theorem runs_other (i : grid0.Coords) (n : ℕ) (t : FVec F S128x128 .f32) (X : FVec F S256x128x128 .f32) (Y : FVec F S1x40x1x8 .f32) :
    slotHeat (fills i) (runs i n t X Y).1 = slotHeat (fills i) X := by
  induction n generalizing t X Y with
  | zero => rfl
  | succ n ih => unfold runs; rw [ih, other_heatAfter]

/-! ## Filling -/

/-- The heat map and the table of an image from the stored halves. -/
def heatSlot (U L : FVec F S65x128x80 .f32 × FVec F S65x128x4 .f32) : FVec F S128x128x128 .f32 := fun j =>
  if h : (j 0).val < 64 then pack (topPeaks U.1) (topReg U.2) (ix3 ⟨(j 0).val, h⟩ (j 1) (j 2))
  else pack (botPeaks L.1) (botReg L.2) (ix3 ⟨(j 0).val - 64, by have : (j 0).val < 128 := (j 0).isLt; omega⟩ (j 1) (j 2))
def tabSlot (U L : FVec F S65x128x80 .f32 × FVec F S65x128x4 .f32) : FVec F S128x128 .f32 := fun j =>
  if h : (j 0).val < 64 then colMax (topPeaks U.1) (ix2 ⟨(j 0).val, h⟩ (j 1))
  else colMax (botPeaks L.1) (ix2 ⟨(j 0).val - 64, by have : (j 0).val < 128 := (j 0).isLt; omega⟩ (j 1))

theorem off1_0 (i : grid0.Coords) : k0_off1 i (BitVec.ofNat 32 (64 * (0 : Fin 2).val)) = ![128 * (fills i).val + 0, 0, 0] := off1_nat i 0
theorem off1_1 (i : grid0.Coords) : k0_off1 i (BitVec.ofNat 32 (64 * (1 : Fin 2).val)) = ![128 * (fills i).val + 64, 0, 0] := off1_nat i 1
theorem off2_0 (i : grid0.Coords) : k0_off2 i (BitVec.ofNat 32 (64 * (0 : Fin 2).val)) = ![128 * (fills i).val + 0, 0] := off2_nat i 0
theorem off2_1 (i : grid0.Coords) : k0_off2 i (BitVec.ofNat 32 (64 * (1 : Fin 2).val)) = ![128 * (fills i).val + 64, 0] := off2_nat i 1

theorem put_put_heat (H : FVec F S128x128x128 .f32) (w w' : FVec F S64x128x128 .f32) (j : S128x128x128.Idx) :
    put (put H ![0, 0, 0] S64x128x128.size w) ![64, 0, 0] S64x128x128.size w' j
      = if h : (j 0).val < 64 then w (ix3 ⟨(j 0).val, h⟩ (j 1) (j 2))
        else w' (ix3 ⟨(j 0).val - 64, by have : (j 0).val < 128 := (j 0).isLt; omega⟩ (j 1) (j 2)) := by
  have h0 : (j 0).val < 128 := (j 0).isLt
  have h1 : (j 1).val < 128 := (j 1).isLt
  have h2 : (j 2).val < 128 := (j 2).isLt
  unfold put
  by_cases h : (j 0).val < 64
  · rw [dif_pos h, dif_neg, dif_pos]
    · refine congrArg w (funext fun a => Fin.ext ?_)
      show (j a).val - (![0, 0, 0] : Fin 3 → ℕ) a = _
      fin_cases a <;> simp [ix3]
    · intro a; fin_cases a <;> simp [S64x128x128] <;> omega
    · intro hm; have := (hm 0).1; simp at this; omega
  · rw [dif_neg h, dif_pos]
    · refine congrArg w' (funext fun a => Fin.ext ?_)
      show (j a).val - (![64, 0, 0] : Fin 3 → ℕ) a = _
      fin_cases a <;> simp [ix3]
    · intro a; fin_cases a <;> simp [S64x128x128] <;> omega

theorem put_put_tab (H : FVec F S128x128 .f32) (w w' : FVec F S64x128 .f32) (j : S128x128.Idx) :
    put (put H ![0, 0] S64x128.size w) ![64, 0] S64x128.size w' j
      = if h : (j 0).val < 64 then w (ix2 ⟨(j 0).val, h⟩ (j 1))
        else w' (ix2 ⟨(j 0).val - 64, by have : (j 0).val < 128 := (j 0).isLt; omega⟩ (j 1)) := by
  have h0 : (j 0).val < 128 := (j 0).isLt
  have h1 : (j 1).val < 128 := (j 1).isLt
  unfold put
  by_cases h : (j 0).val < 64
  · rw [dif_pos h, dif_neg, dif_pos]
    · refine congrArg w (funext fun a => Fin.ext ?_)
      show (j a).val - (![0, 0] : Fin 2 → ℕ) a = _
      fin_cases a <;> simp [ix2]
    · intro a; fin_cases a <;> simp [S64x128] <;> omega
    · intro hm; have := (hm 0).1; simp at this; omega
  · rw [dif_neg h, dif_pos]
    · refine congrArg w' (funext fun a => Fin.ext ?_)
      show (j a).val - (![64, 0] : Fin 2 → ℕ) a = _
      fin_cases a <;> simp [ix2]
    · intro a; fin_cases a <;> simp [S64x128] <;> omega

/-- The filled slot holds the image's heat map and table. -/
theorem slot_heatFilled (i : grid0.Coords) (U L : FVec F S65x128x80 .f32 × FVec F S65x128x4 .f32) (X : FVec F S256x128x128 .f32) :
    slotHeat (fills i) (heatFilled i U L X) = heatSlot U L := by
  have h1 : ∀ Z : FVec F S256x128x128 .f32, ∀ w : FVec F S64x128x128 .f32,
      slotHeat (fills i) (put Z (k0_off1 i (BitVec.ofNat 32 (64 * (1 : Fin 2).val))) S64x128x128.size w)
        = put (slotHeat (fills i) Z) ![64, 0, 0] S64x128x128.size w := fun Z w =>
    window_put_within Z _ S64x128x128.size ![128 * (fills i).val, 0, 0] S128x128x128.size ![64, 0, 0] (slot_inb _) w
      (fun a => by rw [off1_1]; fin_cases a <;> rfl)
  have h0 : ∀ Z : FVec F S256x128x128 .f32, ∀ w : FVec F S64x128x128 .f32,
      slotHeat (fills i) (put Z (k0_off1 i (BitVec.ofNat 32 (64 * (0 : Fin 2).val))) S64x128x128.size w)
        = put (slotHeat (fills i) Z) ![0, 0, 0] S64x128x128.size w := fun Z w =>
    window_put_within Z _ S64x128x128.size ![128 * (fills i).val, 0, 0] S128x128x128.size ![0, 0, 0] (slot_inb _) w
      (fun a => by rw [off1_0]; fin_cases a <;> rfl)
  unfold heatFilled fillHeat
  refine (h1 _ _).trans ?_
  rw [h0]
  funext j
  exact put_put_heat _ _ _ j

theorem slot_tabFilled (i : grid0.Coords) (U L : FVec F S65x128x80 .f32 × FVec F S65x128x4 .f32) (X : FVec F S256x128 .f32) :
    slotTab (fills i) (tabFilled i U L X) = tabSlot U L := by
  have h1 : ∀ Z : FVec F S256x128 .f32, ∀ w : FVec F S64x128 .f32,
      slotTab (fills i) (put Z (k0_off2 i (BitVec.ofNat 32 (64 * (1 : Fin 2).val))) S64x128.size w)
        = put (slotTab (fills i) Z) ![64, 0] S64x128.size w := fun Z w =>
    window_put_within Z _ S64x128.size ![128 * (fills i).val, 0] S128x128.size ![64, 0] (tslot_inb _) w
      (fun a => by rw [off2_1]; fin_cases a <;> rfl)
  have h0 : ∀ Z : FVec F S256x128 .f32, ∀ w : FVec F S64x128 .f32,
      slotTab (fills i) (put Z (k0_off2 i (BitVec.ofNat 32 (64 * (0 : Fin 2).val))) S64x128.size w)
        = put (slotTab (fills i) Z) ![0, 0] S64x128.size w := fun Z w =>
    window_put_within Z _ S64x128.size ![128 * (fills i).val, 0] S128x128.size ![0, 0] (tslot_inb _) w
      (fun a => by rw [off2_0]; fin_cases a <;> rfl)
  unfold tabFilled fillTab
  refine (h1 _ _).trans ?_
  rw [h0]
  funext j
  exact put_put_tab _ _ _ j

/-- Filling leaves the other slot as it was. -/
theorem other_heatFilled (i : grid0.Coords) (U L : FVec F S65x128x80 .f32 × FVec F S65x128x4 .f32) (X : FVec F S256x128x128 .f32) :
    slotHeat (takes i) (heatFilled i U L X) = slotHeat (takes i) X := by
  have h1 := fills_ne_takes i
  have h3 := (fills i).isLt
  have h4 := (takes i).isLt
  unfold heatFilled fillHeat slotHeat
  rw [VecWindow.window_put_of_disjoint _ _ _ _ _ _ _ 0 ?_, VecWindow.window_put_of_disjoint _ _ _ _ _ _ _ 0 ?_]
  · rw [off1_0]
    show 128 * (takes i).val + 128 ≤ 128 * (fills i).val + 0 ∨ 128 * (fills i).val + 0 + 64 ≤ 128 * (takes i).val
    omega
  · rw [off1_1]
    show 128 * (takes i).val + 128 ≤ 128 * (fills i).val + 64 ∨ 128 * (fills i).val + 64 + 64 ≤ 128 * (takes i).val
    omega

theorem other_tabFilled (i : grid0.Coords) (U L : FVec F S65x128x80 .f32 × FVec F S65x128x4 .f32) (X : FVec F S256x128 .f32) :
    slotTab (takes i) (tabFilled i U L X) = slotTab (takes i) X := by
  have h1 := fills_ne_takes i
  have h3 := (fills i).isLt
  have h4 := (takes i).isLt
  unfold tabFilled fillTab slotTab
  rw [VecWindow.window_put_of_disjoint _ _ _ _ _ _ _ 0 ?_, VecWindow.window_put_of_disjoint _ _ _ _ _ _ _ 0 ?_]
  · rw [off2_0]
    show 128 * (takes i).val + 128 ≤ 128 * (fills i).val + 0 ∨ 128 * (fills i).val + 0 + 64 ≤ 128 * (takes i).val
    omega
  · rw [off2_1]
    show 128 * (takes i).val + 128 ≤ 128 * (fills i).val + 64 ∨ 128 * (fills i).val + 64 + 64 ≤ 128 * (takes i).val
    omega

/-- The table the extraction starts from is its slot's. -/
theorem tabAt_eq (i : grid0.Coords) (X : FVec F S256x128 .f32) : tabAt i X = slotTab (takes i) X :=
  window_off_congr X _ _ _ _ _ (off3_nat i)

end Cert.KernelIdeal.Body

end
-- ==== Proof.KernelEq.lean ====
/- The printed body is the body written by hand: the convolution phase followed by forty equal steps. -/
module

public import proofs.«01_k».proof.Proof.Conv

@[expose] public section

noncomputable section

namespace Cert.KernelIdeal.Body

open Idealize.ShloMosaic Idealize.SL.Sem
open Cert.KernelIdeal

variable {F : FTy → Type} [FloatOps F]

set_option maxRecDepth 100000 in
set_option maxHeartbeats 40000000 in
/-- The printed body is this body. -/
theorem kernel_eq (i : grid0.Coords) (arg1 : Memref sig .tc .vmem S1x128x128x64 .f32) (harg1 : arg1.IsWhole)
    (arg2 : Memref sig .tc .vmem S3x192x192 .f32) (harg2 : arg2.IsWhole) (arg3 : Memref sig .tc .vmem S1x1x192 .f32) (harg3 : arg3.IsWhole)
    (arg4 : Memref sig .tc .vmem S64x80 .f32) (harg4 : arg4.IsWhole) (arg5 : Memref sig .tc .vmem S1x80 .f32) (harg5 : arg5.IsWhole)
    (arg6 : Memref sig .tc .vmem S128x4 .f32) (harg6 : arg6.IsWhole) (arg7 : Memref sig .tc .vmem S1x4 .f32) (harg7 : arg7.IsWhole)
    (arg8 : Memref sig .tc .vmem S1x40x1x8 .f32) (harg8 : arg8.IsWhole) (arg9 : Memref sig .tc .vmem S256x128x128 .f32) (harg9 : arg9.IsWhole)
    (arg10 : Memref sig .tc .vmem S256x128 .f32) (harg10 : arg10.IsWhole) :
    cc0__centernet_kernel (F := F) i arg1 harg1 arg2 harg2 arg3 harg3 arg4 harg4 arg5 harg5 arg6 harg6 arg7 harg7 arg8 harg8 arg9 harg9 arg10 harg10
      = body i arg1 arg2 arg3 arg4 arg5 arg6 arg7 arg8 arg9 arg10 := rfl

end Cert.KernelIdeal.Body

end
-- ==== Proof.RegionTail.lean ====
/- A launch of one pipelined region followed by host lines, for proof data that are exact about some
   windows and hold others to a predicate. Besides what each window's array holds at the end, it names
   what the host lines leave: the lines' own outcome over contents that the arrays may hold. -/
module

public import Idealize.ShloMosaic.Lib.Pipeline.FrameSuffix
public import Idealize.ShloMosaic.Lib.Pipeline.DatRel
public import Idealize.ShloMosaic.Lib.Pipeline.ArrRel

@[expose] public section

noncomputable section

namespace Cert.KernelIdeal.Body

open Idealize.ShloMosaic Idealize.ShloMosaic.TcCoe
open Idealize.SL Idealize.SL.RA
open Idealize.SL.BI (sProp bigSep)
open scoped Idealize.SL.BI
open Idealize.ShloMosaic.Pipeline Idealize.ShloMosaic.Rounds
open Idealize.SL.BI.BIBase Idealize.SL.BI.Laws Idealize.SL.ProofMode Idealize.SL.Sem

section

variable {nD : Nat} {τ : Topo} {sig : RefSig} {Val : EltTy → Type}
variable {Λ₀ : Idealize.SL.Sem.Labels} {P : Type} [Fintype P] [DecidableEq P] [∀ e, Nonempty (Val e)]
variable (cfgs : P → Cfg sig Λ₀) (p : P) (kit : LaunchFacts (nD := nD) (τ := τ) cfgs p)
  (defs₀ : Defs nD τ sig Val Λ₀) (𝒱₀ : Variants)
  (rdat : (c : Dev nD) → RDat τ Val Unit ℕ (UR sig nD τ) ℕ (cfgs p) c)
  (V₀ : Dev nD → Valuation τ sig Val) (opss : List (List (HloOp τ sig Val)))

local notation "𝕄" => MT nD τ sig Unit Val ℕ (UR sig nD τ) ℕ

/-- What a core's memory holds after the region and the lines that follow: every window's array some
    contents it may hold after the last write-back, and every buffer that bypasses the region what the
    lines leave there, started from some such contents of the arrays. -/
def TailPost (mem : (ℓ : Loc nD τ sig) → Buf Val ℓ) (c : Dev nD) : Prop :=
  (∀ w, (rdat c).ArrAt w (cfgs p).N (mem (((cfgs p).spec w).arr.view.loc (c.tc : Thread nD τ))))
    ∧ ∃ A, (∀ w, (rdat c).ArrAt w (cfgs p).N (A w))
        ∧ ∀ b : Ref sig .tc, b ∈ restRefsP sig Prefetch.none (cfgs p).spec →
            mem ((c.tc : Thread nD τ).loc b)
              = StableHlo.after opss.flatten (withArrays (cfgs p).spec c (V₀ c) A) (Proc.devRef .tc b)

omit [Fintype P] [DecidableEq P] in
/-- The arrays after the region are held at contents they may hold, all named at once. -/
theorem arraysAt_open (c : Dev nD) (n : ℕ) :
    ((rdat c).arraysAt n : sProp 𝕄) ⊢ iprop(∃ A, ⌜∀ w, (rdat c).ArrAt w n (A w)⌝ ∗ (rdat c).arrays A) := by
  unfold RDat.arraysAt
  iintro Ha
  ihave Hb := (BI.bigSep_exists_pi Finset.univ (fun w G => iprop(⌜(rdat c).ArrAt w n G⌝
      ∗ ((cfgs p).win w).arr.view.loc (c.tc : Thread nD τ) ↦[((cfgs p).win w).arr.view.set]{(rdat c).share w} G))) $$ Ha
  icases Hb with ⟨%A, Hb⟩
  ihave Hd := (BI.bigSep_pure_sep Finset.univ (fun w => (rdat c).ArrAt w n (A w))
      (fun w => ((cfgs p).win w).arr.view.loc (c.tc : Thread nD τ) ↦[((cfgs p).win w).arr.view.set]{(rdat c).share w} A w)) $$ Hb
  icases Hd with ⟨%hA, Hd⟩
  iexists A
  isplitr
  · ipureintro; exact fun w => hA w (Finset.mem_univ w)
  unfold RDat.arrays
  iexact Hd

omit [Fintype P] [DecidableEq P] [∀ e, Nonempty (Val e)] in
/-- Arrays held at contents they may hold are the arrays after the region. -/
theorem arraysAt_close (c : Dev nD) (n : ℕ) (A) (hA : ∀ w, (rdat c).ArrAt w n (A w)) :
    ((rdat c).arrays A : sProp 𝕄) ⊢ (rdat c).arraysAt n := by
  unfold RDat.arraysAt RDat.arrays
  refine BI.bigSep_mono fun w _ => ?_
  show (((cfgs p).win w).arr.view.loc (c.tc : Thread nD τ) ↦[((cfgs p).win w).arr.view.set]{(rdat c).share w} A w : sProp 𝕄)
    ⊢ iprop(∃ G, ⌜(rdat c).ArrAt w n G⌝ ∗ ((cfgs p).win w).arr.view.loc (c.tc : Thread nD τ) ↦[((cfgs p).win w).arr.view.set]{(rdat c).share w} G)
  iintro H
  iexists (A w)
  isplitr
  · ipureintro; exact hA w
  iexact H

include kit in
/-- The launch. If the body meets its obligation, the lines after the region touch only the arrays and
    bypassing buffers, determine what they write and write no array, then every run ends with `TailPost`
    on every core and all semaphores at zero. -/
theorem run_region_tail
    (m : (ℓ : Loc nD τ sig) → Buf Val ℓ) (g : Dev nD → PrngReg)
    (main : Dev nD → Prog (TpuEff nD τ sig Val (Sig Λ₀ P fun q => ((cfgs q).toPCfg (Val := Val)).Adm) .tc) PUnit)
    (hbody : ∀ c, (rdat c).BodyObligation defs₀ 𝒱₀ () Set.univ)
    (hshare : ∀ c w, (rdat c).share w = fullShare) (howed : ∀ c t, (rdat c).owed t = 0)
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hA : ∀ c w, (rdat c).A w = V₀ c (Proc.devRef .tc (arrRef (cfgs p).spec w)))
    (hin : ∀ c, ΦA (cfgs p).spec c ⊢ (rdat c).Φ 0) (hout : ∀ c, (rdat c).Φ (Fin.last (cfgs p).N) ⊢ ΦA (cfgs p).spec c) :
    θ_run (Pipeline.defs (fun q => (cfgs q).toPCfg (Val := Val)) defs₀) (onTc main) (s₀ m g)
      fun r => (∀ c, TailPost cfgs p rdat V₀ opss r.2.mem c) ∧ r.2.sem = fun _ => 0 := by
  classical
  have kp := (kit.toP (Val := Val))
  have k₀ := kp.to₀
  have hq : ∀ c w, ((cfgs p).spec w).isOut = false → (rdat c).q w = shareOf (cfgs p).spec w :=
    fun c w hw => (rdat c).q_eq_shareOf_of_share_full kit.win.arr_inj (hshare c) w hw
  let V : (c : Dev nD) → (b : Ref sig .tc) → Buf Val ((c.tc : Thread nD τ).loc b) := fun c b => V₀ c (Proc.devRef .tc b)
  exact RDat.θ_run_region_pf_tail_quiescent (fun q => (cfgs q).toPCfg (Val := Val)) (fun q => (cfgs q).toPCfg_adm (Val := Val)) (RDat.familyOf (fun q => (cfgs q).toPCfg (Val := Val)) (fun q => (cfgs q).toPCfg_adm (Val := Val)) p rdat) () (k₀.cellOf_inj (fun q => (cfgs q).toPCfg_adm (Val := Val))) p k₀.win (OwnSemFacts.none (cfgs p).spec) k₀.pre emb₁ defs₀ 𝒱₀ m g main
    (fun _ => chain (opss.map StableHlo.seq)) (fun c => by rw [RDat.familyOf_self]; exact hbody c)
    k₀.block_pos k₀.arr_whole k₀.stage_whole (fun c t => by rw [RDat.familyOf_self]; exact howed c t)
    (G := fun _ => iprop(emp))
    (u₀ := initOf (cells (pin (fun q => (cfgs q).toPCfg (Val := Val)) (fun q => (cfgs q).toPCfg_adm (Val := Val))) (k₀.cellOf_inj (fun q => (cfgs q).toPCfg_adm (Val := Val)))) (launchToks (pin (fun q => (cfgs q).toPCfg (Val := Val)) (fun q => (cfgs q).toPCfg_adm (Val := Val))) (k₀.cellOf_inj (fun q => (cfgs q).toPCfg_adm (Val := Val)))))
    (hu₀ := by
      iintro Hu; imodintro
      isplitl [Hu]
      · iapply (show (ownU _ : sProp 𝕄) ⊢ BI.own (emb₁ (initOf (cells (pin (fun q => (cfgs q).toPCfg (Val := Val)) (fun q => (cfgs q).toPCfg_adm (Val := Val))) (k₀.cellOf_inj (fun q => (cfgs q).toPCfg_adm (Val := Val)))) (launchToks (pin (fun q => (cfgs q).toPCfg (Val := Val)) (fun q => (cfgs q).toPCfg_adm (Val := Val))) (k₀.cellOf_inj (fun q => (cfgs q).toPCfg_adm (Val := Val)))))) from .rfl)
        iexact Hu
      iapply (show (BI.emp : sProp 𝕄) ⊢ bigSep Finset.univ (fun _ : Dev nD => (BI.emp : sProp 𝕄)) from by rw [BI.bigSep_emp_const])
      iempintro)
    (V := V) (hmain := hmain)
    (hsplit := fun c => by
      rw [RDat.familyOf_self]
      exact (rdat c).arrays_split_shared k₀.sharedIn k₀.arr_whole (hq c) (V c) _ (hA c))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfgs p).spec c (V c))
    (Z' := fun c => iprop(∃ A, ⌜∀ w, (rdat c).ArrAt w (cfgs p).N (A w)⌝
      ∗ unscopedRestP (Ix := Unit) (Name := ℕ) (U := UR sig nD τ) (Lvl := ℕ) Prefetch.none (cfgs p).spec c
          (fun b => StableHlo.after opss.flatten (withArrays (cfgs p).spec c (V₀ c) A) (Proc.devRef .tc b))))
    (hX := fun c => by
      iintro ⟨HU, -, -, Hp, -⟩; imodintro
      isplitl [Hp]
      · iexists _; iexact Hp
      iexact HU)
    (hin := fun c => by
      rw [RDat.familyOf_self]
      exact (show _ ⊢ ΦA (cfgs p).spec c by
        unfold ΦA
        iintro ⟨Hp, -, Hr⟩
        isplitl [Hr] <;> iassumption).trans (hin c))
    (hout := fun c => by
      rw [RDat.familyOf_self]
      refine (hout c).trans ?_
      rw [ownSems0_none]; unfold ΦA
      iintro ⟨Hr, Hp⟩
      isplitl [Hp]
      · iexact Hp
      isplitr
      · iempintro
      iexact Hr)
    (htail := fun c Q' => by
      rw [RDat.familyOf_self]
      iintro ⟨Hk, Hb, Ha, HZ⟩
      ihave Ha' := (arraysAt_open cfgs p rdat c (cfgs p).N) $$ Ha
      icases Ha' with ⟨%A, %hA', Ha⟩
      have hB : (rdat c).arrays A = arrBufs (cfgs p).spec c (fun b => withArrays (cfgs p).spec c (V₀ c) A (Proc.devRef .tc b)) :=
        ((rdat c).arrBufs_eq_arrays k₀.sharedIn k₀.arr_whole (hq c) _ A fun w =>
          (withArrays_arr_shared (cfgs p).spec c (V₀ c) A ((rdat c).ArrAt_sharedIn k₀.sharedIn (V₀ c) (hA c) (cfgs p).N A hA') w).symm).symm
      iapply (tail_seqs_bufs_b (fun q => (cfgs q).toPCfg (Val := Val)) defs₀ 𝒱₀ Prefetch.none (cfgs p).spec c (V₀ c) A opss hsub hfresh hkeep Q')
      isplitl [Hk]
      · iintro ⟨Hb2, Ha2, Hu⟩
        iapply Hk
        isplitl [Hb2]
        · iexact Hb2
        isplitl [Ha2]
        · iapply (arraysAt_close cfgs p rdat c (cfgs p).N A hA')
          iapply (Entails.of_eq hB.symm)
          iexact Ha2
        iexists A
        isplitr
        · ipureintro; exact hA'
        iexact Hu
      · isplitl [Hb]
        · iexact Hb
        isplitl [Ha]
        · iapply (Entails.of_eq hB); iexact Ha
        iexact HZ)
    (QY := fun c s => ∃ A, (∀ w, (rdat c).ArrAt w (cfgs p).N (A w))
        ∧ ∀ b ∈ restRefsP sig Prefetch.none (cfgs p).spec,
            s.mem ((c.tc : Thread nD τ).loc b)
              = StableHlo.after opss.flatten (withArrays (cfgs p).spec c (V₀ c) A) (Proc.devRef .tc b))
    (hY := fun c s' => by
      iintro ⟨-, HZ, HSI⟩
      icases HZ with ⟨%A, %hA', HZ⟩
      unfold unscopedRestP
      ihave HZ' := (pointsTo_read_all (restRefsP sig Prefetch.none (cfgs p).spec) (fun b => (c.tc : Thread nD τ).loc b)
        (fun b => StableHlo.after opss.flatten (withArrays (cfgs p).spec c (V₀ c) A) (Proc.devRef .tc b)) s') $$ [HZ HSI]
      · isplitl [HZ] <;> iassumption
      icases HZ' with ⟨%hZ, HSI⟩
      imodintro
      isplitr
      · ipureintro; exact ⟨A, hA', hZ⟩
      · iexact HSI)
    (hQ := fun s h hz => ⟨fun c => ⟨fun w => by simpa only [RDat.familyOf_self] using (h c).1 w, (h c).2.2⟩, hz⟩)

end

end Cert.KernelIdeal.Body
-- ==== Proof.Launch.lean ====
/- The whole program's run. The scratch buffers carry an image's heat map and table from the point that
   computes them to the next, which extracts from them; at the first point they hold anything, and the
   output block then written is overwritten before it leaves the core. -/
module

public import proofs.«01_k».proof.Proof.Slots
public import proofs.«01_k».proof.Proof.KernelEq
public import proofs.«01_k».proof.Proof.RegionTail

@[expose] public section

set_option synthInstance.maxSize 4096

noncomputable section

namespace Cert.KernelIdeal.Body

open Cert.KernelIdeal Facts₀ Facts
open Idealize.ShloMosaic Idealize.ShloMosaic.TcCoe Idealize.ShloMosaic.Tactic
open Idealize.SL Idealize.SL.RA Idealize.SL.BI
open scoped Idealize.SL.BI
open Idealize.ShloMosaic.Rounds Idealize.ShloMosaic.Pipeline
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ)

/-! ## What a point computes -/

/-- The two half images' maps at a point, from the input blocks there. -/
def upper (c : Dev nD) (t : Fin cfg0.N) : FVec F S65x128x80 .f32 × FVec F S65x128x4 .f32 :=
  halfOf (Gen.iblk m c 1 t) (Gen.iblk m c 2 t) (Gen.iblk m c 3 t) (Gen.iblk m c 4 t) (Gen.iblk m c 5 t) (Gen.iblk m c 6 t)
    (topRows (imageOf (Gen.iblk m c 0 t)))
def lower (c : Dev nD) (t : Fin cfg0.N) : FVec F S65x128x80 .f32 × FVec F S65x128x4 .f32 :=
  halfOf (Gen.iblk m c 1 t) (Gen.iblk m c 2 t) (Gen.iblk m c 3 t) (Gen.iblk m c 4 t) (Gen.iblk m c 5 t) (Gen.iblk m c 6 t)
    (botRows (imageOf (Gen.iblk m c 0 t)))

/-- The output block extracted from what point `s` computed. -/
def blockFrom (c : Dev nD) (s : Fin cfg0.N) : FVec F S1x40x1x8 .f32 :=
  blockOf (tabSlot (upper m c s) (lower m c s), heatSlot (upper m c s) (lower m c s))

theorem coord_eq (t : Fin cfg0.N) : (grid0.coords t 0).val = t.val := by
  revert t; decide

/-- A point extracts from the slot the point before it filled. -/
theorem takes_eq_fills (s t : Fin cfg0.N) (h : s.val + 1 = t.val) : takes (grid0.coords t) = fills (grid0.coords s) := by
  apply Fin.ext
  show ((grid0.coords t 0).val + 1) % 2 = (grid0.coords s 0).val % 2
  rw [coord_eq, coord_eq]; omega

/-- What the scratch buffers hold before point `n`: the results of the point before. -/
def Carried (c : Dev nD) (n : ℕ) (X9 : FVec F S256x128x128 .f32) (X10 : FVec F S256x128 .f32) : Prop :=
  ∀ s : Fin cfg0.N, s.val + 1 = n →
    slotHeat (fills (grid0.coords s)) X9 = heatSlot (upper m c s) (lower m c s)
      ∧ slotTab (fills (grid0.coords s)) X10 = tabSlot (upper m c s) (lower m c s)

/-- After a point the scratch buffers hold its results. -/
theorem carried_next (c : Dev nD) (t : Fin cfg0.N) (X8 : FVec F S1x40x1x8 .f32) (X9 : FVec F S256x128x128 .f32) (X10 : FVec F S256x128 .f32)
    (T : FVec F S128x128 .f32) :
    Carried m c (t.val + 1)
      (runs (grid0.coords t) 40 T (heatFilled (grid0.coords t) (upper m c t) (lower m c t) X9) X8).1
      (tabFilled (grid0.coords t) (upper m c t) (lower m c t) X10) := by
  intro s hs
  obtain rfl : s = t := Fin.ext (by omega)
  exact ⟨by rw [runs_other, slot_heatFilled], slot_tabFilled _ _ _ _⟩

/-- After a point past the first the output block is the one extracted from the results of the point before. -/
theorem block_at (c : Dev nD) (s t : Fin cfg0.N) (h : s.val + 1 = t.val) (X8 : FVec F S1x40x1x8 .f32) (X9 : FVec F S256x128x128 .f32)
    (X10 : FVec F S256x128 .f32) (hC : Carried m c t.val X9 X10) (U L : FVec F S65x128x80 .f32 × FVec F S65x128x4 .f32) :
    (runs (grid0.coords t) 40 (tabAt (grid0.coords t) (tabFilled (grid0.coords t) U L X10)) (heatFilled (grid0.coords t) U L X9) X8).2
      = blockFrom m c s := by
  obtain ⟨h9, h10⟩ := hC s h
  rw [runs_block, tabAt_eq, other_tabFilled, other_heatFilled, takes_eq_fills s t h, h9, h10]
  rfl

/-! ## The proof data -/

/-- The output window is held to a predicate; the input windows are named exactly. -/
def marked : Fin cfg0.W → Bool
  | 0 => false | 1 => false | 2 => false | 3 => false | 4 => false | 5 => false | 6 => false | 7 => true
  | ⟨_ + 8, h⟩ => absurd h (Nat.not_lt.2 (Nat.le_add_left _ _))

/-- What the output block holds after a point past the first. -/
def Held (c : Dev nD) : (w : Fin cfg0.W) → Fin cfg0.N → ((cfg0.win w).block.Idx → Elt F (cfg0.win w).elt) → Prop
  | 0, _, _ => True | 1, _, _ => True | 2, _, _ => True | 3, _, _ => True | 4, _, _ => True | 5, _, _ => True | 6, _, _ => True
  | 7, t, X => ∀ s : Fin cfg0.N, s.val + 1 = t.val → X = blockFrom m c s
  | ⟨_ + 8, h⟩, _, _ => absurd h (Nat.not_lt.2 (Nat.le_add_left _ _))

/-- The scratch buffers at what they carry, and the generator register at some state. -/
def Between (c : Dev nD) (n : ℕ) : sProp 𝕄 :=
  iprop(∃ X9, ∃ X10, ⌜Carried m c n X9 X10⌝ ∗ owns (c : Thread nD τ) (Memref.whole cc0_scratch0) fullShare X9
    ∗ owns (c : Thread nD τ) (Memref.whole cc0_scratch1) fullShare X10 ∗ ∃ r, prngReg c r)

/-- The arrays as the region finds them, the input blocks left in place, the scratch between points. -/
def dats (_ : Fin 1) (c : Dev nD) : Dat τ (Elt F) Unit ℕ (UR sig nD τ) ℕ cfg0 c where
  A w := Gen.V m c (arrRef spec0 w)
  after w t := match w with
    | 0 => Gen.iblk m c 0 t | 1 => Gen.iblk m c 1 t | 2 => Gen.iblk m c 2 t | 3 => Gen.iblk m c 3 t
    | 4 => Gen.iblk m c 4 t | 5 => Gen.iblk m c 5 t | 6 => Gen.iblk m c 6 t | 7 => Dat.unnamed (cfg := cfg0) 7 t
    | ⟨_ + 8, h⟩ => absurd h (Nat.not_lt.2 (Nat.le_add_left _ _))
  Φ t := Between m c t.val
  q _ := fullShare
  owed _ := 0

def rdats (c : Dev nD) : RDat τ (Elt F) Unit ℕ (UR sig nD τ) ℕ cfg0 c := (dats m 0 c).toRRel marked (Held m c)

theorem A_eq (c : Dev nD) (w : Fin cfg0.W) : (dats m 0 c).A w = Gen.V m c (arrRef spec0 w) := by dsimp only [dats]

/-! ## The body obligation -/

def pre (c : Dev nD) (t : Fin cfg0.N) : sProp 𝕄 :=
  iprop((dats m 0 c).Φ t.castSucc ∗ (dats m 0 c).owesAt () t.castSucc
    ∗ (∃ d, owns (c : Thread nD τ) (Gen.st0_0 t) fullShare ((dats m 0 c).before 0 t d))
    ∗ (∃ d, owns (c : Thread nD τ) (Gen.st0_1 t) fullShare ((dats m 0 c).before 1 t d))
    ∗ (∃ d, owns (c : Thread nD τ) (Gen.st0_2 t) fullShare ((dats m 0 c).before 2 t d))
    ∗ (∃ d, owns (c : Thread nD τ) (Gen.st0_3 t) fullShare ((dats m 0 c).before 3 t d))
    ∗ (∃ d, owns (c : Thread nD τ) (Gen.st0_4 t) fullShare ((dats m 0 c).before 4 t d))
    ∗ (∃ d, owns (c : Thread nD τ) (Gen.st0_5 t) fullShare ((dats m 0 c).before 5 t d))
    ∗ (∃ d, owns (c : Thread nD τ) (Gen.st0_6 t) fullShare ((dats m 0 c).before 6 t d))
    ∗ (∃ Y, ⌜(rdats m c).Finds 7 t Y⌝ ∗ owns (c : Thread nD τ) (Gen.st0_7 t) fullShare Y))

def post (c : Dev nD) (t : Fin cfg0.N) : sProp 𝕄 :=
  iprop((dats m 0 c).Φ t.succ ∗ (dats m 0 c).owesAt () t.succ
    ∗ owns (c : Thread nD τ) (Gen.st0_0 t) fullShare ((dats m 0 c).after 0 t)
    ∗ owns (c : Thread nD τ) (Gen.st0_1 t) fullShare ((dats m 0 c).after 1 t)
    ∗ owns (c : Thread nD τ) (Gen.st0_2 t) fullShare ((dats m 0 c).after 2 t)
    ∗ owns (c : Thread nD τ) (Gen.st0_3 t) fullShare ((dats m 0 c).after 3 t)
    ∗ owns (c : Thread nD τ) (Gen.st0_4 t) fullShare ((dats m 0 c).after 4 t)
    ∗ owns (c : Thread nD τ) (Gen.st0_5 t) fullShare ((dats m 0 c).after 5 t)
    ∗ owns (c : Thread nD τ) (Gen.st0_6 t) fullShare ((dats m 0 c).after 6 t)
    ∗ (∃ X, ⌜Held m c 7 t X⌝ ∗ owns (c : Thread nD τ) (Gen.st0_7 t) fullShare X))

/-- The printed body at a point is the short form at the stages and the two scratch buffers. -/
theorem bodyAt0_eq (t : Fin cfg0.N) : Gen.bodyAt0 (F := F) t
    = body (grid0.coords t) (Gen.st0_0 t) (Gen.st0_1 t) (Gen.st0_2 t) (Gen.st0_3 t) (Gen.st0_4 t) (Gen.st0_5 t) (Gen.st0_6 t) (Gen.st0_7 t)
        (Memref.whole cc0_scratch0) (Memref.whole cc0_scratch1) :=
  kernel_eq (grid0.coords t) _ _ _ _ _ _ _ _ _ _ _ _ _ _ _ _ _ _ _ _

set_option maxHeartbeats 1000000 in
/-- The body at a point. -/
theorem sound_body (c : Dev nD) (t : Fin cfg0.N) :
    pre m c t ⊢ wp frame (wpE (defs₀ (F := F)) Variants.none c none) Set.univ (Gen.bodyAt0 t) (fun _ => post m c t) := by
  unfold pre post
  rw [show (dats m 0 c).Φ t.castSucc = Between m c t.val from rfl, show (dats m 0 c).Φ t.succ = Between m c (t.val + 1) from rfl,
    bodyAt0_eq]
  unfold Between Dat.owesAt owesWithin
  rw [show (dats m 0 c).owed t.castSucc = 0 from rfl, show (dats m 0 c).owed t.succ = 0 from rfl]
  iintro ⟨⟨%X9, %X10, %hC, H9, H10, Hp⟩, ⟨%W, %hW, HO⟩, ⟨%d0, H0⟩, ⟨%d1, H1⟩, ⟨%d2, H2⟩, ⟨%d3, H3⟩, ⟨%d4, H4⟩, ⟨%d5, H5⟩, ⟨%d6, H6⟩, ⟨%Y, -, H7⟩⟩
  rw [Gen.before0_0_of m (dats m 0 c) (A_eq m c 0) (fun _ => rfl) t d0, Gen.before0_1_of m (dats m 0 c) (A_eq m c 1) (fun _ => rfl) t d1,
    Gen.before0_2_of m (dats m 0 c) (A_eq m c 2) (fun _ => rfl) t d2, Gen.before0_3_of m (dats m 0 c) (A_eq m c 3) (fun _ => rfl) t d3,
    Gen.before0_4_of m (dats m 0 c) (A_eq m c 4) (fun _ => rfl) t d4, Gen.before0_5_of m (dats m 0 c) (A_eq m c 5) (fun _ => rfl) t d5,
    Gen.before0_6_of m (dats m 0 c) (A_eq m c 6) (fun _ => rfl) t d6]
  iapply (body_wp c (grid0.coords t) _ _ _ _ _ _ _ _ (Memref.whole cc0_scratch0) (Memref.whole cc0_scratch1)
    (Gen.iblk m c 0 t) (Gen.iblk m c 1 t) (Gen.iblk m c 2 t) (Gen.iblk m c 3 t) (Gen.iblk m c 4 t) (Gen.iblk m c 5 t) (Gen.iblk m c 6 t)
    Y X9 X10 (upper m c t) (lower m c t) rfl rfl)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H9]
  · iexact H9
  isplitl [H10]
  · iexact H10
  iintro H0 H1 H2 H3 H4 H5 H6 H7 H9 H10
  isplitl [H9 H10 Hp]
  · iexists _, _
    isplitr
    swap
    · isplitl [H9]
      · iexact H9
      isplitl [H10]
      · iexact H10
      iexact Hp
    ipureintro
    exact carried_next m c t Y X9 X10 _
  isplitl [HO]
  · iexists W
    isplitr
    · ipureintro; exact fun _ _ => Or.inl trivial
    iexact HO
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  iexists _
  isplitr
  swap
  · iexact H7
  ipureintro
  exact fun s hs => block_at m c s t hs Y X9 X10 hC _ _

/-- The body table's row at a point is the printed body there. -/
theorem defs₀_row (t : Fin cfg0.N) : defs₀ (F := F) .tc cfg0.body (cfg0.bodyArgs t (cfg0.slots t)) = Gen.bodyAt0 t := by
  unfold defs₀; rw [Defs.onTc_tc]

theorem body_obligation (c : Dev nD) :
    BodyObligationRel (dats (F := F) m 0 c) (defs₀ (F := F)) Variants.none () Set.univ marked (Held m c) := fun t => by
  rw [Gen.bigSep_W0, Gen.bigSep_W0, defs₀_row]
  exact triple_restated (sound_body m c t) rfl .rfl fun _ => .rfl

/-! ## The launch -/

theorem start (c : Dev nD) : (ΦA spec0 c : sProp 𝕄) ⊢ Between m c 0 := by
  unfold ΦA Between
  rw [Gen.scopedRest0_eq]
  simp only [owns_whole]
  iintro ⟨⟨⟨%f9, H9⟩, ⟨%f10, H10⟩⟩, Hp⟩
  iexists f9, f10
  isplitr
  · ipureintro; exact fun s hs => absurd hs (Nat.succ_ne_zero _)
  isplitl [H9]
  · iexact H9
  isplitl [H10]
  · iexact H10
  iexact Hp

theorem finish (c : Dev nD) (n : ℕ) : Between m c n ⊢ (ΦA spec0 c : sProp 𝕄) := by
  unfold ΦA Between
  rw [Gen.scopedRest0_eq]
  simp only [owns_whole]
  iintro ⟨%f9, %f10, -, H9, H10, Hp⟩
  isplitl [H9 H10]
  · isplitl [H9]
    · iexists f9; iexact H9
    iexists f10; iexact H10
  iexact Hp

variable [∀ e, Nonempty (Elt F e)] (ρ : Dev nD → PrngReg)

set_option backward.isDefEq.respectTransparency.types false in
/-- Every run of the program ends with the region's arrays and the later lines' buffers as named, all
    semaphores at zero. -/
theorem run_main :
    θ_run defs (onTc (τ := τ) (main (F := F))) (s₀ m ρ)
      fun r => (∀ c, TailPost cfgs 0 (rdats m) (Gen.V0 m) [Gen.hostOps1] r.2.mem c) ∧ r.2.sem = fun _ => 0 :=
  run_region_tail cfgs (0 : Fin 1) Gen.launch0 defs₀ Variants.none (rdats m) (Gen.V0 m) [Gen.hostOps1] m ρ main
    (fun c => (body_obligation m c).toRRel) (fun c w => (dats m 0 c).share_full (fun _ => rfl) w) (fun _ _ => rfl)
    Gen.sfx_sub Gen.sfx_fresh Gen.sfx_keeps (Gen.hmain m Variants.none) (A_eq m) (start m) (fun c => finish m c _)

end Cert.KernelIdeal.Body

end
-- ==== Proof.Frames.lean ====
/- The argument arrays at the end of a run: none is written. -/
module

public import proofs.«01_k».proof.Proof.Launch

@[expose] public section

noncomputable section

namespace Cert.KernelIdeal.Body

open Cert.KernelIdeal Facts₀ Facts
open Idealize.ShloMosaic Idealize.ShloMosaic.TcCoe
open Idealize.ShloMosaic.Rounds Idealize.ShloMosaic.Pipeline
open Idealize.SL.Sem

variable {F : FTy → Type} [FloatOps F]

variable (m : (ℓ : Loc nD τ sig) → Buf (Elt F) ℓ)

/-- The lines after the region write the result and its intermediate only. -/
theorem tail_keep (V : Valuation τ sig (Elt F)) (b : Ref sig .tc) (h20 : b ≠ main_v20) (h21 : b ≠ main_v21) :
    StableHlo.after ([Gen.hostOps1] : List (List (HloOp τ sig (Elt F)))).flatten V (Proc.devRef .tc b) = V (Proc.devRef .tc b) :=
  StableHlo.after_of_forall_not_mem (b := Proc.devRef .tc b) _ _ (List.forall_iff_forall_mem.mp (by
    simp only [Gen.hostOps1, List.flatten_cons, List.flatten_nil, List.append_nil, List.cons_append,
      List.nil_append, List.Forall, StableHlo.nullary_writes, StableHlo.unary_writes, StableHlo.reshape_writes, StableHlo.unaryIndexed_writes, Finset.mem_singleton]
    refine ⟨?_, ?_⟩ <;> first | exact StableHlo.devRef_ne_of_ne h20 | exact StableHlo.devRef_ne_of_ne h21))

variable {m}

/-- A buffer that is neither an array of the region nor written after it ends as the region found it. -/
theorem rest_arg (c : Dev nD) (mem : (ℓ : Loc nD τ sig) → Buf (Elt F) ℓ) (h : TailPost cfgs 0 (rdats m) (Gen.V0 m) [Gen.hostOps1] mem c)
    {b : Ref sig .tc} (hV : Gen.V m c b = m ((c : Thread nD τ).loc b)) (hb : b ∈ restRefsP sig Prefetch.none spec0)
    (h20 : b ≠ main_v20) (h21 : b ≠ main_v21) (hne : ∀ w, arrRef spec0 w ≠ b) :
    mem ((c.tc : Thread nD τ).loc b) = m ((c.tc : Thread nD τ).loc b) := by
  obtain ⟨-, A, -, hr⟩ := h
  refine (hr b hb).trans ((tail_keep _ b h20 h21).trans ?_)
  exact (withArrays_of_ne _ c (Gen.V0 m c) _ b hne).trans hV

/-- What the region's end and the lines after it leave in the argument arrays. -/
theorem args_keep (c : Dev nD) (mem : (ℓ : Loc nD τ sig) → Buf (Elt F) ℓ) (h : TailPost cfgs 0 (rdats m) (Gen.V0 m) [Gen.hostOps1] mem c) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11)
      ∧ mem ((c.tc : Thread nD τ).loc main_arg12) = m ((c.tc : Thread nD τ).loc main_arg12) :=
  ⟨by
      have h0 := h.1 0
      rw [(rdats m c).ArrAt_in 0 rfl] at h0
      exact h0.trans (Gen.V_main_arg0 m c),
      rest_arg c mem h (Gen.V_main_arg1 m c) (mem_restRefs_of main_arg1 (by decide) (by decide)) (by decide) (by decide) (by decide),
      rest_arg c mem h (Gen.V_main_arg2 m c) (mem_restRefs_of main_arg2 (by decide) (by decide)) (by decide) (by decide) (by decide),
      rest_arg c mem h (Gen.V_main_arg3 m c) (mem_restRefs_of main_arg3 (by decide) (by decide)) (by decide) (by decide) (by decide),
      rest_arg c mem h (Gen.V_main_arg4 m c) (mem_restRefs_of main_arg4 (by decide) (by decide)) (by decide) (by decide) (by decide),
      rest_arg c mem h (Gen.V_main_arg5 m c) (mem_restRefs_of main_arg5 (by decide) (by decide)) (by decide) (by decide) (by decide),
      rest_arg c mem h (Gen.V_main_arg6 m c) (mem_restRefs_of main_arg6 (by decide) (by decide)) (by decide) (by decide) (by decide),
      rest_arg c mem h (Gen.V_main_arg7 m c) (mem_restRefs_of main_arg7 (by decide) (by decide)) (by decide) (by decide) (by decide),
      rest_arg c mem h (Gen.V_main_arg8 m c) (mem_restRefs_of main_arg8 (by decide) (by decide)) (by decide) (by decide) (by decide),
      rest_arg c mem h (Gen.V_main_arg9 m c) (mem_restRefs_of main_arg9 (by decide) (by decide)) (by decide) (by decide) (by decide),
      rest_arg c mem h (Gen.V_main_arg10 m c) (mem_restRefs_of main_arg10 (by decide) (by decide)) (by decide) (by decide) (by decide),
      rest_arg c mem h (Gen.V_main_arg11 m c) (mem_restRefs_of main_arg11 (by decide) (by decide)) (by decide) (by decide) (by decide),
      rest_arg c mem h (Gen.V_main_arg12 m c) (mem_restRefs_of main_arg12 (by decide) (by decide)) (by decide) (by decide) (by decide)⟩

variable (m) [∀ e, Nonempty (Elt F e)] (ρ : Dev nD → PrngReg)

/-- Every run ends with the argument arrays as launched and every semaphore at zero. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c => args_keep c r.2.mem (h.1 c), h.2⟩) (run_main m ρ)

end Cert.KernelIdeal.Body

end
-- ==== Proof.Same.lean ====
/- The program as printed and its idealized form are one text, read at different floats: what every
   instance of the second does, the first does too. -/
module

public import proofs.«01_k».proof.Proof.Frames
public import proofs.«01_k».proof.Proof.Gen.Kernel

@[expose] public section

noncomputable section

namespace Cert.Kernel.Same

open Idealize.ShloMosaic Idealize.ShloMosaic.TcCoe Idealize.SL.Sem

variable {F : FTy → Type} [FloatOps F]

set_option maxRecDepth 100000 in
set_option maxHeartbeats 40000000 in
/-- The two programs' body tables agree. -/
theorem defs₀_eq : Cert.Kernel.defs₀ (F := F) = Cert.KernelIdeal.defs₀ (F := F) := by
  unfold Cert.Kernel.defs₀ Cert.KernelIdeal.defs₀
  congr 1
  funext l x
  match l, x with
  | 0, (t, s) => rfl
  | ⟨_ + 1, h⟩, _ => exact absurd h (Nat.not_lt.2 (Nat.le_add_left _ _))

/-- The two programs' definitions agree. -/
theorem defs_eq : Cert.Kernel.defs (F := F) = Cert.KernelIdeal.defs (F := F) := by
  unfold Cert.Kernel.defs Cert.KernelIdeal.defs
  exact congrArg (Pipeline.defs Cert.KernelIdeal.pcfgs) defs₀_eq

set_option maxRecDepth 100000 in
set_option maxHeartbeats 40000000 in
/-- The two programs' main functions agree. -/
theorem main_eq : Cert.Kernel.main (F := F) = Cert.KernelIdeal.main (F := F) := rfl

open Cert.Kernel

variable [∀ e, Nonempty (Elt F e)] (m : (ℓ : Loc nD τ sig) → Buf (Elt F) ℓ) (ρ : Dev nD → PrngReg)

/-- Every run of the printed program ends with the argument arrays as launched and every semaphore at zero. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) := by
  rw [defs_eq, main_eq]
  exact Cert.KernelIdeal.Body.frame_run m ρ

end Cert.Kernel.Same

end
-- ==== Proof.Spec.lean ====
/- The network's maps as plain formulas over the extended reals: a 3x3 convolution with zero padding, a bias, the
   positive part, a 1x1 convolution and a bias; the heat map is the logistic of the first head's; a peak is a
   place no neighbour of which is larger. -/
module

public import Idealize.ShloMosaic.Lib.Pointwise

@[expose] public section

noncomputable section

namespace Cert.Center

open Idealize.ShloMosaic

abbrev Image := FVec Ideal (⟨4, ![16, 128, 128, 64]⟩ : Shape) .f32
abbrev Filter := FVec Ideal (⟨4, ![3, 3, 64, 64]⟩ : Shape) .f32
abbrev Bias (n : ℕ) := FVec Ideal (⟨1, ![n]⟩ : Shape) .f32
abbrev Mix (n : ℕ) := FVec Ideal (⟨4, ![1, 1, 64, n]⟩ : Shape) .f32

/-- The image with one zero row or column on each side: rows and columns count from 0 in the padded image. -/
def padded (x : Image) (b : Fin 16) (r c : ℕ) (i : Fin 64) : EReal :=
  if h : (1 ≤ r ∧ r ≤ 128) ∧ (1 ≤ c ∧ c ≤ 128) then
    x (ix4 b (⟨r - 1, by omega⟩ : Fin 128) (⟨c - 1, by omega⟩ : Fin 128) i)
  else 0

/-- One of the nine products: the padded image shifted, against the filter's entry. -/
def tapAt (x : Image) (w : Filter) (b : Fin 16) (r c : ℕ) (ky kx : Fin 3) (o : Fin 64) : EReal :=
  ∑ i : Fin 64, padded x b (ky.val + r) (kx.val + c) i * w (ix4 ky kx i o)

/-- The nine products summed row by row. -/
def convAt (x : Image) (w : Filter) (b : Fin 16) (r c : ℕ) (o : Fin 64) : EReal :=
  tapAt x w b r c 0 0 o + tapAt x w b r c 0 1 o + tapAt x w b r c 0 2 o
    + tapAt x w b r c 1 0 o + tapAt x w b r c 1 1 o + tapAt x w b r c 1 2 o
    + tapAt x w b r c 2 0 o + tapAt x w b r c 2 1 o + tapAt x w b r c 2 2 o

/-- A hidden feature. -/
def hiddenAt (x : Image) (w : Filter) (β : Bias 64) (b : Fin 16) (r c : ℕ) (o : Fin 64) : EReal :=
  max (convAt x w b r c o + β (ix1 o)) 0

/-- A head's value. -/
def headAt {n : ℕ} (x : Image) (w : Filter) (β : Bias 64) (w2 : Mix n) (β2 : Bias n) (b : Fin 16) (r c : ℕ) (l : Fin n) : EReal :=
  ∑ o : Fin 64, hiddenAt x w β b r c o * w2 (ix4 (0 : Fin 1) (0 : Fin 1) o l) + β2 (ix1 l)

/-- The heat map. -/
def heatVal (x : Image) (w : Filter) (β : Bias 64) (w2 : Mix 80) (β2 : Bias 80) (b : Fin 16) (l : Fin 80) (r c : Fin 128) : EReal :=
  Ideal.logistic (headAt x w β w2 β2 b r.val c.val l)

/-- No neighbour is larger. -/
def IsPeak (h : Fin 128 → Fin 128 → EReal) (r c : Fin 128) : Prop :=
  ∀ r' c' : Fin 128, r'.val ≤ r.val + 1 → r.val ≤ r'.val + 1 → c'.val ≤ c.val + 1 → c.val ≤ c'.val + 1 → h r' c' ≤ h r c

open Classical in
/-- The map kept at its peaks and zero elsewhere. -/
def peakVal (h : Fin 128 → Fin 128 → EReal) (r c : Fin 128) : EReal := if IsPeak h r c then h r c else 0

theorem logistic_nonneg (a : EReal) : 0 ≤ Ideal.logistic a := by
  induction a with
  | bot => rw [Ideal.logistic_bot]
  | top => rw [Ideal.logistic_top]; exact zero_le_one
  | coe r =>
    rw [Ideal.logistic_coe]
    exact EReal.coe_nonneg.mpr (by positivity)

theorem heatVal_nonneg (x : Image) (w : Filter) (β : Bias 64) (w2 : Mix 80) (β2 : Bias 80) (b : Fin 16) (l : Fin 80) (r c : Fin 128) :
    0 ≤ heatVal x w β w2 β2 b l r c := logistic_nonneg _

theorem peakVal_nonneg {h : Fin 128 → Fin 128 → EReal} (hh : ∀ r c, 0 ≤ h r c) (r c : Fin 128) : 0 ≤ peakVal h r c := by
  unfold peakVal; split
  · exact hh r c
  · exact le_rfl

/-- A map whose values are positive has a positive peak: its largest value. -/
theorem exists_peak {h : Fin 128 → Fin 128 → EReal} (hh : ∀ r c, 0 < h r c) : ∃ r c, 0 < peakVal h r c := by
  obtain ⟨⟨r, c⟩, -, hm⟩ := Finset.exists_max_image (Finset.univ : Finset (Fin 128 × Fin 128)) (fun p => h p.1 p.2) ⟨(0, 0), Finset.mem_univ _⟩
  refine ⟨r, c, ?_⟩
  unfold peakVal
  have hP : IsPeak h r c := fun r' c' _ _ _ _ => hm (r', c') (Finset.mem_univ _)
  rw [if_pos hP]
  exact hh r c

/-- The product of a value with the bit that it equals its pool is the value where it does and zero elsewhere. -/
theorem keep_eq {h : Fin 128 → Fin 128 → EReal} {r c : Fin 128} {pool bit : EReal}
    (hp : pool = h r c ↔ IsPeak h r c) (h1 : pool = h r c → bit = 1) (h0 : pool ≠ h r c → bit = 0) :
    h r c * bit = peakVal h r c := by
  unfold peakVal
  by_cases e : pool = h r c
  · rw [h1 e, if_pos (hp.mp e), mul_one]
  · rw [h0 e, if_neg (fun h' => e (hp.mpr h')), mul_zero]

end Cert.Center

end
-- ==== Proof.KernMaps.lean ====
/- The kernel's maps of one half of an image, over the extended reals: its stacked rows are the padded image's, its
   hidden features the three heads', its heat map and regression lanes the heads' values. -/
module

public import proofs.«01_k».proof.Proof.Conv
public import proofs.«01_k».proof.Proof.Spec

@[expose] public section

set_option synthInstance.maxSize 4096
set_option maxRecDepth 16384

noncomputable section

namespace Cert.KernelIdeal.Body

open Idealize.ShloMosaic Idealize.SL.Sem
open Cert.KernelIdeal Facts₀ Facts
open Cert.Center

/-- The lane of a channel among the three rows, and of a feature among the three heads. -/
def lane3 (k : Fin 3) (i : Fin 64) : Fin 192 := ⟨64 * k.val + i.val, by omega⟩

/-- The stacked rows of a half whose first row is the image's row `off`. -/
def Stacked (r : FVec Ideal S65x128x192 .f32) (x : Image) (b : Fin 16) (off : ℕ) : Prop :=
  ∀ (ρ : Fin 65) (c : Fin 128) (k : Fin 3) (i : Fin 64), (r (ix3 ρ c (lane3 k i)) : EReal) = padded x b (k.val + (off + ρ.val)) (1 + c.val) i

/-- The weights and biases laid out for the three heads at once. -/
structure Laid (w0 w1 w2 : FVec Ideal S1x192x192 .f32) (β : FVec Ideal S1x1x192 .f32) (W : Fin 3 → Filter) (B : Fin 3 → Bias 64) : Prop where
  left : ∀ (k : Fin 3) (i : Fin 64) (h : Fin 3) (o : Fin 64), (w0 (ix3 0 (lane3 k i) (lane3 h o)) : EReal) = W h (ix4 k (0 : Fin 3) i o)
  mid : ∀ (k : Fin 3) (i : Fin 64) (h : Fin 3) (o : Fin 64), (w1 (ix3 0 (lane3 k i) (lane3 h o)) : EReal) = W h (ix4 k (1 : Fin 3) i o)
  right : ∀ (k : Fin 3) (i : Fin 64) (h : Fin 3) (o : Fin 64), (w2 (ix3 0 (lane3 k i) (lane3 h o)) : EReal) = W h (ix4 k (2 : Fin 3) i o)
  bias : ∀ (h : Fin 3) (o : Fin 64), (β (ix3 0 0 (lane3 h o)) : EReal) = B h (ix1 o)

theorem padded_of_row {x : Image} {b : Fin 16} {r c : ℕ} {i : Fin 64} (h : ¬(1 ≤ r ∧ r ≤ 128)) : padded x b r c i = 0 :=
  dif_neg (fun h' => h h'.1)
theorem padded_of_col {x : Image} {b : Fin 16} {r c : ℕ} {i : Fin 64} (h : ¬(1 ≤ c ∧ c ≤ 128)) : padded x b r c i = 0 :=
  dif_neg (fun h' => h h'.2)
theorem padded_in {x : Image} {b : Fin 16} {r c : ℕ} {i : Fin 64} (r' c' : Fin 128) (hr : r = r'.val + 1) (hc : c = c'.val + 1) :
    padded x b r c i = x (ix4 b r' c' i) := by
  subst hr hc
  exact dif_pos ⟨⟨by omega, by omega⟩, ⟨by omega, by omega⟩⟩

theorem zf_eq : (zf : Ideal .f32) = (0 : EReal) := by
  show Ideal.ofBits .f32 0x00000000#32 = 0
  simp [Ideal.ofBits, Ideal.ieee]

theorem lane3_val (k : Fin 3) (i : Fin 64) : (lane3 k i).val = 64 * k.val + i.val := rfl

theorem stacked_top (y : FVec Ideal S128x128x64 .f32) (x : Image) (b : Fin 16) (hy : ∀ r c i, (y (ix3 r c i) : EReal) = x (ix4 b r c i)) :
    Stacked (topRows y) x b 0 := by
  intro r c k i
  have e : ∀ q : Fin 192, (topRows y (ix3 r c q) : EReal)
      = if h : q.val < 64 then (if h : r.val < 1 then zf else y (ix3 (⟨r.val - 1, by omega⟩ : Fin 128) c (⟨q.val, by omega⟩ : Fin 64)))
        else if h : q.val - 64 < 64 then y (ix3 (⟨r.val, by omega⟩ : Fin 128) c (⟨q.val - 64, by omega⟩ : Fin 64))
        else y (ix3 (⟨1 + r.val, by omega⟩ : Fin 128) c (⟨q.val - 64 - 64, by omega⟩ : Fin 64)) := fun q => by
    pointwise [topRows]
  rw [e]
  have hi := i.isLt
  have hc := c.isLt
  match k with
  | 0 =>
    rw [dif_pos (show (lane3 0 i).val < 64 by rw [lane3_val]; show 64 * 0 + i.val < 64; omega)]
    split
    · rw [padded_of_row (by show ¬(1 ≤ 0 + (0 + r.val) ∧ _); omega)]; exact zf_eq
    · rw [hy]
      refine Eq.trans ?_ (padded_in (x := x) (b := b) (i := i) (⟨r.val - 1, by omega⟩ : Fin 128) c (show 0 + (0 + r.val) = r.val - 1 + 1 by omega) (show 1 + c.val = c.val + 1 by omega)).symm
      exact congrArg (fun q => x (ix4 b _ c q)) (Fin.ext (show 64 * 0 + i.val = i.val by omega))
  | 1 =>
    rw [dif_neg (show ¬(lane3 1 i).val < 64 by rw [lane3_val]; show ¬(64 * 1 + i.val < 64); omega),
      dif_pos (show (lane3 1 i).val - 64 < 64 by rw [lane3_val]; show 64 * 1 + i.val - 64 < 64; omega), hy]
    refine Eq.trans ?_ (padded_in (x := x) (b := b) (i := i) (⟨r.val, by omega⟩ : Fin 128) c (show 1 + (0 + r.val) = r.val + 1 by omega) (show 1 + c.val = c.val + 1 by omega)).symm
    exact congrArg (fun q => x (ix4 b _ c q)) (Fin.ext (show 64 * 1 + i.val - 64 = i.val by omega))
  | 2 =>
    rw [dif_neg (show ¬(lane3 2 i).val < 64 by rw [lane3_val]; show ¬(64 * 2 + i.val < 64); omega),
      dif_neg (show ¬((lane3 2 i).val - 64 < 64) by rw [lane3_val]; show ¬(64 * 2 + i.val - 64 < 64); omega), hy]
    refine Eq.trans ?_ (padded_in (x := x) (b := b) (i := i) (⟨1 + r.val, by omega⟩ : Fin 128) c (show 2 + (0 + r.val) = 1 + r.val + 1 by omega) (show 1 + c.val = c.val + 1 by omega)).symm
    exact congrArg (fun q => x (ix4 b _ c q)) (Fin.ext (show 64 * 2 + i.val - 64 - 64 = i.val by omega))

theorem stacked_bot (y : FVec Ideal S128x128x64 .f32) (x : Image) (b : Fin 16) (hy : ∀ r c i, (y (ix3 r c i) : EReal) = x (ix4 b r c i)) :
    Stacked (botRows y) x b 63 := by
  intro r c k i
  have e : ∀ q : Fin 192, (botRows y (ix3 r c q) : EReal)
      = if h : q.val < 64 then y (ix3 (⟨62 + r.val, by omega⟩ : Fin 128) c (⟨q.val, by omega⟩ : Fin 64))
        else if h : q.val - 64 < 64 then y (ix3 (⟨63 + r.val, by omega⟩ : Fin 128) c (⟨q.val - 64, by omega⟩ : Fin 64))
        else if h : r.val < 64 then y (ix3 (⟨64 + r.val, by omega⟩ : Fin 128) c (⟨q.val - 64 - 64, by omega⟩ : Fin 64)) else zf := fun q => by
    pointwise [botRows]
  rw [e]
  have hi := i.isLt
  have hc := c.isLt
  match k with
  | 0 =>
    rw [dif_pos (show (lane3 0 i).val < 64 by rw [lane3_val]; show 64 * 0 + i.val < 64; omega), hy]
    refine Eq.trans ?_ (padded_in (x := x) (b := b) (i := i) (⟨62 + r.val, by omega⟩ : Fin 128) c (show 0 + (63 + r.val) = 62 + r.val + 1 by omega) (show 1 + c.val = c.val + 1 by omega)).symm
    exact congrArg (fun q => x (ix4 b _ c q)) (Fin.ext (show 64 * 0 + i.val = i.val by omega))
  | 1 =>
    rw [dif_neg (show ¬(lane3 1 i).val < 64 by rw [lane3_val]; show ¬(64 * 1 + i.val < 64); omega),
      dif_pos (show (lane3 1 i).val - 64 < 64 by rw [lane3_val]; show 64 * 1 + i.val - 64 < 64; omega), hy]
    refine Eq.trans ?_ (padded_in (x := x) (b := b) (i := i) (⟨63 + r.val, by omega⟩ : Fin 128) c (show 1 + (63 + r.val) = 63 + r.val + 1 by omega) (show 1 + c.val = c.val + 1 by omega)).symm
    exact congrArg (fun q => x (ix4 b _ c q)) (Fin.ext (show 64 * 1 + i.val - 64 = i.val by omega))
  | 2 =>
    rw [dif_neg (show ¬(lane3 2 i).val < 64 by rw [lane3_val]; show ¬(64 * 2 + i.val < 64); omega),
      dif_neg (show ¬((lane3 2 i).val - 64 < 64) by rw [lane3_val]; show ¬(64 * 2 + i.val - 64 < 64); omega)]
    split
    · rw [hy]
      refine Eq.trans ?_ (padded_in (x := x) (b := b) (i := i) (⟨64 + r.val, by omega⟩ : Fin 128) c (show 2 + (63 + r.val) = 64 + r.val + 1 by omega) (show 1 + c.val = c.val + 1 by omega)).symm
      exact congrArg (fun q => x (ix4 b _ c q)) (Fin.ext (show 64 * 2 + i.val - 64 - 64 = i.val by omega))
    · rw [padded_of_row (by show ¬(1 ≤ 2 + (63 + r.val) ∧ 2 + (63 + r.val) ≤ 128); omega)]; exact zf_eq

/-! ## The hidden features -/

theorem tap_at (r : FVec Ideal S65x128x192 .f32) (w : FVec Ideal S1x192x192 .f32) (ρ : Fin 65) (c : Fin 128) (q : Fin 192) :
    (tap r w (ix3 ρ c q) : EReal) = ∑ k : Fin 192, (r (ix3 ρ c k) : EReal) * w (ix3 0 k q) := by
  pointwise [tap]

/-- A sum over the 192 lanes is the sum over the three groups of 64. -/
theorem sum_lanes (f : Fin 192 → EReal) : ∑ k, f k = (∑ i, f (lane3 0 i)) + (∑ i, f (lane3 1 i)) + ∑ i, f (lane3 2 i) := by
  have e : ∑ k, f k = ∑ p : Fin 3 × Fin 64, f (lane3 p.1 p.2) := by
    refine (Fintype.sum_equiv (finProdFinEquiv (m := 3) (n := 64)) _ _ (fun p => ?_)).symm
    exact congrArg f (Fin.ext (show 64 * p.1.val + p.2.val = p.2.val + 64 * p.1.val by omega))
  rw [e, Fintype.sum_prod_type, Fin.sum_univ_three]

variable {r : FVec Ideal S65x128x192 .f32} {x : Image} {b : Fin 16} {off : ℕ}
variable {w0 w1 w2 : FVec Ideal S1x192x192 .f32} {β : FVec Ideal S1x1x192 .f32} {W : Fin 3 → Filter} {B : Fin 3 → Bias 64}

/-- The sum of three shifted products in one column. -/
def colSum (x : Image) (w : Filter) (b : Fin 16) (r c : ℕ) (kx : Fin 3) (o : Fin 64) : EReal :=
  tapAt x w b r c 0 kx o + tapAt x w b r c 1 kx o + tapAt x w b r c 2 kx o

theorem tap_eq (hr : Stacked r x b off) (kx h : Fin 3) (w : FVec Ideal S1x192x192 .f32)
    (hw : ∀ (k : Fin 3) (i : Fin 64) (o : Fin 64), (w (ix3 0 (lane3 k i) (lane3 h o)) : EReal) = W h (ix4 k kx i o))
    (ρ : Fin 65) (c : ℕ) (c' : Fin 128) (hc : kx.val + c = 1 + c'.val) (o : Fin 64) :
    (tap r w (ix3 ρ c' (lane3 h o)) : EReal) = colSum x (W h) b (off + ρ.val) c kx o := by
  rw [tap_at, sum_lanes]
  unfold colSum tapAt
  rw [hc]
  simp only [hw, hr ρ c' _ _]

theorem colSum_zero (w : Filter) (r c : ℕ) (kx : Fin 3) (o : Fin 64) (h : ¬(1 ≤ kx.val + c ∧ kx.val + c ≤ 128)) :
    colSum x w b r c kx o = 0 := by
  unfold colSum tapAt
  simp only [padded_of_col h, zero_mul, Finset.sum_const_zero, add_zero]

theorem conv_cols (w : Filter) (r c : ℕ) (o : Fin 64) :
    convAt x w b r c o = colSum x w b r c 0 o + colSum x w b r c 1 o + colSum x w b r c 2 o := by
  unfold convAt colSum
  abel

/-- The position of a place of a half in its list of places. -/
def flat (ρ : Fin 65) (c : Fin 128) : Fin 8320 := ⟨ρ.val * 128 + c.val, by omega⟩

/-- A map moved one column right or left, zero coming in at the edge. -/
def shiftLeft (t : FVec Ideal S65x128x192 .f32) (ρ : Fin 65) (c : ℕ) (hc : c < 128) (q : Fin 192) : EReal :=
  if _ : c < 1 then 0 else t (ix3 ρ (⟨c - 1, by omega⟩ : Fin 128) q)
def shiftRight (t : FVec Ideal S65x128x192 .f32) (ρ : Fin 65) (c : ℕ) (q : Fin 192) : EReal :=
  if _ : c < 127 then t (ix3 ρ (⟨1 + c, by omega⟩ : Fin 128) q) else 0

theorem feats_at (r : FVec Ideal S65x128x192 .f32) (w0 w1 w2 : FVec Ideal S1x192x192 .f32) (β : FVec Ideal S1x1x192 .f32) (y : Fin 8320) (q : Fin 192) :
    (feats r w0 w1 w2 β (ix2 y q) : EReal)
      = max (((shiftLeft (tap r w0) (⟨y.val / 128, by omega⟩ : Fin 65) (y.val % 128) (by omega) q
          + (tap r w1 (ix3 (⟨y.val / 128, by omega⟩ : Fin 65) (⟨y.val % 128, by omega⟩ : Fin 128) q) : EReal))
          + shiftRight (tap r w2) (⟨y.val / 128, by omega⟩ : Fin 65) (y.val % 128) q) + (β (ix3 0 0 q) : EReal)) 0 := by
  pointwise [feats]
  unfold shiftLeft shiftRight
  simp only [zf_eq]

theorem feats_eq (hr : Stacked r x b off) (hw : Laid w0 w1 w2 β W B) (ρ : Fin 65) (c : Fin 128) (h : Fin 3) (o : Fin 64) :
    (feats r w0 w1 w2 β (ix2 (flat ρ c) (lane3 h o)) : EReal) = hiddenAt x (W h) (B h) b (off + ρ.val) c.val o := by
  have hρ := ρ.isLt
  have hc := c.isLt
  have d1 : (⟨(flat ρ c).val / 128, by have := (flat ρ c).isLt; omega⟩ : Fin 65) = ρ := Fin.ext (show (ρ.val * 128 + c.val) / 128 = ρ.val by omega)
  have d2 : (flat ρ c).val % 128 = c.val := show (ρ.val * 128 + c.val) % 128 = c.val by omega
  rw [feats_at]
  simp only [d1, d2, hw.bias]
  unfold hiddenAt
  rw [conv_cols]
  have t0 : shiftLeft (tap r w0) ρ c.val hc (lane3 h o) = colSum x (W h) b (off + ρ.val) c.val 0 o := by
    unfold shiftLeft
    split
    · rw [colSum_zero _ _ _ _ _ (by show ¬(1 ≤ 0 + c.val ∧ _); omega)]
    · exact tap_eq hr 0 h w0 (fun k i o => hw.left k i h o) ρ c.val _ (by show 0 + c.val = 1 + (c.val - 1); omega) o
  have t1 : (tap r w1 (ix3 ρ (⟨c.val, hc⟩ : Fin 128) (lane3 h o)) : EReal) = colSum x (W h) b (off + ρ.val) c.val 1 o :=
    tap_eq hr 1 h w1 (fun k i o => hw.mid k i h o) ρ c.val _ rfl o
  have t2 : shiftRight (tap r w2) ρ c.val (lane3 h o) = colSum x (W h) b (off + ρ.val) c.val 2 o := by
    unfold shiftRight
    split
    · exact tap_eq hr 2 h w2 (fun k i o => hw.right k i h o) ρ c.val _ (by show 2 + c.val = 1 + (1 + c.val); omega) o
    · rw [colSum_zero _ _ _ _ _ (by show ¬(1 ≤ 2 + c.val ∧ 2 + c.val ≤ 128); omega)]
  rw [t0, t1, t2]

/-! ## The heads -/

theorem heatOf_eq (hr : Stacked r x b off) (hw : Laid w0 w1 w2 β W B) (w : FVec Ideal S64x80 .f32) (u : FVec Ideal S1x80 .f32)
    (w' : Mix 80) (u' : Bias 80) (hm : ∀ o l, (w (ix2 o l) : EReal) = w' (ix4 (0 : Fin 1) (0 : Fin 1) o l)) (hu : ∀ l, (u (ix2 0 l) : EReal) = u' (ix1 l))
    (ρ : Fin 65) (c : Fin 128) (l : Fin 80) :
    (heatOf (feats r w0 w1 w2 β) w u (ix3 ρ c l) : EReal) = Ideal.logistic (headAt x (W 0) (B 0) w' u' b (off + ρ.val) c.val l) := by
  have e : (heatOf (feats r w0 w1 w2 β) w u (ix3 ρ c l) : EReal)
      = Ideal.logistic (∑ o : Fin 64, (feats r w0 w1 w2 β (ix2 (flat ρ c) (⟨o.val, by omega⟩ : Fin 192)) : EReal) * w (ix2 o l) + u (ix2 0 l)) := by
    pointwise [heatOf]
    rfl
  rw [e]
  unfold headAt
  have hl : ∀ o : Fin 64, (⟨o.val, by omega⟩ : Fin 192) = lane3 0 o := fun o => Fin.ext (show o.val = 64 * 0 + o.val by omega)
  simp only [hl, feats_eq hr hw, hm, hu]

/-- The regression weights of both heads: the first head's in the first 64 rows and two lanes, the second's in
    the others, zero elsewhere. -/
structure Crossed (w : FVec Ideal S128x4 .f32) (u : FVec Ideal S1x4 .f32) (w5 : Mix 2) (u5 : Bias 2) (w9 : Mix 2) (u9 : Bias 2) : Prop where
  ul : ∀ (o : Fin 64) (l : Fin 2), (w (ix2 (⟨o.val, by omega⟩ : Fin 128) (⟨l.val, by omega⟩ : Fin 4)) : EReal) = w5 (ix4 (0 : Fin 1) (0 : Fin 1) o l)
  ur : ∀ (o : Fin 64) (l : Fin 2), (w (ix2 (⟨o.val, by omega⟩ : Fin 128) (⟨2 + l.val, by omega⟩ : Fin 4)) : EReal) = 0
  ll : ∀ (o : Fin 64) (l : Fin 2), (w (ix2 (⟨64 + o.val, by omega⟩ : Fin 128) (⟨l.val, by omega⟩ : Fin 4)) : EReal) = 0
  lr : ∀ (o : Fin 64) (l : Fin 2), (w (ix2 (⟨64 + o.val, by omega⟩ : Fin 128) (⟨2 + l.val, by omega⟩ : Fin 4)) : EReal) = w9 (ix4 (0 : Fin 1) (0 : Fin 1) o l)
  bl : ∀ l : Fin 2, (u (ix2 0 (⟨l.val, by omega⟩ : Fin 4)) : EReal) = u5 (ix1 l)
  br : ∀ l : Fin 2, (u (ix2 0 (⟨2 + l.val, by omega⟩ : Fin 4)) : EReal) = u9 (ix1 l)

theorem sum_two (f : Fin 128 → EReal) : ∑ k, f k = (∑ o : Fin 64, f ⟨o.val, by omega⟩) + ∑ o : Fin 64, f ⟨64 + o.val, by omega⟩ :=
  Fin.sum_univ_add (a := 64) (b := 64) f

theorem regOf_at (f : FVec Ideal S8320x192 .f32) (w : FVec Ideal S128x4 .f32) (u : FVec Ideal S1x4 .f32) (ρ : Fin 65) (c : Fin 128) (q : Fin 4) :
    (regOf f w u (ix3 ρ c q) : EReal)
      = ((∑ o : Fin 64, (f (ix2 (flat ρ c) (lane3 1 o)) : EReal) * w (ix2 (⟨o.val, by omega⟩ : Fin 128) q))
        + ∑ o : Fin 64, (f (ix2 (flat ρ c) (lane3 2 o)) : EReal) * w (ix2 (⟨64 + o.val, by omega⟩ : Fin 128) q)) + u (ix2 0 q) := by
  have e : (regOf f w u (ix3 ρ c q) : EReal)
      = ∑ k : Fin 128, (f (ix2 (flat ρ c) (⟨64 + k.val, by omega⟩ : Fin 192)) : EReal) * w (ix2 k q) + u (ix2 0 q) := by
    pointwise [regOf]
    rfl
  rw [e, sum_two]
  have hl : ∀ o : Fin 64, (⟨64 + (⟨64 + o.val, by omega⟩ : Fin 128).val, by show 64 + (64 + o.val) < 192; omega⟩ : Fin 192) = lane3 2 o :=
    fun o => Fin.ext (show 64 + (64 + o.val) = 64 * 2 + o.val by omega)
  have hl' : ∀ o : Fin 64, (⟨64 + (⟨o.val, by omega⟩ : Fin 128).val, by show 64 + o.val < 192; omega⟩ : Fin 192) = lane3 1 o :=
    fun o => Fin.ext (show 64 + o.val = 64 * 1 + o.val by omega)
  simp only [hl, hl']

theorem regOf_left (hr : Stacked r x b off) (hw : Laid w0 w1 w2 β W B) {w : FVec Ideal S128x4 .f32} {u : FVec Ideal S1x4 .f32}
    {w5 : Mix 2} {u5 : Bias 2} {w9 : Mix 2} {u9 : Bias 2} (hx : Crossed w u w5 u5 w9 u9) (ρ : Fin 65) (c : Fin 128) (l : Fin 2) :
    (regOf (feats r w0 w1 w2 β) w u (ix3 ρ c (⟨l.val, by omega⟩ : Fin 4)) : EReal) = headAt x (W 1) (B 1) w5 u5 b (off + ρ.val) c.val l := by
  rw [regOf_at]
  simp only [feats_eq hr hw, hx.ul, hx.ll, hx.bl, mul_zero, Finset.sum_const_zero, add_zero]
  rfl

theorem regOf_right (hr : Stacked r x b off) (hw : Laid w0 w1 w2 β W B) {w : FVec Ideal S128x4 .f32} {u : FVec Ideal S1x4 .f32}
    {w5 : Mix 2} {u5 : Bias 2} {w9 : Mix 2} {u9 : Bias 2} (hx : Crossed w u w5 u5 w9 u9) (ρ : Fin 65) (c : Fin 128) (l : Fin 2) :
    (regOf (feats r w0 w1 w2 β) w u (ix3 ρ c (⟨2 + l.val, by omega⟩ : Fin 4)) : EReal) = headAt x (W 2) (B 2) w9 u9 b (off + ρ.val) c.val l := by
  rw [regOf_at]
  simp only [feats_eq hr hw, hx.ur, hx.lr, hx.br, mul_zero, Finset.sum_const_zero, zero_add]
  rfl

end Cert.KernelIdeal.Body

end
-- ==== Proof.Pick.lean ====
/- One extraction over the extended reals: from a table that holds each row's largest entry per class, the
   place found is the first of the largest entries, in the order class, row, column; the table after the
   extraction is again the table of the heat map after it. -/
module

public import proofs.«01_k».proof.Proof.Slots
public import Idealize.ShloMosaic.Lib.Pointwise

@[expose] public section

set_option synthInstance.maxSize 4096
set_option maxRecDepth 16384

noncomputable section

namespace Cert.KernelIdeal.Body

open Idealize.ShloMosaic Idealize.SL.Sem
open Cert.KernelIdeal Facts₀ Facts
open VecWindow (window put)

/-! ## Scalars -/

/-- The filler of the lanes that are no class. -/
def filler : EReal := Ideal.ofBits .f32 0xBF800000#32

theorem filler_nonpos : filler ≤ 0 := by
  unfold filler
  simp [Ideal.ofBits, Ideal.ieee]
  rw [← EReal.coe_mul]
  exact EReal.coe_nonneg.mpr (by norm_num)

theorem ofBits_bot : Ideal.ofBits .f32 0xFF800000#32 = ⊥ := by
  simp [Ideal.ofBits, Ideal.ieee]

/-- A fold of maxima from −∞ is the supremum. -/
theorem fold_max_sup {ι : Type} (S : Finset ι) (f : ι → EReal) :
    Finset.fold max (Ideal.ofBits .f32 0xFF800000#32) f S = S.sup f := by
  rw [ofBits_bot]; rfl

theorem word_eq (a b : Fin 128) : (BitVec.ofNat 32 a.val = BitVec.ofNat 32 b.val) ↔ a = b := by
  constructor
  · intro h
    have := congrArg BitVec.toNat h
    simp only [BitVec.toNat_ofNat] at this
    exact Fin.ext (by omega)
  · rintro rfl; rfl

theorem word_beq (a b : Fin 128) : (BitVec.ofNat 32 a.val == BitVec.ofNat 32 b.val) = decide (a = b) := by
  rw [Bool.eq_iff_iff, beq_iff_eq, decide_eq_true_iff, word_eq]

theorem select_eq_word {α : Type} (a b : Fin 128) (x y : α) :
    Scalar.select (IntOp.cmpi .eq (BitVec.ofNat 32 a.val) (BitVec.ofNat 32 b.val)) x y = if a = b then x else y := by
  unfold Scalar.select IntOp.cmpi
  rw [word_beq]
  by_cases h : a = b <;> simp [h]

theorem select_and_word {α : Type} (a b a' b' : Fin 128) (x y : α) :
    Scalar.select (IntOp.andi (IntOp.cmpi .eq (BitVec.ofNat 32 a.val) (BitVec.ofNat 32 b.val))
      (IntOp.cmpi .eq (BitVec.ofNat 32 a'.val) (BitVec.ofNat 32 b'.val))) x y = if a = b ∧ a' = b' then x else y := by
  unfold Scalar.select IntOp.cmpi IntOp.andi
  rw [word_beq, word_beq]
  by_cases h : a = b <;> by_cases h' : a' = b' <;> simp [h, h']

theorem select_class {α : Type} (l : Fin 128) (x y : α) :
    Scalar.select (IntOp.cmpi .slt (BitVec.ofNat 32 l.val) 80#32) x y = if l.val < 80 then x else y := by
  have h : IntOp.cmpi .slt (BitVec.ofNat 32 l.val) 80#32 = if l.val < 80 then 1#1 else 0#1 := by
    revert l; decide
  rw [h]
  unfold Scalar.select
  by_cases h' : l.val < 80 <;> simp [h']

/-! ## The pieces at an index -/

theorem maxOf_eq (t : FVec Ideal S128x128 .f32) :
    maxOf t = (Finset.univ : Finset (Fin 128 × Fin 128)).sup fun p => t (ix2 p.1 p.2) := by
  pointwise [maxOf]
  exact fold_max_sup _ _

theorem le_maxOf (t : FVec Ideal S128x128 .f32) (y l : Fin 128) : (t (ix2 y l) : EReal) ≤ maxOf t := by
  rw [maxOf_eq]
  exact Finset.le_sup (f := fun p : Fin 128 × Fin 128 => (t (ix2 p.1 p.2) : EReal)) (Finset.mem_univ (y, l))

theorem maxOf_mem (t : FVec Ideal S128x128 .f32) : ∃ y l : Fin 128, maxOf t = t (ix2 y l) := by
  rw [maxOf_eq]
  obtain ⟨p, -, hp⟩ := Finset.exists_mem_eq_sup (Finset.univ : Finset (Fin 128 × Fin 128)) Finset.univ_nonempty
    (fun p => (t (ix2 p.1 p.2) : EReal))
  exact ⟨p.1, p.2, hp⟩

theorem hit_iff (t : FVec Ideal S128x128 .f32) (i : S128x128.Idx) : Hit t i ↔ t i = maxOf t := Ideal.cmp_oeq_eq_one _ _
theorem colHit_iff (v : Ideal .f32) (c : ℕ) (s : FVec Ideal S1x128x128 .f32) (i : S1x128x128.Idx) :
    ColHit v c s i ↔ s i = v ∧ (i 2).val = c := and_congr (Ideal.cmp_oeq_eq_one _ _) Iff.rfl

theorem slabNext_at (x c j l : Fin 128) (s : FVec Ideal S1x128x128 .f32) :
    slabNext (BitVec.ofNat 32 x.val) (BitVec.ofNat 32 c.val) s (ix3 0 j l) = if j = x ∧ l = c then 0 else s (ix3 0 j l) := by
  pointwise [slabNext, slabRows, slabCols]
  exact select_and_word _ _ _ _ _ _

theorem chanMax_at (s : FVec Ideal S1x128x128 .f32) (l : Fin 128) :
    chanMax s (ix2 0 l) = if l.val < 80 then Finset.univ.sup (fun x : Fin 128 => (s (ix3 0 x l) : EReal)) else filler := by
  pointwise [chanMax, slabCols]
  rw [fold_max_sup]
  simp only [select_class]
  split
  · rfl
  · exact Finset.sup_const Finset.univ_nonempty _

theorem tabNext_at (y j l : Fin 128) (s : FVec Ideal S1x128x128 .f32) (t : FVec Ideal S128x128 .f32) :
    tabNext (BitVec.ofNat 32 y.val) s t (ix2 j l) = if j = y then chanMax s (ix2 0 l) else t (ix2 j l) := by
  pointwise [tabNext, rows]
  exact select_eq_word _ _ _ _

theorem sum_select (a : Fin 128) (f : Fin 128 → EReal) :
    ∑ x : Fin 128, Scalar.select (IntOp.cmpi .eq (BitVec.ofNat 32 x.val) (BitVec.ofNat 32 a.val)) (f x) 0 = f a := by
  simp only [select_eq_word, Finset.sum_ite_eq', Finset.mem_univ, if_true]

theorem colVec_at (x l : Fin 128) (s : FVec Ideal S1x128x128 .f32) :
    colVec (BitVec.ofNat 32 x.val) s (ix2 0 l) = s (ix3 0 x l) := by
  pointwise [colVec, slabRows]
  exact sum_select x fun y => s (ix3 0 y l)

theorem lane_at (l : Fin 128) (v : FVec Ideal S1x128 .f32) : lane (BitVec.ofNat 32 l.val) v = v (ix2 0 l) := by
  pointwise [lane, lanes]
  rw [Fin.sum_univ_one]
  exact sum_select l fun y => v (ix2 0 y)

/-! ## One extraction -/

variable (p : FVec Ideal S128x128 .f32 × FVec Ideal S128x128x128 .f32)

/-- The table is that of the heat map, and the heat map has no negative entry in a class lane. -/
def Good : Prop :=
  (∀ y l : Fin 128, p.1 (ix2 y l)
      = if l.val < 80 then Finset.univ.sup (fun x : Fin 128 => (p.2 (ix3 y x l) : EReal)) else filler)
    ∧ ∀ y x l : Fin 128, l.val < 80 → (0 : EReal) ≤ p.2 (ix3 y x l)

theorem slabIn_at (t : FVec Ideal S128x128 .f32) (H : FVec Ideal S128x128x128 .f32) (y x l : Fin 128) (hy : rowNat t = y.val) :
    slabIn t H (ix3 0 x l) = H (ix3 y x l) := by
  refine congrArg H (funext fun a => Fin.ext ?_)
  fin_cases a
  · show rowNat t + 1 * 0 = y.val
    omega
  · show 0 + 1 * x.val = x.val
    omega
  · show 0 + 1 * l.val = l.val
    omega

/-- What the place of a table names. -/
structure Picks (y x c : Fin 128) : Prop where
  cls : c.val < 80
  val : maxOf p.1 = p.2 (ix3 y x c)
  pos : (0 : EReal) < p.2 (ix3 y x c)
  clsOf : clsOf (posOf p.1) = BitVec.ofNat 32 c.val
  rowOf : rowOf (posOf p.1) = BitVec.ofNat 32 y.val
  colOf : colOf (maxOf p.1) (BitVec.ofNat 32 c.val) (slabIn p.1 p.2) = BitVec.ofNat 32 x.val
  row : rowNat p.1 = y.val
  best : ∀ y' x' c' : Fin 128, c'.val < 80 → (p.2 (ix3 y' x' c') : EReal) < p.2 (ix3 y x c)
    ∨ (p.2 (ix3 y' x' c') = p.2 (ix3 y x c) ∧ c.val * 16384 + y.val * 128 + x.val ≤ c'.val * 16384 + y'.val * 128 + x'.val)

theorem exists_picks (hG : Good p) (hpos : ∃ y x l : Fin 128, l.val < 80 ∧ (0 : EReal) < p.2 (ix3 y x l)) :
    ∃ y x c, Picks p y x c := by
  obtain ⟨t, H⟩ := p
  obtain ⟨hT, hN⟩ := hG
  dsimp only at hT hN hpos
  have hle : ∀ y x l : Fin 128, l.val < 80 → (H (ix3 y x l) : EReal) ≤ t (ix2 y l) := fun y x l hl => by
    rw [hT, if_pos hl]
    exact Finset.le_sup (f := fun x : Fin 128 => (H (ix3 y x l) : EReal)) (Finset.mem_univ x)
  have hM : (0 : EReal) < maxOf t := by
    obtain ⟨y, x, l, hl, h⟩ := hpos
    exact h.trans_le ((hle y x l hl).trans (le_maxOf t y l))
  have hcls : ∀ y l : Fin 128, t (ix2 y l) = maxOf t → l.val < 80 := fun y l h => by
    by_contra hl
    rw [hT, if_neg hl] at h
    rw [← h] at hM
    exact absurd hM (not_lt.mpr filler_nonpos)
  obtain ⟨n, h1, -, h3, h4⟩ := posOf_spec t
  obtain ⟨c, y, hc, hy, hn, htc⟩ : ∃ c y : Fin 128, c.val < 80 ∧ True ∧ n = c.val * 16384 + y.val * 128 ∧ t (ix2 y c) = maxOf t := by
    rcases h4 with h4 | ⟨i, hi, h4⟩
    · exfalso
      obtain ⟨y, l, h⟩ := maxOf_mem t
      have := h3 (ix2 y l) ((hit_iff _ _).mpr h.symm)
      have e0 : ((ix2 y l : S128x128.Idx) 1).val = l.val := rfl
      have e1 : ((ix2 y l : S128x128.Idx) 0).val = y.val := rfl
      have := y.isLt
      have := l.isLt
      omega
    · obtain ⟨y, c, rfl⟩ : ∃ (y : Fin 128) (c : Fin 128), i = ix2 y c := ⟨i 0, i 1, eq_ix2 i⟩
      have hi' := (hit_iff _ _).mp hi
      exact ⟨c, y, hcls y c hi', trivial, h4, hi'⟩
  have hyl := y.isLt
  have e1 : clsOf (posOf t) = BitVec.ofNat 32 c.val := by
    rw [h1, clsOf_nat n (by omega)]; exact congrArg (BitVec.ofNat 32) (by omega)
  have e2 : rowOf (posOf t) = BitVec.ofNat 32 y.val := by
    rw [h1, rowOf_nat n (by omega)]; exact congrArg (BitVec.ofNat 32) (by omega)
  have e3 : rowNat t = y.val := by
    unfold rowNat; rw [e2, BitVec.toNat_ofNat]; omega
  obtain ⟨k, g1, -, g3, g4⟩ := colOf_spec (maxOf t) c.val (by omega) (slabIn t H)
  have hat : ∀ x : Fin 128, H (ix3 y x c) = maxOf t → k ≤ x.val := fun x hx =>
    g3 (ix3 0 x c) ((colHit_iff _ _ _ _).mpr ⟨by rw [slabIn_at t H y x c e3]; exact hx, rfl⟩)
  obtain ⟨x, hx, hk⟩ : ∃ x : Fin 128, H (ix3 y x c) = maxOf t ∧ k = x.val := by
    rcases g4 with g4 | ⟨i, hi, g4⟩
    · exfalso
      obtain ⟨x, -, hx⟩ := Finset.exists_mem_eq_sup (Finset.univ : Finset (Fin 128)) Finset.univ_nonempty
        (fun x => (H (ix3 y x c) : EReal))
      have : H (ix3 y x c) = maxOf t := by rw [← htc, hT, if_pos hc]; exact hx.symm
      have := hat x this
      have := x.isLt
      omega
    · obtain ⟨z, x, l, rfl⟩ : ∃ (z : Fin 1) (x : Fin 128) (l : Fin 128), i = ix3 z x l := ⟨i 0, i 1, i 2, eq_ix3 i⟩
      obtain ⟨h5, h6⟩ := (colHit_iff _ _ _ _).mp hi
      obtain rfl : z = 0 := Subsingleton.elim _ _
      obtain rfl : l = c := Fin.ext h6
      rw [slabIn_at t H y x l e3] at h5
      exact ⟨x, h5, g4⟩
  refine ⟨y, x, c, hc, hx.symm, show (0 : EReal) < H (ix3 y x c) by rw [hx]; exact hM, e1, e2, by rw [g1, hk], e3, fun y' x' c' hc' => ?_⟩
  show (H (ix3 y' x' c') : EReal) < H (ix3 y x c) ∨ (H (ix3 y' x' c') = H (ix3 y x c) ∧ _)
  have hb := (hle y' x' c' hc').trans (le_maxOf t y' c')
  rw [hx]
  rcases lt_or_eq_of_le hb with hb | hb
  · exact .inl hb
  · refine .inr ⟨hb, ?_⟩
    have ht' : t (ix2 y' c') = maxOf t := le_antisymm (le_maxOf t y' c') (by rw [← hb]; exact hle y' x' c' hc')
    have h7 : n ≤ c'.val * 16384 + y'.val * 128 := h3 (ix2 y' c') ((hit_iff _ _).mpr ht')
    have := y'.isLt
    have := x'.isLt
    have := x.isLt
    by_cases hyc : y' = y ∧ c' = c
    · obtain ⟨rfl, rfl⟩ := hyc
      have := hat x' hb
      omega
    · rcases lt_or_eq_of_le h7 with h8 | h8
      · omega
      · exfalso; apply hyc
        constructor <;> apply Fin.ext <;> omega

variable {p} {y x c : Fin 128}

/-- After an extraction the heat map is zero at the place picked and elsewhere as before. -/
theorem next_heat (h : Picks p y x c) (y' x' l : Fin 128) :
    (next p).2 (ix3 y' x' l) = if y' = y ∧ x' = x ∧ l = c then 0 else p.2 (ix3 y' x' l) := by
  obtain ⟨t, H⟩ := p
  have hrow := h.row
  dsimp only at hrow
  show heatIn t H (ix3 y' x' l) = _
  unfold heatIn put slabAfter
  have hc1 := h.clsOf
  have hc2 := h.colOf
  dsimp only at hc1 hc2
  rw [hc1, hc2]
  by_cases hy : y' = y
  · subst hy
    rw [dif_pos (by
      intro a
      have := x'.isLt
      have := l.isLt
      fin_cases a
      · exact ⟨hrow.le, by show y'.val < rowNat t + 1; omega⟩
      · exact ⟨Nat.zero_le _, by show x'.val < 0 + 128; omega⟩
      · exact ⟨Nat.zero_le _, by show l.val < 0 + 128; omega⟩)]
    have hs : ∀ (g : FVec Ideal S1x128x128 .f32) (i : S1x128x128.Idx), (i 1).val = x'.val → (i 2).val = l.val →
        shapeCast S1x128x128 g shapeCasts_S1x128x128_S1x128x128 i = g (ix3 0 x' l) := by
      intro g i h1 h2
      obtain ⟨a, b, d, rfl⟩ : ∃ (a : Fin 1) (b : Fin 128) (d : Fin 128), i = ix3 a b d := ⟨i 0, i 1, i 2, eq_ix3 i⟩
      obtain rfl : a = 0 := Subsingleton.elim _ _
      obtain rfl : b = x' := Fin.ext h1
      obtain rfl : d = l := Fin.ext h2
      pointwise
    refine (hs _ _ (by show x'.val - 0 = x'.val; omega) (by show l.val - 0 = l.val; omega)).trans ?_
    rw [slabNext_at, slabIn_at t H y' x' l hrow]
    simp
  · rw [dif_neg (by
      intro hm
      have h0 := hm 0
      have h1 : rowNat t ≤ y'.val := h0.1
      have h2 : y'.val < rowNat t + 1 := h0.2
      exact hy (Fin.ext (by omega)))]
    rw [if_neg fun e => hy e.1]

/-- The table after an extraction is that of the heat map after it. -/
theorem next_good (hG : Good p) (h : Picks p y x c) : Good (next p) := by
  obtain ⟨hT, hN⟩ := hG
  refine ⟨fun y' l => ?_, fun y' x' l hl => ?_⟩
  · have h1 := h.clsOf
    have h2 := h.rowOf
    have h3 := h.colOf
    have hrow := h.row
    simp only [next_heat h]
    obtain ⟨t, H⟩ := p
    dsimp only at h1 h2 h3 hrow hT ⊢
    show tabAfter t (slabIn t H) (ix2 y' l) = _
    unfold tabAfter slabAfter
    rw [h1, h2, h3, tabNext_at]
    by_cases hy : y' = y
    · subst hy
      rw [if_pos rfl, chanMax_at]
      simp only [slabNext_at, slabIn_at t H y' _ l hrow, true_and]
    · rw [if_neg hy, hT]
      simp only [hy, false_and, if_false]
  · rw [next_heat h]
    split
    · exact le_refl _
    · exact hN y' x' l hl

end Cert.KernelIdeal.Body

end
-- ==== Proof.KernPeaks.lean ====
/- The kernel's peaks of an image, over the extended reals: in each class lane of the stored heat map stands the class's
   peak value, and the stored table holds each row's largest. -/
module

public import proofs.«01_k».proof.Proof.KernMaps
public import proofs.«01_k».proof.Proof.Slots
public import proofs.«01_k».proof.Proof.Pick

@[expose] public section

set_option synthInstance.maxSize 4096
set_option maxRecDepth 16384

noncomputable section

namespace Cert.KernelIdeal.Body

open Idealize.ShloMosaic Idealize.SL.Sem
open Cert.KernelIdeal Facts₀ Facts
open Cert.Center

/-! ## The pooled map -/

/-- The value before, and after, an entry along an axis of `n`, zero past the ends. -/
def before0 {n : ℕ} (g : Fin n → EReal) (a : Fin n) : EReal := if _ : a.val < 1 then 0 else g ⟨a.val - 1, by omega⟩
def after0 {n : ℕ} (g : Fin n → EReal) (a : Fin n) : EReal := if h : a.val < n - 1 then g ⟨1 + a.val, by omega⟩ else 0

/-- The largest of three neighbours of a map without negative values lies below `t` exactly when all of them do. -/
theorem three_le {n : ℕ} (g : Fin n → EReal) (hg : ∀ a, 0 ≤ g a) (a : Fin n) (t : EReal) :
    max (max (before0 g a) (g a)) (after0 g a) ≤ t ↔ ∀ a' : Fin n, a'.val ≤ a.val + 1 → a.val ≤ a'.val + 1 → g a' ≤ t := by
  constructor
  · intro h a' h1 h2
    obtain ⟨h12, h3⟩ := max_le_iff.mp h
    obtain ⟨h0, hm⟩ := max_le_iff.mp h12
    have hc : a'.val = a.val ∨ a'.val + 1 = a.val ∨ a'.val = 1 + a.val := by omega
    rcases hc with e | e | e
    · rwa [show a' = a from Fin.ext e]
    · unfold before0 at h0
      rw [dif_neg (by omega)] at h0
      rwa [show a' = ⟨a.val - 1, by omega⟩ from Fin.ext (by show a'.val = a.val - 1; omega)]
    · unfold after0 at h3
      have := a'.isLt
      rw [dif_pos (by omega)] at h3
      rwa [show a' = ⟨1 + a.val, by omega⟩ from Fin.ext e]
  · intro h
    have hm := h a (by omega) (by omega)
    refine max_le (max_le ?_ hm) ?_
    · unfold before0; split
      · exact (hg a).trans hm
      · exact h _ (by show a.val - 1 ≤ _; omega) (by show a.val ≤ a.val - 1 + 1; omega)
    · unfold after0; split
      · exact h _ (by show 1 + a.val ≤ _; omega) (by show a.val ≤ 1 + a.val + 1; omega)
      · exact (hg a).trans hm

theorem poolRow_at (f : FVec Ideal S65x128x80 .f32) (r : Fin 65) (c : Fin 128) (q : Fin 80) :
    (poolRow f (ix3 r c q) : EReal) = max (max (before0 (fun c' : Fin 128 => (f (ix3 r c' q) : EReal)) c) (f (ix3 r c q))) (after0 (fun c' : Fin 128 => (f (ix3 r c' q) : EReal)) c) := by
  unfold before0 after0
  rw [← zf_eq]
  pointwise [poolRow]
theorem poolCol_at (f : FVec Ideal S65x128x80 .f32) (r : Fin 65) (c : Fin 128) (q : Fin 80) :
    (poolCol f (ix3 r c q) : EReal) = max (max (before0 (fun r' : Fin 65 => (f (ix3 r' c q) : EReal)) r) (f (ix3 r c q))) (after0 (fun r' : Fin 65 => (f (ix3 r' c q) : EReal)) r) := by
  unfold before0 after0
  rw [← zf_eq]
  pointwise [poolCol]

variable {f : FVec Ideal S65x128x80 .f32}

theorem poolRow_le (hf : ∀ r c q, (0 : EReal) ≤ f (ix3 r c q)) (r : Fin 65) (c : Fin 128) (q : Fin 80) (t : EReal) :
    (poolRow f (ix3 r c q) : EReal) ≤ t ↔ ∀ c' : Fin 128, c'.val ≤ c.val + 1 → c.val ≤ c'.val + 1 → (f (ix3 r c' q) : EReal) ≤ t := by
  rw [poolRow_at]
  exact three_le (fun c' : Fin 128 => (f (ix3 r c' q) : EReal)) (fun c' => hf r c' q) c t

theorem pool_le (hf : ∀ r c q, (0 : EReal) ≤ f (ix3 r c q)) (r : Fin 65) (c : Fin 128) (q : Fin 80) (t : EReal) :
    (poolCol (poolRow f) (ix3 r c q) : EReal) ≤ t
      ↔ ∀ r' : Fin 65, r'.val ≤ r.val + 1 → r.val ≤ r'.val + 1 → ∀ c' : Fin 128, c'.val ≤ c.val + 1 → c.val ≤ c'.val + 1 → (f (ix3 r' c' q) : EReal) ≤ t := by
  rw [poolCol_at]
  refine (three_le (fun r' : Fin 65 => (poolRow f (ix3 r' c q) : EReal)) (fun r' => (hf r' c q).trans ?_) r t).trans ?_
  · exact (poolRow_le hf r' c q _).mp le_rfl c (by omega) (by omega)
  · simp only [poolRow_le hf]

/-! ## The peaks of a half -/

/-- A half's map is the image's map `h` from row `off` on. -/
def HalfOf (f : FVec Ideal S65x128x80 .f32) (h : Fin 80 → Fin 128 → Fin 128 → EReal) (off : ℕ) : Prop :=
  ∀ (ρ : Fin 65) (c : Fin 128) (l : Fin 80) (r : Fin 128), r.val = off + ρ.val → (f (ix3 ρ c l) : EReal) = h l r c

theorem bit_one (a : EReal) (b : EReal) (h : a = b) :
    (FloatOps.sitofp (F := Ideal) .f32 (BitVec.setWidth 32 (BitVec.ofBool (decide (a = b)))) : EReal) = 1 := by
  rw [decide_eq_true h]
  show ((((BitVec.setWidth 32 (1#1 : BitVec 1)).toInt : ℝ)) : EReal) = 1
  simp
theorem bit_zero (a : EReal) (b : EReal) (h : a ≠ b) :
    (FloatOps.sitofp (F := Ideal) .f32 (BitVec.setWidth 32 (BitVec.ofBool (decide (a = b)))) : EReal) = 0 := by
  rw [decide_eq_false h]
  show ((((BitVec.setWidth 32 (0#1 : BitVec 1)).toInt : ℝ)) : EReal) = 0
  simp

variable {h : Fin 80 → Fin 128 → Fin 128 → EReal} {off : ℕ}

theorem half_peak (hh : ∀ l r c, 0 ≤ h l r c) (hoff : off + 65 ≤ 128) (hf : HalfOf f h off) (ρ : Fin 65) (c : Fin 128) (l : Fin 80) (y : Fin 128)
    (hy : y.val = off + ρ.val) (hlo : 0 < off → 1 ≤ ρ.val) (hhi : off + 65 < 128 → ρ.val < 64) :
    (f (ix3 ρ c l) : EReal) * (FloatOps.sitofp (F := Ideal) .f32 (BitVec.setWidth 32 (BitVec.ofBool (decide ((poolCol (poolRow f) (ix3 ρ c l) : EReal) = f (ix3 ρ c l))))) : EReal)
      = peakVal (h l) y c := by
  have h0 : ∀ r c q, (0 : EReal) ≤ f (ix3 r c q) := fun r c q => by
    rw [hf r c q ⟨off + r.val, by omega⟩ rfl]; exact hh _ _ _
  have hv := hf ρ c l y hy
  have hp : ∀ t, (poolCol (poolRow f) (ix3 ρ c l) : EReal) ≤ t
      ↔ ∀ r' c' : Fin 128, r'.val ≤ y.val + 1 → y.val ≤ r'.val + 1 → c'.val ≤ c.val + 1 → c.val ≤ c'.val + 1 → h l r' c' ≤ t := fun t => by
    rw [pool_le h0]
    constructor
    · intro H r' c' h1 h2 h3 h4
      have hr' := r'.isLt
      have hρ := ρ.isLt
      have := H ⟨r'.val - off, by omega⟩ (by show r'.val - off ≤ _; omega) (by show _ ≤ r'.val - off + 1; omega) c' h3 h4
      rwa [hf _ c' l r' (by show r'.val = off + (r'.val - off); omega)] at this
    · intro H r' h1 h2 c' h3 h4
      rw [hf r' c' l ⟨off + r'.val, by omega⟩ rfl]
      exact H _ c' (by show off + r'.val ≤ _; omega) (by show _ ≤ off + r'.val + 1; omega) h3 h4
  rw [hv]
  refine keep_eq (pool := (poolCol (poolRow f) (ix3 ρ c l) : EReal)) ⟨fun e => (hp _).mp e.le, fun hP => le_antisymm ((hp _).mpr hP) ?_⟩ (fun e => ?_) (fun e => ?_)
  · exact (hp _).mp le_rfl y c (by omega) (by omega) (by omega) (by omega)
  · exact bit_one _ _ e
  · exact bit_zero _ _ e

theorem topPeaks_eq (hh : ∀ l r c, 0 ≤ h l r c) (hf : HalfOf f h 0) (r : Fin 64) (c : Fin 128) (l : Fin 80) (y : Fin 128) (hy : y.val = r.val) :
    (topPeaks f (ix3 r c l) : EReal) = peakVal (h l) y c := by
  refine Eq.trans ?_ (half_peak hh (by omega) hf ⟨r.val, by omega⟩ c l y (by show y.val = 0 + r.val; omega) (by omega) (fun _ => r.isLt))
  pointwise [topPeaks, peaks]
theorem botPeaks_eq (hh : ∀ l r c, 0 ≤ h l r c) (hf : HalfOf f h 63) (r : Fin 64) (c : Fin 128) (l : Fin 80) (y : Fin 128) (hy : y.val = 64 + r.val) :
    (botPeaks f (ix3 r c l) : EReal) = peakVal (h l) y c := by
  refine Eq.trans ?_ (half_peak hh (by omega) hf ⟨1 + r.val, by omega⟩ c l y (by show y.val = 63 + (1 + r.val); omega) (fun _ => by show 1 ≤ 1 + r.val; omega) (by omega))
  pointwise [botPeaks, peaks]

/-! ## What a slot holds -/

theorem pack_class (p : FVec Ideal S64x128x80 .f32) (g : FVec Ideal S64x128x4 .f32) (r : Fin 64) (c q : Fin 128) (hq : q.val < 80) :
    (pack p g (ix3 r c q) : EReal) = p (ix3 r c (⟨q.val, hq⟩ : Fin 80)) := by
  have e : (pack p g (ix3 r c q) : EReal) = if h : q.val < 80 then p (ix3 r c (⟨q.val, h⟩ : Fin 80))
      else if h : q.val - 80 < 4 then g (ix3 r c (⟨q.val - 80, h⟩ : Fin 4)) else zf := by
    pointwise [pack]
  rw [e, dif_pos hq]
theorem pack_reg (p : FVec Ideal S64x128x80 .f32) (g : FVec Ideal S64x128x4 .f32) (r : Fin 64) (c q : Fin 128) (k : Fin 4) (hq : q.val = 80 + k.val) :
    (pack p g (ix3 r c q) : EReal) = g (ix3 r c k) := by
  have e : (pack p g (ix3 r c q) : EReal) = if h : q.val < 80 then p (ix3 r c (⟨q.val, h⟩ : Fin 80))
      else if h : q.val - 80 < 4 then g (ix3 r c (⟨q.val - 80, h⟩ : Fin 4)) else zf := by
    pointwise [pack]
  rw [e, dif_neg (by omega), dif_pos (by omega)]
  exact congrArg (fun k => g (ix3 r c k)) (Fin.ext (show q.val - 80 = k.val by omega))

theorem colMax_at (p : FVec Ideal S64x128x80 .f32) (r : Fin 64) (q : Fin 128) :
    (colMax p (ix2 r q) : EReal) = if h : q.val < 80 then Finset.univ.sup (fun x : Fin 128 => (p (ix3 r x (⟨q.val, h⟩ : Fin 80)) : EReal)) else filler := by
  have e : (colMax p (ix2 r q) : EReal) = if h : q.val < 80 then Finset.fold max (Ideal.ofBits .f32 0xFF800000#32) (fun x : Fin 128 => (p (ix3 r x (⟨q.val, h⟩ : Fin 80)) : EReal)) Finset.univ else filler := by
    pointwise [colMax]
    rfl
  rw [e]
  split
  · exact fold_max_sup _ _
  · rfl

theorem topReg_at (g : FVec Ideal S65x128x4 .f32) (r : Fin 64) (c : Fin 128) (k : Fin 4) :
    (topReg g (ix3 r c k) : EReal) = g (ix3 (⟨r.val, by omega⟩ : Fin 65) c k) := by
  pointwise [topReg]
theorem botReg_at (g : FVec Ideal S65x128x4 .f32) (r : Fin 64) (c : Fin 128) (k : Fin 4) :
    (botReg g (ix3 r c k) : EReal) = g (ix3 (⟨1 + r.val, by omega⟩ : Fin 65) c k) := by
  pointwise [botReg]

variable {U L : FVec Ideal S65x128x80 .f32 × FVec Ideal S65x128x4 .f32}

/-- A class lane of the slot: the class's peaks. -/
theorem slot_class (hh : ∀ l r c, 0 ≤ h l r c) (hU : HalfOf U.1 h 0) (hL : HalfOf L.1 h 63) (y x : Fin 128) (q : Fin 128) (hq : q.val < 80) :
    (heatSlot U L (ix3 y x q) : EReal) = peakVal (h ⟨q.val, hq⟩) y x := by
  by_cases hy : y.val < 64
  · have e : (heatSlot U L (ix3 y x q) : EReal) = pack (topPeaks U.1) (topReg U.2) (ix3 (⟨y.val, hy⟩ : Fin 64) x q) := dif_pos hy
    rw [e, pack_class _ _ _ _ _ hq]
    exact topPeaks_eq hh hU _ _ _ y rfl
  · have e : (heatSlot U L (ix3 y x q) : EReal) = pack (botPeaks L.1) (botReg L.2) (ix3 (⟨y.val - 64, by omega⟩ : Fin 64) x q) := dif_neg hy
    rw [e, pack_class _ _ _ _ _ hq]
    exact botPeaks_eq hh hL _ _ _ y (show y.val = 64 + (y.val - 64) by omega)

/-- A regression lane of the slot. -/
theorem slot_reg {g : ℕ → ℕ → EReal} (k : Fin 4) (hU : ∀ (ρ : Fin 65) (c : Fin 128), (U.2 (ix3 ρ c k) : EReal) = g (0 + ρ.val) c.val)
    (hL : ∀ (ρ : Fin 65) (c : Fin 128), (L.2 (ix3 ρ c k) : EReal) = g (63 + ρ.val) c.val) (y x q : Fin 128) (hq : q.val = 80 + k.val) :
    (heatSlot U L (ix3 y x q) : EReal) = g y.val x.val := by
  by_cases hy : y.val < 64
  · have e : (heatSlot U L (ix3 y x q) : EReal) = pack (topPeaks U.1) (topReg U.2) (ix3 (⟨y.val, hy⟩ : Fin 64) x q) := dif_pos hy
    rw [e, pack_reg _ _ _ _ _ k hq, topReg_at, hU]
    exact congrArg (fun n => g n x.val) (show 0 + y.val = y.val by omega)
  · have e : (heatSlot U L (ix3 y x q) : EReal) = pack (botPeaks L.1) (botReg L.2) (ix3 (⟨y.val - 64, by omega⟩ : Fin 64) x q) := dif_neg hy
    rw [e, pack_reg _ _ _ _ _ k hq, botReg_at, hL]
    exact congrArg (fun n => g n x.val) (show 63 + (1 + (y.val - 64)) = y.val by omega)

/-- The table of the slot is that of its heat map. -/
theorem slot_good (hh : ∀ l r c, 0 ≤ h l r c) (hU : HalfOf U.1 h 0) (hL : HalfOf L.1 h 63) : Good (tabSlot U L, heatSlot U L) := by
  refine ⟨fun y q => ?_, fun y x q hq => ?_⟩
  · show (tabSlot U L (ix2 y q) : EReal) = if q.val < 80 then Finset.univ.sup (fun x : Fin 128 => (heatSlot U L (ix3 y x q) : EReal)) else filler
    by_cases hq : q.val < 80
    · rw [if_pos hq]
      simp only [slot_class hh hU hL y _ q hq]
      by_cases hy : y.val < 64
      · have e : (tabSlot U L (ix2 y q) : EReal) = colMax (topPeaks U.1) (ix2 (⟨y.val, hy⟩ : Fin 64) q) := dif_pos hy
        rw [e, colMax_at, dif_pos hq]
        exact Finset.sup_congr rfl fun x _ => topPeaks_eq hh hU _ _ _ y rfl
      · have e : (tabSlot U L (ix2 y q) : EReal) = colMax (botPeaks L.1) (ix2 (⟨y.val - 64, by omega⟩ : Fin 64) q) := dif_neg hy
        rw [e, colMax_at, dif_pos hq]
        exact Finset.sup_congr rfl fun x _ => botPeaks_eq hh hL _ _ _ y (show y.val = 64 + (y.val - 64) by omega)
    · rw [if_neg hq]
      by_cases hy : y.val < 64
      · have e : (tabSlot U L (ix2 y q) : EReal) = colMax (topPeaks U.1) (ix2 (⟨y.val, hy⟩ : Fin 64) q) := dif_pos hy
        rw [e, colMax_at, dif_neg hq]
      · have e : (tabSlot U L (ix2 y q) : EReal) = colMax (botPeaks L.1) (ix2 (⟨y.val - 64, by omega⟩ : Fin 64) q) := dif_neg hy
        rw [e, colMax_at, dif_neg hq]
  · show (0 : EReal) ≤ heatSlot U L (ix3 y x q)
    rw [slot_class hh hU hL y x q hq]
    exact peakVal_nonneg (hh _) y x

end Cert.KernelIdeal.Body

end
-- ==== Proof.KernIn.lean ====
/- What the kernel's input blocks hold, over the extended reals: the image of the point and the weights and biases laid
   out for the three heads at once; and so what a point computes. -/
module

public import proofs.«01_k».proof.Proof.KernPeaks
public import proofs.«01_k».proof.Proof.Launch
public import Idealize.ShloMosaic.Lib.Pipeline.ValueKit.Point

@[expose] public section

set_option synthInstance.maxSize 4096
set_option maxRecDepth 16384

noncomputable section

namespace Cert.KernelIdeal.Body

open Idealize.ShloMosaic Idealize.SL.Sem Idealize.ShloMosaic.TcCoe
open Idealize.ShloMosaic.Rounds Idealize.ShloMosaic.Pipeline
open VecWindow (window put)
open Cert.KernelIdeal Facts₀ Facts
open Cert.Center

/-! ## The layouts -/

/-- A head's filter with its rows stacked, one column of it per plane. -/
def columns (w : Filter) : FVec Ideal S3x192x64 .f32 :=
  shapeCast S3x192x64 (transpose S3x3x64x64 [1, 0, 2, 3] w transposes_S3x3x64x64_S3x3x64x64_1_0_2_3) shapeCasts_S3x3x64x64_S3x192x64

theorem columns_at (w : Filter) (k κ : Fin 3) (i o : Fin 64) : (columns w (ix3 k (lane3 κ i) o) : EReal) = w (ix4 κ k i o) := by
  have e : ∀ q : Fin 192, (columns w (ix3 k q o) : EReal) = w (ix4 (⟨q.val / 64, by omega⟩ : Fin 3) k (⟨q.val % 64, by omega⟩ : Fin 64) o) := fun q => by
    pointwise [columns]
  rw [e]
  have h1 : (⟨(lane3 κ i).val / 64, by have := (lane3 κ i).isLt; omega⟩ : Fin 3) = κ := Fin.ext (show (64 * κ.val + i.val) / 64 = κ.val by omega)
  have h2 : (⟨(lane3 κ i).val % 64, by omega⟩ : Fin 64) = i := Fin.ext (show (64 * κ.val + i.val) % 64 = i.val by omega)
  rw [h1, h2]

/-- The three heads' filters side by side. -/
def filters (w1 w5 w9 : Filter) : FVec Ideal S3x192x192 .f32 :=
  concatenate S3x192x192 2 [⟨S3x192x64, columns w1⟩, ⟨S3x192x64, columns w5⟩, ⟨S3x192x64, columns w9⟩]
    concatenates_S3x192x64_S3x192x64_S3x192x64_S3x192x192_d2

def headsF (w1 w5 w9 : Filter) : Fin 3 → Filter := ![w1, w5, w9]
def headsB (b1 b5 b9 : Bias 64) : Fin 3 → Bias 64 := ![b1, b5, b9]

/-- One of three entries side by side. -/
theorem three_at {α : Type} (g : Fin 64 → α) (g' : Fin 64 → α) (g'' : Fin 64 → α) (h : Fin 3) (o : Fin 64) :
    (if e : (lane3 h o).val < 64 then g ⟨(lane3 h o).val, e⟩ else if e' : (lane3 h o).val - 64 < 64 then g' ⟨(lane3 h o).val - 64, e'⟩
      else g'' ⟨(lane3 h o).val - 64 - 64, by have := (lane3 h o).isLt; omega⟩) = (![g, g', g''] h : Fin 64 → α) o := by
  have ho := o.isLt
  match h with
  | 0 =>
    rw [dif_pos (show (lane3 0 o).val < 64 by show 64 * 0 + o.val < 64; omega)]
    exact congrArg g (Fin.ext (show 64 * 0 + o.val = o.val by omega))
  | 1 =>
    rw [dif_neg (show ¬((lane3 1 o).val < 64) by show ¬(64 * 1 + o.val < 64); omega), dif_pos (show (lane3 1 o).val - 64 < 64 by show 64 * 1 + o.val - 64 < 64; omega)]
    exact congrArg g' (Fin.ext (show 64 * 1 + o.val - 64 = o.val by omega))
  | 2 =>
    rw [dif_neg (show ¬((lane3 2 o).val < 64) by show ¬(64 * 2 + o.val < 64); omega), dif_neg (show ¬((lane3 2 o).val - 64 < 64) by show ¬(64 * 2 + o.val - 64 < 64); omega)]
    exact congrArg g'' (Fin.ext (show 64 * 2 + o.val - 64 - 64 = o.val by omega))

theorem filters_at (w1 w5 w9 : Filter) (k κ h : Fin 3) (i o : Fin 64) :
    (filters w1 w5 w9 (ix3 k (lane3 κ i) (lane3 h o)) : EReal) = headsF w1 w5 w9 h (ix4 κ k i o) := by
  have e : ∀ p q : Fin 192, (filters w1 w5 w9 (ix3 k p q) : EReal)
      = if e : q.val < 64 then columns w1 (ix3 k p (⟨q.val, e⟩ : Fin 64)) else if e' : q.val - 64 < 64 then columns w5 (ix3 k p (⟨q.val - 64, e'⟩ : Fin 64))
        else columns w9 (ix3 k p (⟨q.val - 64 - 64, by omega⟩ : Fin 64)) := fun p q => by
    pointwise [filters]
  refine (e _ _).trans ((three_at (fun o => (columns w1 (ix3 k (lane3 κ i) o) : EReal)) (fun o => columns w5 (ix3 k (lane3 κ i) o))
    (fun o => columns w9 (ix3 k (lane3 κ i) o)) h o).trans ?_)
  match h with
  | 0 => exact columns_at w1 k κ i o
  | 1 => exact columns_at w5 k κ i o
  | 2 => exact columns_at w9 k κ i o

/-- The three heads' biases side by side. -/
def biases (b1 b5 b9 : Bias 64) : FVec Ideal S1x1x192 .f32 :=
  shapeCast S1x1x192 (concatenate S192 0 [⟨S64, b1⟩, ⟨S64, b5⟩, ⟨S64, b9⟩] concatenates_S64_S64_S64_S192_d0) shapeCasts_S192_S1x1x192

theorem biases_at (b1 b5 b9 : Bias 64) (h : Fin 3) (o : Fin 64) :
    (biases b1 b5 b9 (ix3 0 0 (lane3 h o)) : EReal) = headsB b1 b5 b9 h (ix1 o) := by
  have e : ∀ q : Fin 192, (biases b1 b5 b9 (ix3 0 0 q) : EReal)
      = if e : q.val < 64 then b1 (ix1 (⟨q.val, e⟩ : Fin 64)) else if e' : q.val - 64 < 64 then b5 (ix1 (⟨q.val - 64, e'⟩ : Fin 64))
        else b9 (ix1 (⟨q.val - 64 - 64, by omega⟩ : Fin 64)) := fun q => by
    pointwise [biases]
  refine (e _).trans ((three_at (fun o => (b1 (ix1 o) : EReal)) (fun o => b5 (ix1 o)) (fun o => b9 (ix1 o)) h o).trans ?_)
  match h with
  | 0 => rfl
  | 1 => rfl
  | 2 => rfl

def zeros : FVec Ideal S64x2 .f32 := broadcastInDim S64x2 ![] bcast_S_S64x2 (constant S_ .f32 0x00000000#32)

/-- The two regression heads' mixing weights on a diagonal. -/
def mixes (w5 w9 : Mix 2) : FVec Ideal S128x4 .f32 :=
  concatenate S128x4 0
    [⟨S64x4, concatenate S64x4 1 [⟨S64x2, shapeCast S64x2 w5 shapeCasts_S1x1x64x2_S64x2⟩, ⟨S64x2, zeros⟩] concatenates_S64x2_S64x2_S64x4_d1⟩,
     ⟨S64x4, concatenate S64x4 1 [⟨S64x2, zeros⟩, ⟨S64x2, shapeCast S64x2 w9 shapeCasts_S1x1x64x2_S64x2⟩] concatenates_S64x2_S64x2_S64x4_d1⟩]
    concatenates_S64x4_S64x4_S128x4_d0

def shifts (u5 u9 : Bias 2) : FVec Ideal S1x4 .f32 :=
  shapeCast S1x4 (concatenate S4 0 [⟨S2, u5⟩, ⟨S2, u9⟩] concatenates_S2_S2_S4_d0) shapeCasts_S4_S1x4

theorem mixes_at (w5 w9 : Mix 2) (q : Fin 128) (l : Fin 4) : (mixes w5 w9 (ix2 q l) : EReal)
    = if h : q.val < 64 then (if h' : l.val < 2 then w5 (ix4 (0 : Fin 1) (0 : Fin 1) (⟨q.val, h⟩ : Fin 64) (⟨l.val, h'⟩ : Fin 2)) else (0 : EReal))
      else if h' : l.val < 2 then (0 : EReal) else w9 (ix4 (0 : Fin 1) (0 : Fin 1) (⟨q.val - 64, by omega⟩ : Fin 64) (⟨l.val - 2, by omega⟩ : Fin 2)) := by
  pointwise [mixes, zeros]
theorem shifts_at (u5 u9 : Bias 2) (l : Fin 4) : (shifts u5 u9 (ix2 0 l) : EReal)
    = if h' : l.val < 2 then u5 (ix1 (⟨l.val, h'⟩ : Fin 2)) else u9 (ix1 (⟨l.val - 2, by omega⟩ : Fin 2)) := by
  pointwise [shifts]

theorem crossed (w5 w9 : Mix 2) (u5 u9 : Bias 2) (w : FVec Ideal S128x4 .f32) (u : FVec Ideal S1x4 .f32)
    (hw : ∀ q l, (w (ix2 q l) : EReal) = mixes w5 w9 (ix2 q l)) (hu : ∀ l, (u (ix2 0 l) : EReal) = shifts u5 u9 (ix2 0 l)) :
    Crossed w u w5 u5 w9 u9 where
  ul o l := by
    rw [hw, mixes_at, dif_pos (show o.val < 64 by omega), dif_pos (show l.val < 2 by omega)]
  ur o l := by
    rw [hw, mixes_at, dif_pos (show o.val < 64 by omega), dif_neg (show ¬(2 + l.val < 2) by omega)]
  ll o l := by
    rw [hw, mixes_at, dif_neg (show ¬(64 + o.val < 64) by omega), dif_pos (show l.val < 2 by omega)]
  lr o l := by
    rw [hw, mixes_at, dif_neg (show ¬(64 + o.val < 64) by omega), dif_neg (show ¬(2 + l.val < 2) by omega)]
    have h1 : (⟨64 + o.val - 64, by omega⟩ : Fin 64) = o := Fin.ext (by show 64 + o.val - 64 = o.val; omega)
    have h2 : (⟨2 + l.val - 2, by omega⟩ : Fin 2) = l := Fin.ext (by show 2 + l.val - 2 = l.val; omega)
    exact congrArg₂ (fun a b => w9 (ix4 (0 : Fin 1) (0 : Fin 1) a b)) h1 h2
  bl l := by
    rw [hu, shifts_at, dif_pos (show l.val < 2 by omega)]
  br l := by
    rw [hu, shifts_at, dif_neg (show ¬(2 + l.val < 2) by omega)]
    exact congrArg (fun a => u9 (ix1 a)) (Fin.ext (by show 2 + l.val - 2 = l.val; omega))

/-! ## The arrays and their blocks -/

variable (m : (ℓ : Loc nD τ sig) → Buf (Elt Ideal) ℓ) (c : Dev nD)

abbrev x0 : Image := m ((c : Thread nD τ).loc main_arg0)
abbrev w1 : Filter := m ((c : Thread nD τ).loc main_arg1)
abbrev b1 : Bias 64 := m ((c : Thread nD τ).loc main_arg2)
abbrev w2 : Mix 80 := m ((c : Thread nD τ).loc main_arg3)
abbrev b2 : Bias 80 := m ((c : Thread nD τ).loc main_arg4)
abbrev w5 : Filter := m ((c : Thread nD τ).loc main_arg5)
abbrev b5 : Bias 64 := m ((c : Thread nD τ).loc main_arg6)
abbrev w6 : Mix 2 := m ((c : Thread nD τ).loc main_arg7)
abbrev b6 : Bias 2 := m ((c : Thread nD τ).loc main_arg8)
abbrev w9 : Filter := m ((c : Thread nD τ).loc main_arg9)
abbrev b9 : Bias 64 := m ((c : Thread nD τ).loc main_arg10)
abbrev w10 : Mix 2 := m ((c : Thread nD τ).loc main_arg11)
abbrev b10 : Bias 2 := m ((c : Thread nD τ).loc main_arg12)

theorem V_v6 : Gen.V m c main_v6 = filters (w1 m c) (w5 m c) (w9 m c) := rfl
theorem V_v8 : Gen.V m c main_v8 = biases (b1 m c) (b5 m c) (b9 m c) := rfl
theorem V_v9 : Gen.V m c main_v9 = (shapeCast S64x80 (w2 m c) shapeCasts_S1x1x64x80_S64x80 : FVec Ideal S64x80 .f32) := rfl
theorem V_v10 : Gen.V m c main_v10 = (shapeCast S1x80 (b2 m c) shapeCasts_S80_S1x80 : FVec Ideal S1x80 .f32) := rfl
theorem V_v16 : Gen.V m c main_v16 = mixes (w6 m c) (w10 m c) := rfl
theorem V_v18 : Gen.V m c main_v18 = shifts (b6 m c) (b10 m c) := rfl

/-- The windows' blocks: the image of the point, the output block of the point before, everything else whole. -/
theorem index_all : ∀ t : Fin cfg0.N, win0_0.index t = ![min t.val 15, 0, 0, 0] ∧ win0_1.index t = ![0, 0, 0] ∧ win0_2.index t = ![0, 0, 0] ∧ win0_3.index t = ![0, 0]
    ∧ win0_4.index t = ![0, 0] ∧ win0_5.index t = ![0, 0] ∧ win0_6.index t = ![0, 0] ∧ win0_7.index t = ![t.val - 1, 0, 0, 0] := by decide +kernel

/-- The image a point reads. -/
def imgOf (t : Fin cfg0.N) : Fin 16 := ⟨min t.val 15, by omega⟩

variable (t : Fin cfg0.N)

theorem blk0_at (y x : Fin 128) (p : Fin 64) : (Gen.iblk m c 0 t (ix4 0 y x p) : EReal) = Gen.V m c main_arg0 (ix4 (imgOf t) y x p) := by
  unfold imgOf
  blk_ext [Gen.iblk, index_all t]
theorem blk1_at (k : Fin 3) (q p : Fin 192) : (Gen.iblk m c 1 t (ix3 k q p) : EReal) = Gen.V m c main_v6 (ix3 k q p) := by
  blk_ext [Gen.iblk, index_all t]
theorem blk2_at (p : Fin 192) : (Gen.iblk m c 2 t (ix3 0 0 p) : EReal) = Gen.V m c main_v8 (ix3 0 0 p) := by
  blk_ext [Gen.iblk, index_all t]
theorem blk3_at (o : Fin 64) (l : Fin 80) : (Gen.iblk m c 3 t (ix2 o l) : EReal) = Gen.V m c main_v9 (ix2 o l) := by
  blk_ext [Gen.iblk, index_all t]
theorem blk4_at (l : Fin 80) : (Gen.iblk m c 4 t (ix2 0 l) : EReal) = Gen.V m c main_v10 (ix2 0 l) := by
  blk_ext [Gen.iblk, index_all t]
theorem blk5_at (o : Fin 128) (l : Fin 4) : (Gen.iblk m c 5 t (ix2 o l) : EReal) = Gen.V m c main_v16 (ix2 o l) := by
  blk_ext [Gen.iblk, index_all t]
theorem blk6_at (l : Fin 4) : (Gen.iblk m c 6 t (ix2 0 l) : EReal) = Gen.V m c main_v18 (ix2 0 l) := by
  blk_ext [Gen.iblk, index_all t]

/-! ## Windows that are the whole array or a plane -/

theorem plane_at (X : FVec Ideal S3x192x192 .f32) (k : Fin 3) (inb) (q p : Fin 192) :
    window X ![k.val, 0, 0] S1x192x192.size inb (ix3 (0 : Fin 1) q p) = X (ix3 k q p) := by
  refine congrArg X (funext fun a => Fin.ext ?_)
  fin_cases a
  · show k.val + 1 * 0 = k.val
    omega
  · show 0 + 1 * q.val = q.val
    omega
  · show 0 + 1 * p.val = p.val
    omega
theorem whole3_at (X : FVec Ideal S1x1x192 .f32) (inb) (p : Fin 192) :
    window X ![0, 0, 0] S1x1x192.size inb (ix3 (0 : Fin 1) (0 : Fin 1) p) = X (ix3 0 0 p) := by
  refine congrArg X (funext fun a => Fin.ext ?_)
  fin_cases a
  · rfl
  · rfl
  · show 0 + 1 * p.val = p.val
    omega
theorem whole2_at {n k : ℕ} (X : FVec Ideal ⟨2, ![n, k]⟩ .f32) (inb) (a : Fin n) (b : Fin k) :
    window X ![0, 0] (![n, k]) inb (ix2 a b) = X (ix2 a b) := by
  refine congrArg X (funext fun i => Fin.ext ?_)
  fin_cases i
  · show 0 + 1 * a.val = a.val
    omega
  · show 0 + 1 * b.val = b.val
    omega
theorem whole4_at (X : FVec Ideal S1x128x128x64 .f32) (inb) (y x : Fin 128) (p : Fin 64) :
    window X ![0, 0, 0, 0] S1x128x128x64.size inb (ix4 (0 : Fin 1) y x p) = X (ix4 0 y x p) := by
  refine congrArg X (funext fun a => Fin.ext ?_)
  fin_cases a
  · rfl
  · show 0 + 1 * y.val = y.val
    omega
  · show 0 + 1 * x.val = x.val
    omega
  · show 0 + 1 * p.val = p.val
    omega

theorem image_at (y x : Fin 128) (p : Fin 64) : (imageOf (F := Ideal) (Gen.iblk m c 0 t) (ix3 y x p) : EReal) = x0 m c (ix4 (imgOf t) y x p) := by
  have e : ∀ X : FVec Ideal S1x128x128x64 .f32, (shapeCast S128x128x64 X shapeCasts_S1x128x128x64_S128x128x64 (ix3 y x p) : EReal) = X (ix4 0 y x p) := fun X => by
    pointwise
  unfold imageOf
  exact (e _).trans ((whole4_at _ _ y x p).trans (blk0_at m c t y x p))

theorem laid : Laid (window (Gen.iblk m c 1 t) ![0, 0, 0] S1x192x192.size inb_S3x192x192_S1x192x192_0_0_0)
    (window (Gen.iblk m c 1 t) ![1, 0, 0] S1x192x192.size inb_S3x192x192_S1x192x192_1_0_0)
    (window (Gen.iblk m c 1 t) ![2, 0, 0] S1x192x192.size inb_S3x192x192_S1x192x192_2_0_0)
    (window (Gen.iblk m c 2 t) ![0, 0, 0] S1x1x192.size inb_S1x1x192_S1x1x192_0_0_0)
    (headsF (w1 m c) (w5 m c) (w9 m c)) (headsB (b1 m c) (b5 m c) (b9 m c)) where
  left k i h o := (plane_at _ 0 _ _ _).trans ((blk1_at m c t 0 _ _).trans (filters_at _ _ _ 0 k h i o))
  mid k i h o := (plane_at _ 1 _ _ _).trans ((blk1_at m c t 1 _ _).trans (filters_at _ _ _ 1 k h i o))
  right k i h o := (plane_at _ 2 _ _ _).trans ((blk1_at m c t 2 _ _).trans (filters_at _ _ _ 2 k h i o))
  bias h o := (whole3_at _ _ _).trans ((blk2_at m c t _).trans (biases_at _ _ _ h o))

theorem mix_at (o : Fin 64) (l : Fin 80) :
    (window (Gen.iblk m c 3 t) ![0, 0] S64x80.size inb_S64x80_S64x80_0_0 (ix2 o l) : EReal) = w2 m c (ix4 (0 : Fin 1) (0 : Fin 1) o l) := by
  have e : ∀ X : Mix 80, (shapeCast S64x80 X shapeCasts_S1x1x64x80_S64x80 (ix2 o l) : EReal) = X (ix4 (0 : Fin 1) (0 : Fin 1) o l) := fun X => by
    pointwise
  exact (whole2_at _ _ o l).trans ((blk3_at m c t o l).trans (e (w2 m c)))
theorem shift_at (l : Fin 80) :
    (window (Gen.iblk m c 4 t) ![0, 0] S1x80.size inb_S1x80_S1x80_0_0 (ix2 0 l) : EReal) = b2 m c (ix1 l) := by
  have e : ∀ X : Bias 80, (shapeCast S1x80 X shapeCasts_S80_S1x80 (ix2 0 l) : EReal) = X (ix1 l) := fun X => by
    pointwise
  exact (whole2_at _ _ 0 l).trans ((blk4_at m c t l).trans (e (b2 m c)))
theorem cross : Crossed (window (Gen.iblk m c 5 t) ![0, 0] S128x4.size inb_S128x4_S128x4_0_0) (window (Gen.iblk m c 6 t) ![0, 0] S1x4.size inb_S1x4_S1x4_0_0)
    (w6 m c) (b6 m c) (w10 m c) (b10 m c) :=
  crossed _ _ _ _ _ _ (fun q l => (whole2_at _ _ q l).trans (blk5_at m c t q l)) (fun l => (whole2_at _ _ 0 l).trans (blk6_at m c t l))

/-! ## What a point computes -/

/-- The heat map of the point's image. -/
def heatMap (l : Fin 80) (r q : Fin 128) : EReal := heatVal (x0 m c) (w1 m c) (b1 m c) (w2 m c) (b2 m c) (imgOf t) l r q
/-- The image's box sizes and offsets, by lane. -/
def regMap (k : Fin 4) (r q : ℕ) : EReal :=
  if h : k.val < 2 then headAt (x0 m c) (w5 m c) (b5 m c) (w6 m c) (b6 m c) (imgOf t) r q ⟨k.val, h⟩
  else headAt (x0 m c) (w9 m c) (b9 m c) (w10 m c) (b10 m c) (imgOf t) r q ⟨k.val - 2, by omega⟩

theorem half_heat {r : FVec Ideal S65x128x192 .f32} {off : ℕ} (hr : Stacked r (x0 m c) (imgOf t) off) :
    HalfOf (halfOf (Gen.iblk m c 1 t) (Gen.iblk m c 2 t) (Gen.iblk m c 3 t) (Gen.iblk m c 4 t) (Gen.iblk m c 5 t) (Gen.iblk m c 6 t) r).1 (heatMap m c t) off :=
  fun ρ q l y hy => by
    refine (heatOf_eq hr (laid m c t) _ _ (w2 m c) (b2 m c) (mix_at m c t) (shift_at m c t) ρ q l).trans ?_
    unfold heatMap heatVal
    rw [hy]
    rfl

theorem half_reg {r : FVec Ideal S65x128x192 .f32} {off : ℕ} (hr : Stacked r (x0 m c) (imgOf t) off) (k : Fin 4) (ρ : Fin 65) (q : Fin 128) :
    ((halfOf (Gen.iblk m c 1 t) (Gen.iblk m c 2 t) (Gen.iblk m c 3 t) (Gen.iblk m c 4 t) (Gen.iblk m c 5 t) (Gen.iblk m c 6 t) r).2 (ix3 ρ q k) : EReal)
      = regMap m c t k (off + ρ.val) q.val := by
  unfold regMap
  by_cases hk : k.val < 2
  · rw [dif_pos hk]
    exact regOf_left hr (laid m c t) (cross m c t) ρ q ⟨k.val, hk⟩
  · rw [dif_neg hk]
    have := regOf_right hr (laid m c t) (cross m c t) ρ q ⟨k.val - 2, by omega⟩
    have e : (⟨2 + (⟨k.val - 2, by omega⟩ : Fin 2).val, by show 2 + (k.val - 2) < 4; omega⟩ : Fin 4) = k := Fin.ext (by show 2 + (k.val - 2) = k.val; omega)
    rw [e] at this
    exact this

theorem upper_stacked : Stacked (topRows (imageOf (Gen.iblk m c 0 t))) (x0 m c) (imgOf t) 0 := stacked_top _ _ _ (image_at m c t)
theorem lower_stacked : Stacked (botRows (imageOf (Gen.iblk m c 0 t))) (x0 m c) (imgOf t) 63 := stacked_bot _ _ _ (image_at m c t)

/-- The state the extractions start from. -/
def slotState : FVec Ideal S128x128 .f32 × FVec Ideal S128x128x128 .f32 :=
  (tabSlot (upper m c t) (lower m c t), heatSlot (upper m c t) (lower m c t))

theorem start_good : Good (slotState m c t) :=
  slot_good (h := heatMap m c t) (fun l r q => heatVal_nonneg _ _ _ _ _ _ l r q) (half_heat m c t (upper_stacked m c t)) (half_heat m c t (lower_stacked m c t))

theorem start_class (y x q : Fin 128) (hq : q.val < 80) : ((slotState m c t).2 (ix3 y x q) : EReal) = peakVal (heatMap m c t ⟨q.val, hq⟩) y x :=
  slot_class (fun l r q => heatVal_nonneg _ _ _ _ _ _ l r q) (half_heat m c t (upper_stacked m c t)) (half_heat m c t (lower_stacked m c t)) y x q hq

theorem start_reg (k : Fin 4) (y x q : Fin 128) (hq : q.val = 80 + k.val) : ((slotState m c t).2 (ix3 y x q) : EReal) = regMap m c t k y.val x.val :=
  slot_reg k (half_reg m c t (upper_stacked m c t) k) (half_reg m c t (lower_stacked m c t) k) y x q hq

end Cert.KernelIdeal.Body

end
-- ==== Proof.KernOut.lean ====
/- What the result array holds at the end of a run: each image's block is the one extracted from what the image's point
   computed. -/
module

public import proofs.«01_k».proof.Proof.Frames
public import proofs.«01_k».proof.Proof.KernIn

@[expose] public section

set_option synthInstance.maxSize 4096
set_option maxRecDepth 16384

noncomputable section

namespace Cert.KernelIdeal.Body

open Idealize.ShloMosaic Idealize.SL.Sem Idealize.ShloMosaic.TcCoe
open Idealize.ShloMosaic.Rounds Idealize.ShloMosaic.Pipeline
open Cert.KernelIdeal Facts₀ Facts

variable (m : (ℓ : Loc nD τ sig) → Buf (Elt Ideal) ℓ) (c : Dev nD)

theorem out_flush : ∀ t : Fin cfg0.N, win0_7.flush t = true ↔ 1 ≤ t.val := by decide +kernel

theorem out_apart : ∀ t t' : Fin cfg0.N, win0_7.flush t = true → win0_7.flush t' = true → win0_7.index t = win0_7.index t' → t = t' := by
  intro t t' h h' e
  rw [out_flush] at h h'
  rw [(index_all t).2.2.2.2.2.2.2, (index_all t').2.2.2.2.2.2.2] at e
  have e0 : t.val - 1 = t'.val - 1 := congrFun e 0
  exact Fin.ext (by omega)

/-- The region's output array, an element. -/
theorem region_out {A : Buf (Elt Ideal) ((cfg0.win 7).arr.view.loc (c.tc : Thread nD τ))} (hA : (rdats m c).ArrAt 7 cfg0.N A)
    (s : Fin cfg0.N) (b : Fin 16) (hs : s.val = b.val) (k : Fin 40) (l : Fin 8) :
    (A (ix4 b k 0 l) : EReal) = blockFrom m c s (ix4 0 k 0 l) := by
  obtain ⟨X, hX, hG⟩ := hA.exists_exact
  obtain ⟨after, ha⟩ : ∃ after : (w' : Fin cfg0.W) → Fin cfg0.N → (cfg0.win w').block.Idx → Elt Ideal (cfg0.win w').elt, after 7 = X :=
    ⟨Function.update (fun _ _ _ => Classical.arbitrary _) 7 X, Function.update_self ..⟩
  have hG' := hG after fun u _ _ => by rw [ha]
  obtain ⟨t, ht⟩ : ∃ t : Fin cfg0.N, t.val = b.val + 1 := ⟨⟨b.val + 1, by have := b.isLt; show b.val + 1 < 17; omega⟩, rfl⟩
  have hf : win0_7.flush t = true := (out_flush t).mpr (by omega)
  have hH : Held m c 7 t (X t) := Dat.toRRel_leaves _ rfl (hX t t.isLt hf)
  have hXt : X t = blockFrom m c s := hH s (by omega)
  have hd := Dat.arrAt_emb_eq_flushed ((rdats m c).withAfter after) 7
    (win0_7.hdisj_of_index_inj out_apart) t hf (ix4 (0 : Fin 1) k (0 : Fin 1) l)
  rw [← hG'] at hd
  have he : ((cfg0.win 7).blk t).view.emb (ix4 (0 : Fin 1) k (0 : Fin 1) l) = ix4 b k (0 : Fin 1) l := by
    blk_ext [index_all t]
  have hv : ((rdats m c).withAfter after).flushed 7 t (ix4 (0 : Fin 1) k (0 : Fin 1) l) = X t (ix4 (0 : Fin 1) k (0 : Fin 1) l) := by
    rw [← ha]
    rfl
  refine (congrArg A he).symm.trans (hd.trans ((cast_eq _ _).trans (hv.trans ?_)))
  rw [hXt]

/-- The program's result, an element. -/
theorem result_at (mem : (ℓ : Loc nD τ sig) → Buf (Elt Ideal) ℓ) (h : TailPost cfgs 0 (rdats m) (Gen.V0 m) [Gen.hostOps1] mem c)
    (s : Fin cfg0.N) (b : Fin 16) (hs : s.val = b.val) (k : Fin 40) (l : Fin 6) :
    (mem ((c.tc : Thread nD τ).loc main_v21) (ix3 b k l) : EReal) = blockFrom m c s (ix4 0 k 0 ⟨l.val, by omega⟩) := by
  obtain ⟨-, A, hA, hr⟩ := h
  have e : mem ((c.tc : Thread nD τ).loc main_v21) = (shapeCast S16x40x6 (extractStridedSlice S16x40x1x6 ![0, 0, 0, 0] (A 7 : FVec Ideal S16x40x1x8 .f32) slices_S16x40x1x8_S16x40x1x6_0_0_0_0) shapeCasts_S16x40x1x6_S16x40x6 : FVec Ideal S16x40x6 .f32) := by
    refine (hr main_v21 (by decide)).trans ?_
    have e7 : withArrays spec0 c (Gen.V0 m c) A (Proc.devRef .tc main_v19) = A 7 :=
      withArrays_arr spec0 Gen.launch0.win.arr_inj c (Gen.V0 m c) A 7
    rw [← e7]
    rfl
  have e' : ∀ Y : FVec Ideal S16x40x1x8 .f32, (shapeCast S16x40x6 (extractStridedSlice S16x40x1x6 ![0, 0, 0, 0] Y slices_S16x40x1x8_S16x40x1x6_0_0_0_0) shapeCasts_S16x40x1x6_S16x40x6 (ix3 b k l) : EReal)
      = Y (ix4 b k (0 : Fin 1) (⟨l.val, by omega⟩ : Fin 8)) := fun Y => by
    pointwise
  exact (congrFun e _).trans ((e' (A 7)).trans (region_out m c (hA 7) s b hs k _))

end Cert.KernelIdeal.Body

end
-- ==== Proof.RefMaps.lean ====
/- The reference's maps at each index: the heat map, its peaks in the flat order class, row, column, and the two
   regression heads. -/
module

public import proofs.«01_k».proof.Proof.Gen.ReferenceIdeal.Run
public import proofs.«01_k».proof.Proof.Spec

@[expose] public section

set_option synthInstance.maxSize 4096
set_option maxRecDepth 16384

noncomputable section

namespace Cert.ReferenceIdeal.Value

open Idealize.ShloMosaic Idealize.SL.Sem
open Cert.ReferenceIdeal Cert.ReferenceIdeal.Gen Facts₀ Facts
open Cert.Center

variable (V : Valuation τ sig (Elt Ideal))

abbrev im : Image := V (Proc.devRef .tc main_arg0)

theorem zero_word : (FloatOps.sitofp FTy.f32 (0#32) : Ideal .f32) = (0 : EReal) := by
  show ((((0#32 : BitVec 32).toInt : ℝ)) : EReal) = 0
  simp

theorem padding_condition (y x : Fin 130) (b : Fin 16) (i : Fin 64) (h : (1 ≤ y.val ∧ y.val ≤ 128) ∧ (1 ≤ x.val ∧ x.val ≤ 128)) (a : Fin 4) :
    (![0, 1, 1, 0] : Fin 4 → ℕ) a ≤ (ix4 b y x i a).val ∧
      ((ix4 b y x i a).val - (![0, 1, 1, 0] : Fin 4 → ℕ) a) % ((![0, 0, 0, 0] : Fin 4 → ℕ) a + 1) = 0 ∧
      ((ix4 b y x i a).val - (![0, 1, 1, 0] : Fin 4 → ℕ) a) / ((![0, 0, 0, 0] : Fin 4 → ℕ) a + 1) < S16x128x128x64.size a := by
  have hb := b.isLt
  have hi := i.isLt
  match a with
  | ⟨0, _⟩ =>
    show 0 ≤ b.val ∧ (b.val - 0) % 1 = 0 ∧ (b.val - 0) / 1 < 16
    omega
  | ⟨1, _⟩ =>
    show 1 ≤ y.val ∧ (y.val - 1) % 1 = 0 ∧ (y.val - 1) / 1 < 128
    omega
  | ⟨2, _⟩ =>
    show 1 ≤ x.val ∧ (x.val - 1) % 1 = 0 ∧ (x.val - 1) / 1 < 128
    omega
  | ⟨3, _⟩ =>
    show 0 ≤ i.val ∧ (i.val - 0) % 1 = 0 ∧ (i.val - 0) / 1 < 64
    omega

theorem padding_range (y x : Fin 130) (b : Fin 16) (i : Fin 64)
    (h : ∀ a : Fin 4, (![0, 1, 1, 0] : Fin 4 → ℕ) a ≤ (ix4 b y x i a).val ∧
      ((ix4 b y x i a).val - (![0, 1, 1, 0] : Fin 4 → ℕ) a) % ((![0, 0, 0, 0] : Fin 4 → ℕ) a + 1) = 0 ∧
      ((ix4 b y x i a).val - (![0, 1, 1, 0] : Fin 4 → ℕ) a) / ((![0, 0, 0, 0] : Fin 4 → ℕ) a + 1) < S16x128x128x64.size a) :
    (1 ≤ y.val ∧ y.val ≤ 128) ∧ (1 ≤ x.val ∧ x.val ≤ 128) := by
  have h1 : 1 ≤ y.val ∧ (y.val - 1) % 1 = 0 ∧ (y.val - 1) / 1 < 128 := h 1
  have h2 : 1 ≤ x.val ∧ (x.val - 1) % 1 = 0 ∧ (x.val - 1) / 1 < 128 := h 2
  omega

/-- The padded image at an index. -/
theorem pad_at (X : Image) (b : Fin 16) (y x : Fin 130) (i : Fin 64) :
    (pad S16x130x130x64 ![0, 1, 1, 0] ![0, 1, 1, 0] ![0, 0, 0, 0] X (sitofp .f32 (constantI S_ 32 0#32) : FVec Ideal S_ .f32)
      Gen.pads_S16x128x128x64_S16x130x130x64_000_110_110_000 Gen.h_S_ (ix4 b y x i) : EReal) = padded X b y.val x.val i := by
  unfold pad
  unfold padded
  by_cases h : (1 ≤ y.val ∧ y.val ≤ 128) ∧ (1 ≤ x.val ∧ x.val ≤ 128)
  · rw [dif_pos h]
    refine (dif_pos (padding_condition y x b i h)).trans ?_
    refine congrArg X (funext fun a => ?_)
    match a with
    | ⟨0, _⟩ => exact Fin.ext (show (b.val - 0) / 1 = b.val by omega)
    | ⟨1, _⟩ => exact Fin.ext (show (y.val - 1) / 1 = y.val - 1 by omega)
    | ⟨2, _⟩ => exact Fin.ext (show (x.val - 1) / 1 = x.val - 1 by omega)
    | ⟨3, _⟩ => exact Fin.ext (show (i.val - 0) / 1 = i.val by omega)
  · rw [dif_neg h]
    exact (dif_neg (fun hc => h (padding_range y x b i hc))).trans zero_word

theorem pad0_at (b : Fin 16) (y x : Fin 130) (i : Fin 64) : res_main_v0 V (ix4 b y x i) = padded (im V) b y.val x.val i :=
  pad_at (im V) b y x i

theorem pad60_at (b : Fin 16) (y x : Fin 130) (i : Fin 64) : res_main_v60 V (ix4 b y x i) = padded (im V) b y.val x.val i :=
  pad_at (im V) b y x i

theorem pad114_at (b : Fin 16) (y x : Fin 130) (i : Fin 64) : res_main_v114 V (ix4 b y x i) = padded (im V) b y.val x.val i :=
  pad_at (im V) b y x i

theorem zero_row (n : ℕ) : (0 : Fin 3).val + n = n := Nat.zero_add n

theorem v189_at (b : Fin 16) (p : Fin 16384) (l : Fin 2) :
    res_main_v189 V (ix3 b p l) = headAt (im V) (V (Proc.devRef .tc main_arg5)) (V (Proc.devRef .tc main_arg6)) (V (Proc.devRef .tc main_arg7)) (V (Proc.devRef .tc main_arg8)) b (p.val / 128) (p.val % 128) l := by
  pointwise [res_main_v189]
  simp only [pad60_at]
  unfold headAt hiddenAt convAt tapAt
  simp only [zero_row]
  rfl

theorem v188_at (b : Fin 16) (p : Fin 16384) (l : Fin 2) :
    res_main_v188 V (ix3 b p l) = headAt (im V) (V (Proc.devRef .tc main_arg9)) (V (Proc.devRef .tc main_arg10)) (V (Proc.devRef .tc main_arg11)) (V (Proc.devRef .tc main_arg12)) b (p.val / 128) (p.val % 128) l := by
  pointwise [res_main_v188]
  simp only [pad114_at]
  unfold headAt hiddenAt convAt tapAt
  simp only [zero_row]
  rfl

set_option maxHeartbeats 1000000 in
theorem v59_at (b : Fin 16) (y x : Fin 128) (l : Fin 80) :
    res_main_v59 V (ix4 b y x l) = heatVal (im V) (V (Proc.devRef .tc main_arg1)) (V (Proc.devRef .tc main_arg2)) (V (Proc.devRef .tc main_arg3)) (V (Proc.devRef .tc main_arg4)) b l y x := by
  pointwise [res_main_v59]
  simp only [pad0_at]
  unfold heatVal headAt hiddenAt convAt tapAt
  simp only [zero_row]
  rfl

/-! ## The three by three window -/

theorem foldl_max_le {α : Type} (g : α → EReal) (L : List α) (v t : EReal) :
    L.foldl (fun r n => max r (g n)) v ≤ t ↔ v ≤ t ∧ ∀ n ∈ L, g n ≤ t := by
  induction L generalizing v with
  | nil => simp
  | cons a L ih =>
    rw [List.foldl_cons, ih, max_le_iff]
    simp only [List.mem_cons, forall_eq_or_imp, and_assoc]

/-- The offset stays inside the map. -/
def Inside (b : Fin 16) (y c : Fin 128) (l : Fin 80) (q : (⟨4, ![1, 3, 3, 1]⟩ : Shape).Idx) : Prop :=
  ∀ a : Fin 4, (![0, 1, 1, 0] : Fin 4 → ℕ) a ≤ (ix4 b y c l a).val * (![1, 1, 1, 1] : Fin 4 → ℕ) a + (q a).val ∧
      (ix4 b y c l a).val * (![1, 1, 1, 1] : Fin 4 → ℕ) a + (q a).val - (![0, 1, 1, 0] : Fin 4 → ℕ) a < S16x128x128x80.size a

/-- The element of a window at an offset from its first, and −∞ outside the map. -/
def inWindow (x : S16x128x128x80.Idx → EReal) (b : Fin 16) (y c : Fin 128) (l : Fin 80) (q : (⟨4, ![1, 3, 3, 1]⟩ : Shape).Idx)
    (d : Decidable (Inside b y c l q)) : EReal :=
  @dite _ (Inside b y c l q) d
    (fun hin => x (fun a => ⟨(ix4 b y c l a).val * (![1, 1, 1, 1] : Fin 4 → ℕ) a + (q a).val - (![0, 1, 1, 0] : Fin 4 → ℕ) a, (hin a).2⟩))
    (fun _ => ⊥)

theorem inWindow_of_near (x : S16x128x128x80.Idx → EReal) (b : Fin 16) (y c : Fin 128) (l : Fin 80) (r' c' : Fin 128)
    (h1 : r'.val ≤ y.val + 1) (h2 : y.val ≤ r'.val + 1) (h3 : c'.val ≤ c.val + 1) (h4 : c.val ≤ c'.val + 1) :
    ∃ q, ∀ d, inWindow x b y c l q d = x (ix4 b r' c' l) := by
  have hb := b.isLt
  have hl := l.isLt
  refine ⟨ix4 (0 : Fin 1) (⟨r'.val + 1 - y.val, by omega⟩ : Fin 3) (⟨c'.val + 1 - c.val, by omega⟩ : Fin 3) (0 : Fin 1), fun d => ?_⟩
  unfold inWindow
  rw [dif_pos]
  swap
  · intro a
    match a with
    | ⟨0, _⟩ => show 0 ≤ b.val * 1 + 0 ∧ b.val * 1 + 0 - 0 < 16; omega
    | ⟨1, _⟩ => show 1 ≤ y.val * 1 + (r'.val + 1 - y.val) ∧ y.val * 1 + (r'.val + 1 - y.val) - 1 < 128; omega
    | ⟨2, _⟩ => show 1 ≤ c.val * 1 + (c'.val + 1 - c.val) ∧ c.val * 1 + (c'.val + 1 - c.val) - 1 < 128; omega
    | ⟨3, _⟩ => show 0 ≤ l.val * 1 + 0 ∧ l.val * 1 + 0 - 0 < 80; omega
  refine congrArg x (funext fun a => ?_)
  match a with
  | ⟨0, _⟩ => exact Fin.ext (show b.val * 1 + 0 - 0 = b.val by omega)
  | ⟨1, _⟩ => exact Fin.ext (show y.val * 1 + (r'.val + 1 - y.val) - 1 = r'.val by omega)
  | ⟨2, _⟩ => exact Fin.ext (show c.val * 1 + (c'.val + 1 - c.val) - 1 = c'.val by omega)
  | ⟨3, _⟩ => exact Fin.ext (show l.val * 1 + 0 - 0 = l.val by omega)

theorem inWindow_le (x : S16x128x128x80.Idx → EReal) (b : Fin 16) (y c : Fin 128) (l : Fin 80) (t : EReal)
    (hall : ∀ r' c' : Fin 128, r'.val ≤ y.val + 1 → y.val ≤ r'.val + 1 → c'.val ≤ c.val + 1 → c.val ≤ c'.val + 1 → x (ix4 b r' c' l) ≤ t)
    (q : (⟨4, ![1, 3, 3, 1]⟩ : Shape).Idx) (d : Decidable (Inside b y c l q)) : inWindow x b y c l q d ≤ t := by
  unfold inWindow
  split
  · rename_i hin
    have q0 : (q 0).val < 1 := (q 0).isLt
    have q1 : (q 1).val < 3 := (q 1).isLt
    have q2 : (q 2).val < 3 := (q 2).isLt
    have q3 : (q 3).val < 1 := (q 3).isLt
    have i1 : 1 ≤ y.val * 1 + (q 1).val ∧ y.val * 1 + (q 1).val - 1 < 128 := hin 1
    have i2 : 1 ≤ c.val * 1 + (q 2).val ∧ c.val * 1 + (q 2).val - 1 < 128 := hin 2
    refine (le_of_eq ?_).trans (hall (⟨y.val * 1 + (q 1).val - 1, i1.2⟩ : Fin 128) (⟨c.val * 1 + (q 2).val - 1, i2.2⟩ : Fin 128)
      (by show y.val * 1 + (q 1).val - 1 ≤ y.val + 1; omega) (by show y.val ≤ y.val * 1 + (q 1).val - 1 + 1; omega)
      (by show c.val * 1 + (q 2).val - 1 ≤ c.val + 1; omega) (by show c.val ≤ c.val * 1 + (q 2).val - 1 + 1; omega))
    refine congrArg x (funext fun a => ?_)
    match a with
    | ⟨0, _⟩ => exact Fin.ext (show b.val * 1 + (q 0).val - 0 = b.val by omega)
    | ⟨1, _⟩ => rfl
    | ⟨2, _⟩ => rfl
    | ⟨3, _⟩ => exact Fin.ext (show l.val * 1 + (q 3).val - 0 = l.val by omega)
  · exact bot_le

/-- The window's maximum is at most a bound exactly when every element in the window is. -/
theorem window_le (x : S16x128x128x80.Idx → EReal) (init : S_.Idx → EReal)
    (h : S16x128x128x80.ReduceWindows ![1, 3, 3, 1] ![1, 1, 1, 1] ![0, 1, 1, 0] ![0, 1, 1, 0] S16x128x128x80) (hu : 0 < S_.numel)
    (hi : init (Shape.Idx.first hu) = (⊥ : EReal)) (b : Fin 16) (y c : Fin 128) (l : Fin 80) (t : EReal) :
    Host.reduceWindow max ![1, 3, 3, 1] ![1, 1, 1, 1] ![0, 1, 1, 0] ![0, 1, 1, 0] x init h hu (ix4 b y c l) ≤ t ↔
      ∀ r' c' : Fin 128, r'.val ≤ y.val + 1 → y.val ≤ r'.val + 1 → c'.val ≤ c.val + 1 → c.val ≤ c'.val + 1 → x (ix4 b r' c' l) ≤ t := by
  unfold Host.reduceWindow
  rw [hi]
  refine (foldl_max_le _ _ _ _).trans ?_
  constructor
  · rintro ⟨-, hall⟩ r' c' h1 h2 h3 h4
    obtain ⟨q, hq⟩ := inWindow_of_near x b y c l r' c' h1 h2 h3 h4
    have e := hall ((⟨4, ![1, 3, 3, 1]⟩ : Shape).rowMajor q) (List.mem_finRange _)
    have e' : inWindow x b y c l ((⟨4, ![1, 3, 3, 1]⟩ : Shape).rowMajor.symm ((⟨4, ![1, 3, 3, 1]⟩ : Shape).rowMajor q)) _ ≤ t := e
    have hs : ((⟨4, ![1, 3, 3, 1]⟩ : Shape).rowMajor.symm ((⟨4, ![1, 3, 3, 1]⟩ : Shape).rowMajor q)) = q := Equiv.symm_apply_apply _ _
    have hq' : ∀ p, p = q → ∀ d, inWindow x b y c l p d = x (ix4 b r' c' l) := fun p hp d => by subst hp; exact hq d
    exact (le_of_eq (hq' _ hs _).symm).trans e'
  · intro hall
    refine ⟨bot_le, fun n _ => ?_⟩
    exact inWindow_le x b y c l t hall _ _

theorem minus_infinity (j : S_.Idx) :
    (broadcastInDim S_ ![] Gen.bcast_S_S_ (constant S_ FTy.f32 4286578688#32 : FVec Ideal S_ .f32) j : EReal) = ⊥ := by
  show Ideal.ofBits .f32 0xFF800000#32 = ⊥
  simp [Ideal.ofBits, Ideal.ieee]

theorem keep_of (h : Fin 128 → Fin 128 → EReal) (r c : Fin 128) (H pool : EReal) (hH : H = h r c)
    (hp : ∀ t, pool ≤ t ↔ ∀ r' c' : Fin 128, r'.val ≤ r.val + 1 → r.val ≤ r'.val + 1 → c'.val ≤ c.val + 1 → c.val ≤ c'.val + 1 → h r' c' ≤ t) :
    H * (FloatOps.uitofp FTy.f32 (BitVec.ofBool (decide (pool = H))) : Ideal .f32) = peakVal h r c := by
  subst hH
  refine keep_eq (pool := pool) ⟨fun e => (hp _).mp e.le, fun hP => le_antisymm ((hp _).mpr hP) ?_⟩ (fun e => ?_) (fun e => ?_)
  · exact (hp pool).mp le_rfl r c (by omega) (by omega) (by omega) (by omega)
  · rw [decide_eq_true e]
    show ((((1#1 : BitVec 1).toNat : ℝ)) : EReal) = 1
    simp
  · rw [decide_eq_false e]
    show ((((0#1 : BitVec 1).toNat : ℝ)) : EReal) = 0
    simp

/-- The heat map with everything but its peaks set to zero, in the flat order. -/
theorem v174_at (b : Fin 16) (j : Fin 1310720) :
    res_main_v174 V (ix2 b j) = peakVal (heatVal (im V) (V (Proc.devRef .tc main_arg1)) (V (Proc.devRef .tc main_arg2))
        (V (Proc.devRef .tc main_arg3)) (V (Proc.devRef .tc main_arg4)) b (⟨j.val / 16384, by omega⟩ : Fin 80))
      (⟨j.val / 128 % 128, by omega⟩ : Fin 128) (⟨j.val % 128, by omega⟩ : Fin 128) := by
  pointwise [res_main_v174]
  generalize hR : (⟨j.val / 128 % 128, by omega⟩ : Fin 128) = r
  generalize hC : (⟨j.val % 128, by omega⟩ : Fin 128) = c
  generalize hL : (⟨j.val / 16384, by omega⟩ : Fin 80) = l
  have hW := window_le (res_main_v59 V) (broadcastInDim S_ ![] Gen.bcast_S_S_ (constant S_ FTy.f32 4286578688#32 : FVec Ideal S_ .f32))
    Gen.reduceWindows_S16x128x128x80_S16x128x128x80_w1s1p0_0_w3s1p1_1_w3s1p1_1_w1s1p0_0 Gen.h_S_ (minus_infinity (Shape.Idx.first Gen.h_S_)) b r c l
  exact keep_of (heatVal (im V) (V (Proc.devRef .tc main_arg1)) (V (Proc.devRef .tc main_arg2))
        (V (Proc.devRef .tc main_arg3)) (V (Proc.devRef .tc main_arg4)) b l) r c _ _ (v59_at V b r c l)
    (fun t => (hW t).trans (by simp only [v59_at]))

end Cert.ReferenceIdeal.Value

end
-- ==== Proof.Greedy.lean ====
/- Sequences of distinct picks, each of which beats everything not picked before it. Such a sequence is
   determined by what "beats" means: the repeated search for a largest entry and a stable sort that puts
   the larger entries first both give it. -/
module

public import Idealize.ShloMosaic.Lib.SortFacts
public import Idealize.ShloMosaic.PureOps.ShapeOps
public import Mathlib.Data.EReal.Basic

@[expose] public section

noncomputable section

namespace Cert.Picks

open Idealize.ShloMosaic

/-- Entry `i` beats entry `j`: it is larger, or equal and earlier. -/
def Beats {n : ℕ} (f : Fin n → EReal) (i j : Fin n) : Prop := f j < f i ∨ (f j = f i ∧ i < j)

variable {n : ℕ} {f : Fin n → EReal}

theorem Beats.asymm {i j : Fin n} (h : Beats f i j) : ¬ Beats f j i := by
  rintro (h' | ⟨h', h''⟩) <;> rcases h with h | ⟨h, h3⟩
  · exact lt_asymm h h'
  · rw [h] at h'; exact lt_irrefl _ h'
  · rw [h'] at h; exact lt_irrefl _ h
  · exact lt_asymm h'' h3

theorem Beats.trans {i j k : Fin n} (h : Beats f i j) (h' : Beats f j k) : Beats f i k := by
  rcases h with h | ⟨h, h3⟩ <;> rcases h' with h' | ⟨h', h3'⟩
  · exact .inl (h'.trans h)
  · exact .inl (h' ▸ h)
  · exact .inl (h ▸ h')
  · exact .inr ⟨h'.trans h, h3.trans h3'⟩

/-- The first `k` picks: each differs from those before it and beats every other entry not picked so far. -/
def Greedy (f : Fin n → EReal) (k : ℕ) (p : ℕ → Fin n) : Prop :=
  ∀ a < k, (∀ b < a, p b ≠ p a) ∧ ∀ j, (∀ b < a, p b ≠ j) → j ≠ p a → Beats f (p a) j

/-- Two such sequences are the same. -/
theorem greedy_unique {k : ℕ} {p q : ℕ → Fin n} (hp : Greedy f k p) (hq : Greedy f k q) : ∀ a < k, p a = q a := by
  intro a
  induction a using Nat.strong_induction_on with
  | _ a ih =>
    intro ha
    by_contra hne
    have hb : ∀ b < a, p b = q b := fun b hb => ih b hb (hb.trans ha)
    have h1 := (hp a ha).2 (q a) (fun b hlt => by rw [hb b hlt]; exact (hq a ha).1 b hlt) (Ne.symm hne)
    have h2 := (hq a ha).2 (p a) (fun b hlt => by rw [← hb b hlt]; exact (hp a ha).1 b hlt) hne
    exact h1.asymm h2

/-! ## The stable sort -/

/-- "Larger" as the sort asks it. -/
def larger (f : Fin n → EReal) (i j : Fin n) : Bool := decide (f j < f i)

theorem pairwise_insert (a : Fin n) (l : List (Fin n)) (ha : ∀ b ∈ l, a < b) (hl : l.Pairwise (Beats f)) :
    (insertBefore (larger f) a l).Pairwise (Beats f) := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem _ hc)) hl.2⟩
      rcases List.mem_cons.mp ((perm_insertBefore (larger f) a l).mem_iff.mp hc) with rfl | hc'
      · exact .inl (by simpa [larger] using h)
      · exact hl.1 c hc'
    · rename_i h
      have hab : Beats f a b := by
        have h' : ¬ f a < f b := by simpa [larger] using h
        rcases lt_or_eq_of_le (not_lt.mp h') with h1 | h1
        · exact .inl h1
        · exact .inr ⟨h1, ha b List.mem_cons_self⟩
      refine List.pairwise_cons.mpr ⟨fun c hc => ?_, List.pairwise_cons.mpr hl⟩
      rcases List.mem_cons.mp hc with rfl | hc'
      · exact hab
      · exact hab.trans (hl.1 c hc')

theorem perm_stable (l : List (Fin n)) : (stableSort (larger f) l).Perm l := by
  induction l with
  | nil => exact .refl _
  | cons a l ih => unfold stableSort; exact (perm_insertBefore _ a _).trans (ih.cons a)

theorem pairwise_stable (l : List (Fin n)) (hl : l.Pairwise (· < ·)) : (stableSort (larger f) l).Pairwise (Beats f) := by
  induction l with
  | nil => exact .nil
  | cons a l ih =>
    rw [List.pairwise_cons] at hl
    unfold stableSort
    exact pairwise_insert a _ (fun b hb => hl.1 b ((perm_stable l).mem_iff.mp hb)) (ih hl.2)

/-- Earlier places of the sort beat later ones. -/
theorem sorted_beats (i j : Fin n) (h : i < j) : Beats f (sortedFrom (larger f) i) (sortedFrom (larger f) j) := by
  have hp := List.pairwise_iff_get.mp (pairwise_stable (f := f) (List.finRange n) (List.pairwise_lt_finRange n))
  unfold sortedFrom
  exact hp _ _ h

/-- The sort's places, the first one onward, are such a sequence of picks. -/
theorem sorted_greedy (k : ℕ) (hk : k ≤ n) (q : ℕ → Fin n)
    (hq : ∀ a (h : a < k), q a = sortedFrom (larger f) ⟨a, h.trans_le hk⟩) : Greedy f k q := by
  intro a ha
  refine ⟨fun b hb he => ?_, fun j hj hne => ?_⟩
  · rw [hq a ha, hq b (hb.trans ha)] at he
    have h := sorted_beats (f := f) ⟨b, (hb.trans ha).trans_le hk⟩ ⟨a, ha.trans_le hk⟩ hb
    rw [he] at h
    exact h.asymm h
  · obtain ⟨i, rfl⟩ := sortedFrom_surjective (larger f) j
    rw [hq a ha]
    refine sorted_beats _ _ (Fin.lt_def.mpr ?_)
    rcases lt_trichotomy i.val a with h | h | h
    · exact absurd (hq i.val (h.trans ha)) (hj i.val h)
    · exact absurd (by rw [hq a ha]; exact congrArg _ (Fin.ext h)) hne
    · exact h

end Cert.Picks

end
-- ==== Proof.Course.lean ====
/- The forty extractions from one image, over the extended reals: their places are the picks of the heat map
   in the order class, row, column, each beating everything not picked before it, and each output row is the
   score, the class, the place and the four regression lanes of its pick. -/
module

public import proofs.«01_k».proof.Proof.Pick
public import proofs.«01_k».proof.Proof.Greedy

@[expose] public section

set_option synthInstance.maxSize 4096
set_option maxRecDepth 16384

noncomputable section

namespace Cert.KernelIdeal.Body

open Idealize.ShloMosaic Idealize.SL.Sem
open Cert.KernelIdeal Facts₀ Facts
open Cert.Picks

/-! ## Places as numbers: the class times 16384 plus the row times 128 plus the column -/

/-- The number of places: 80 classes of 128 by 128. -/
abbrev places : ℕ := 1310720

def clsAt (j : Fin places) : Fin 128 := ⟨j.val / 16384, by have := j.isLt; unfold places at this; omega⟩
def rowAt (j : Fin places) : Fin 128 := ⟨j.val / 128 % 128, by omega⟩
def colAt (j : Fin places) : Fin 128 := ⟨j.val % 128, by omega⟩

theorem clsAt_lt (j : Fin places) : (clsAt j).val < 80 := by
  have := j.isLt; unfold places at this
  show j.val / 16384 < 80
  omega

/-- The place of a class, a row and a column. -/
def placeOf (y x c : Fin 128) (hc : c.val < 80) : Fin places :=
  ⟨c.val * 16384 + y.val * 128 + x.val, by have := y.isLt; have := x.isLt; unfold places; omega⟩

theorem clsAt_placeOf (y x c : Fin 128) (hc : c.val < 80) : clsAt (placeOf y x c hc) = c := by
  have := y.isLt; have := x.isLt
  apply Fin.ext
  show (c.val * 16384 + y.val * 128 + x.val) / 16384 = c.val
  omega
theorem rowAt_placeOf (y x c : Fin 128) (hc : c.val < 80) : rowAt (placeOf y x c hc) = y := by
  have := y.isLt; have := x.isLt
  apply Fin.ext
  show (c.val * 16384 + y.val * 128 + x.val) / 128 % 128 = y.val
  omega
theorem colAt_placeOf (y x c : Fin 128) (hc : c.val < 80) : colAt (placeOf y x c hc) = x := by
  have := y.isLt; have := x.isLt
  apply Fin.ext
  show (c.val * 16384 + y.val * 128 + x.val) % 128 = x.val
  omega
theorem placeOf_at (j : Fin places) : placeOf (rowAt j) (colAt j) (clsAt j) (clsAt_lt j) = j := by
  apply Fin.ext
  show j.val / 16384 * 16384 + j.val / 128 % 128 * 128 + j.val % 128 = j.val
  omega

/-- The heat map at a place. -/
def heatAt (H : FVec Ideal S128x128x128 .f32) (j : Fin places) : EReal := H (ix3 (rowAt j) (colAt j) (clsAt j))

theorem heatAt_placeOf (H : FVec Ideal S128x128x128 .f32) (y x c : Fin 128) (hc : c.val < 80) :
    heatAt H (placeOf y x c hc) = H (ix3 y x c) := by
  unfold heatAt; rw [clsAt_placeOf, rowAt_placeOf, colAt_placeOf]

/-- The place the table of a state names. -/
def picked (p : FVec Ideal S128x128 .f32 × FVec Ideal S128x128x128 .f32) : Fin places :=
  Fin.ofNat places ((clsOf (posOf p.1)).toNat * 16384 + (rowOf (posOf p.1)).toNat * 128
    + (colOf (maxOf p.1) (clsOf (posOf p.1)) (slabIn p.1 p.2)).toNat)

theorem picked_eq {p : FVec Ideal S128x128 .f32 × FVec Ideal S128x128x128 .f32} {y x c : Fin 128} (h : Picks p y x c) :
    picked p = placeOf y x c h.cls := by
  unfold picked
  rw [h.clsOf, h.rowOf, h.colOf]
  apply Fin.ext
  have := y.isLt; have := x.isLt; have := h.cls
  simp only [Fin.ofNat, BitVec.toNat_ofNat]
  show _ = c.val * 16384 + y.val * 128 + x.val
  have e : ∀ a : Fin 128, a.val % 2 ^ 32 = a.val := fun a => Nat.mod_eq_of_lt (by have := a.isLt; omega)
  rw [e, e, e]
  exact Nat.mod_eq_of_lt (by show _ < 1310720; omega)

theorem states_succ (k : ℕ) (p : FVec Ideal S128x128 .f32 × FVec Ideal S128x128x128 .f32) :
    states (k + 1) p = next (states k p) := by
  induction k generalizing p with
  | zero => rfl
  | succ k ih => exact ih (next p)

/-! ## The course -/

/-- The row written for a pick: the box, the class and the score, read off the heat map. -/
structure RowIs (p : FVec Ideal S128x128 .f32 × FVec Ideal S128x128x128 .f32) (H : FVec Ideal S128x128x128 .f32) (j : Fin places) : Prop where
  left : rowIn p 0 = lowEnd (ctr (BitVec.ofNat 32 (colAt j).val) (H (ix3 (rowAt j) (colAt j) 82))) (H (ix3 (rowAt j) (colAt j) 80))
  top : rowIn p 1 = lowEnd (ctr (BitVec.ofNat 32 (rowAt j).val) (H (ix3 (rowAt j) (colAt j) 83))) (H (ix3 (rowAt j) (colAt j) 81))
  right : rowIn p 2 = highEnd (ctr (BitVec.ofNat 32 (colAt j).val) (H (ix3 (rowAt j) (colAt j) 82))) (H (ix3 (rowAt j) (colAt j) 80))
  bottom : rowIn p 3 = highEnd (ctr (BitVec.ofNat 32 (rowAt j).val) (H (ix3 (rowAt j) (colAt j) 83))) (H (ix3 (rowAt j) (colAt j) 81))
  cls : rowIn p 4 = (Scalar.sitofp .f32 (BitVec.ofNat 32 (clsAt j).val) : Ideal .f32)
  score : rowIn p 5 = heatAt H j

theorem laneSelect (j l : Fin 8) (v : EReal) :
    Scalar.select (IntOp.cmpi .eq (BitVec.ofNat 32 j.val) (BitVec.ofNat 32 l.val)) v 0 = if j = l then v else 0 := by
  have h : IntOp.cmpi .eq (BitVec.ofNat 32 j.val) (BitVec.ofNat 32 l.val) = if j = l then 1#1 else 0#1 := by
    revert j l; decide
  rw [h]
  unfold Scalar.select
  by_cases h' : j = l <;> simp [h']

theorem outRow_at (v : Ideal .f32) (c y x : BitVec 32) (k : FVec Ideal S1x128 .f32) (j : Fin 8) :
    outRow v c y x k (ix3 0 0 j)
      = (if j = 0 then lowEnd (ctr x (lane 82#32 k)) (lane 80#32 k) else (0 : EReal))
        + (if j = 1 then lowEnd (ctr y (lane 83#32 k)) (lane 81#32 k) else (0 : EReal))
        + (if j = 2 then highEnd (ctr x (lane 82#32 k)) (lane 80#32 k) else (0 : EReal))
        + (if j = 3 then highEnd (ctr y (lane 83#32 k)) (lane 81#32 k) else (0 : EReal))
        + (if j = 4 then (Scalar.sitofp .f32 c : Ideal .f32) else (0 : EReal))
        + (if j = 5 then v else (0 : EReal)) := by
  pointwise [outRow, atLane, outLanes]
  rw [← laneSelect j 0, ← laneSelect j 1, ← laneSelect j 2, ← laneSelect j 3, ← laneSelect j 4, ← laneSelect j 5]
  rfl

variable {p : FVec Ideal S128x128 .f32 × FVec Ideal S128x128x128 .f32} {y x c : Fin 128}

theorem rowIs_picked (h : Picks p y x c) : RowIs p p.2 (picked p) := by
  have hlane : ∀ l : Fin 128, lane (BitVec.ofNat 32 l.val) (colVec (BitVec.ofNat 32 x.val) (slabIn p.1 p.2)) = p.2 (ix3 y x l) := fun l => by
    rw [lane_at, colVec_at, slabIn_at p.1 p.2 y x l h.row]
  have hrow : ∀ j : Fin 8, rowIn p j = outRow (p.2 (ix3 y x c)) (BitVec.ofNat 32 c.val) (BitVec.ofNat 32 y.val) (BitVec.ofNat 32 x.val)
      (colVec (BitVec.ofNat 32 x.val) (slabIn p.1 p.2)) (ix3 0 0 j) := fun j => by
    have hc := h.colOf
    unfold rowIn
    rw [show rowAfter p.1 (slabIn p.1 p.2) (ix4 0 0 0 j) = outRow (maxOf p.1) (clsOf (posOf p.1)) (rowOf (posOf p.1))
        (colOf (maxOf p.1) (clsOf (posOf p.1)) (slabIn p.1 p.2))
        (colVec (colOf (maxOf p.1) (clsOf (posOf p.1)) (slabIn p.1 p.2)) (slabIn p.1 p.2)) (ix3 0 0 j) by pointwise [rowAfter],
      h.clsOf, h.rowOf, hc, h.val]
  have h80 := hlane 80
  have h81 := hlane 81
  have h82 := hlane 82
  have h83 := hlane 83
  rw [picked_eq h]
  constructor
  all_goals
    first | rw [clsAt_placeOf, rowAt_placeOf, colAt_placeOf] | rw [rowAt_placeOf, colAt_placeOf] | rw [clsAt_placeOf] | rw [heatAt_placeOf] | skip
    rw [hrow, outRow_at]
    simp [← h80, ← h81, ← h82, ← h83]

/-- The heat map with the places picked so far set to zero. -/
theorem states_heat (H0 : FVec Ideal S128x128x128 .f32) (k : ℕ) (j : Fin places)
    (hk : ∀ a < k, ∃ y x c, Picks (states a p) y x c) (hH : p.2 = H0) :
    heatAt (states k p).2 j = if ∃ a < k, picked (states a p) = j then 0 else heatAt H0 j := by
  induction k with
  | zero => simp [← hH]; rfl
  | succ k ih =>
    obtain ⟨y, x, c, h⟩ := hk k (Nat.lt_succ_self k)
    have ih' := ih fun a ha => hk a (ha.trans (Nat.lt_succ_self k))
    rw [states_succ]
    unfold heatAt at ih' ⊢
    rw [next_heat h]
    have e : (rowAt j = y ∧ colAt j = x ∧ clsAt j = c) ↔ picked (states k p) = j := by
      rw [picked_eq h]
      constructor
      · rintro ⟨rfl, rfl, rfl⟩; exact placeOf_at j
      · rintro rfl; exact ⟨rowAt_placeOf _ _ _ _, colAt_placeOf _ _ _ _, clsAt_placeOf _ _ _ _⟩
    by_cases h1 : picked (states k p) = j
    · rw [if_pos (e.mpr h1), if_pos ⟨k, Nat.lt_succ_self k, h1⟩]
    · rw [if_neg fun h => h1 (e.mp h), ih']
      have : (∃ a < k, picked (states a p) = j) ↔ ∃ a < k + 1, picked (states a p) = j := by
        constructor
        · rintro ⟨a, ha, he⟩; exact ⟨a, ha.trans (Nat.lt_succ_self k), he⟩
        · rintro ⟨a, ha, he⟩
          rcases Nat.lt_succ_iff_lt_or_eq.mp ha with ha | rfl
          · exact ⟨a, ha, he⟩
          · exact absurd he h1
      simp only [this]

/-- The lanes past the classes stay as they were. -/
theorem states_lane (k : ℕ) (y' x' l : Fin 128) (hl : 80 ≤ l.val) (hk : ∀ a < k, ∃ y x c, Picks (states a p) y x c) :
    (states k p).2 (ix3 y' x' l) = p.2 (ix3 y' x' l) := by
  induction k with
  | zero => rfl
  | succ k ih =>
    obtain ⟨y, x, c, h⟩ := hk k (Nat.lt_succ_self k)
    rw [states_succ, next_heat h, if_neg, ih fun a ha => hk a (ha.trans (Nat.lt_succ_self k))]
    rintro ⟨-, -, rfl⟩
    have := h.cls
    omega

/-- Forty picks exist when every class has a positive entry. -/
theorem picks_all (hG : Good p) (hpos : ∀ c : Fin 80, ∃ j : Fin places, (clsAt j).val = c.val ∧ 0 < heatAt p.2 j) (k : ℕ) (hk : k ≤ 40) :
    Good (states k p) ∧ ∀ a < k, ∃ y x c, Picks (states a p) y x c := by
  induction k with
  | zero => exact ⟨hG, fun a ha => absurd ha (Nat.not_lt_zero a)⟩
  | succ k ih =>
    obtain ⟨hGk, hk'⟩ := ih (by omega)
    have hex : ∃ y x c, Picks (states k p) y x c := by
      refine exists_picks _ hGk ?_
      have hcard : ((Finset.range k).image fun a => (clsAt (picked (states a p))).val).card < (Finset.range 80).card := by
        refine lt_of_le_of_lt Finset.card_image_le ?_
        rw [Finset.card_range, Finset.card_range]; omega
      obtain ⟨c, hc, hnot⟩ := Finset.exists_mem_notMem_of_card_lt_card hcard
      obtain ⟨j, hj, hp⟩ := hpos ⟨c, Finset.mem_range.mp hc⟩
      refine ⟨rowAt j, colAt j, clsAt j, clsAt_lt j, ?_⟩
      show 0 < heatAt (states k p).2 j
      rw [states_heat p.2 k j hk' rfl, if_neg]
      · exact hp
      · rintro ⟨a, ha, h⟩
        exact hnot (Finset.mem_image.mpr ⟨a, Finset.mem_range.mpr ha, by rw [h]; exact hj⟩)
    refine ⟨?_, fun a ha => ?_⟩
    · obtain ⟨y, x, c, h⟩ := hex
      rw [states_succ]; exact next_good hGk h
    · rcases Nat.lt_succ_iff_lt_or_eq.mp ha with ha | rfl
      · exact hk' a ha
      · exact hex

/-- The course: the places picked are the greedy ones, and the rows written are those of the places. -/
theorem course (hG : Good p) (hpos : ∀ c : Fin 80, ∃ j : Fin places, (clsAt j).val = c.val ∧ 0 < heatAt p.2 j) :
    Greedy (heatAt p.2) 40 (fun k => picked (states k p)) ∧ ∀ k < 40, RowIs (states k p) p.2 (picked (states k p)) := by
  obtain ⟨-, hall⟩ := picks_all hG hpos 40 le_rfl
  have hfresh : ∀ a < 40, ∀ b < a, picked (states b p) ≠ picked (states a p) := by
    intro a ha b hb he
    obtain ⟨y, x, c, h⟩ := hall a ha
    have h0 := h.pos
    rw [← heatAt_placeOf (states a p).2 y x c h.cls, ← picked_eq h,
      states_heat p.2 a _ (fun b hb => hall b (hb.trans ha)) rfl, if_pos ⟨b, hb, he⟩] at h0
    exact lt_irrefl _ h0
  have hval : ∀ a < 40, heatAt (states a p).2 (picked (states a p)) = heatAt p.2 (picked (states a p)) := by
    intro a ha
    rw [states_heat p.2 a _ (fun b hb => hall b (hb.trans ha)) rfl, if_neg]
    rintro ⟨b, hb, he⟩
    exact hfresh a ha b hb he
  refine ⟨fun a ha => ⟨fun b hb => hfresh a ha b hb, fun j hj hne => ?_⟩, fun k hk => ?_⟩
  · obtain ⟨y, x, c, h⟩ := hall a ha
    have hv := hval a ha
    have hjv : heatAt (states a p).2 j = heatAt p.2 j := by
      rw [states_heat p.2 a _ (fun b hb => hall b (hb.trans ha)) rfl, if_neg]
      rintro ⟨b, hb, he⟩
      exact hj b hb he
    unfold Beats
    show heatAt p.2 j < heatAt p.2 (picked (states a p)) ∨ _
    rw [← hv, ← hjv]
    rw [picked_eq h, heatAt_placeOf]
    rcases h.best (rowAt j) (colAt j) (clsAt j) (clsAt_lt j) with h1 | ⟨h1, h2⟩
    · exact .inl h1
    · refine .inr ⟨h1, ?_⟩
      have hne' : j.val ≠ (placeOf y x c h.cls).val := fun e => hne (by
        show j = picked (states a p)
        rw [picked_eq h]; exact Fin.ext e)
      have h3 : (placeOf y x c h.cls).val ≤ (placeOf (rowAt j) (colAt j) (clsAt j) (clsAt_lt j)).val := h2
      rw [placeOf_at] at h3
      show picked (states a p) < j
      rw [picked_eq h]
      exact Fin.lt_def.mpr (lt_of_le_of_ne h3 hne'.symm)
  · obtain ⟨y, x, c, h⟩ := hall k hk
    have hr := rowIs_picked h
    have hl : ∀ l : Fin 128, 80 ≤ l.val → ∀ y' x' : Fin 128, (states k p).2 (ix3 y' x' l) = p.2 (ix3 y' x' l) := fun l hl y' x' =>
      states_lane k y' x' l hl fun b hb => hall b (hb.trans hk)
    have l0 := hl 80 (by decide) (rowAt (picked (states k p))) (colAt (picked (states k p)))
    have l1 := hl 81 (by decide) (rowAt (picked (states k p))) (colAt (picked (states k p)))
    have l2 := hl 82 (by decide) (rowAt (picked (states k p))) (colAt (picked (states k p)))
    have l3 := hl 83 (by decide) (rowAt (picked (states k p))) (colAt (picked (states k p)))
    exact ⟨by rw [hr.left, l0, l2], by rw [hr.top, l1, l3], by rw [hr.right, l0, l2], by rw [hr.bottom, l1, l3], hr.cls,
      by rw [hr.score, hval k hk]⟩

end Cert.KernelIdeal.Body

end
-- ==== Proof.RefRows.lean ====
/- The reference's result row by row: the flat map's places in descending order, equal values by place, and for each
   of the first forty the box read off the regression heads at the place, the class and the score. -/
module

public import proofs.«01_k».proof.Proof.RefMaps
public import proofs.«01_k».proof.Proof.Course

@[expose] public section

set_option synthInstance.maxSize 4096
set_option maxRecDepth 16384

noncomputable section

namespace Cert.ReferenceIdeal.Value

open Idealize.ShloMosaic Idealize.SL.Sem
open Cert.ReferenceIdeal Cert.ReferenceIdeal.Gen
open Cert.Center Cert.Picks
open Cert.KernelIdeal.Body (clsAt rowAt colAt places ctr lowEnd highEnd)

/-! ## Sorting a row -/

theorem total_larger (f : Fin 1310720 → EReal) :
    (fun k k' => (FloatOps.cmpfTotal (F := Ideal) (φ := .f32) .gt (f k) (f k') == 1#1)) = larger f := by
  funext k k'
  show (BitVec.ofBool (decide (f k' < f k)) == 1#1) = decide (f k' < f k)
  cases decide (f k' < f k) <;> rfl

theorem along_row (b : Fin 16) (k q : Fin 1310720) : (ix2 b k : S16x1310720.Idx).along 1 q = ix2 b q := by
  funext a
  match a with
  | ⟨0, _⟩ => rfl
  | ⟨1, _⟩ => rfl

theorem sort2_row {β : Type} (X : FVec Ideal S16x1310720 .f32) (Y : S16x1310720.Idx → β) (b : Fin 16) (k : Fin 1310720) :
    (Host.sort2 S16x1310720 1 (fun l r => FloatOps.cmpfTotal .gt l.1 r.1) X Y).1 (ix2 b k)
        = X (ix2 b (sortedFrom (larger fun j => X (ix2 b j)) k))
      ∧ (Host.sort2 S16x1310720 1 (fun l r => FloatOps.cmpfTotal .gt l.1 r.1) X Y).2 (ix2 b k)
        = Y (ix2 b (sortedFrom (larger fun j => X (ix2 b j)) k)) := by
  unfold Host.sort2
  rw [dif_pos (show 1 < S16x1310720.rank from Nat.lt_succ_self 1)]
  have e : (fun q q' : Fin 1310720 => (FloatOps.cmpfTotal (F := Ideal) (φ := .f32) .gt (X ((ix2 b k : S16x1310720.Idx).along 1 q)) (X ((ix2 b k : S16x1310720.Idx).along 1 q')) == 1#1))
      = larger fun j => X (ix2 b j) := by
    rw [← total_larger]
    funext q q'
    rw [along_row, along_row]
  have hp : (ix2 b k : S16x1310720.Idx).along 1 (sortedFrom (fun q q' : Fin 1310720 => (FloatOps.cmpfTotal (F := Ideal) (φ := .f32) .gt (X ((ix2 b k : S16x1310720.Idx).along 1 q)) (X ((ix2 b k : S16x1310720.Idx).along 1 q')) == 1#1)) k)
      = ix2 b (sortedFrom (larger fun j => X (ix2 b j)) k) :=
    (along_row b k _).trans (congrArg (fun f => ix2 b (sortedFrom f k)) e)
  exact ⟨congrArg X hp, congrArg Y hp⟩

/-- The place at a position of the descending order of a row. -/
def sortedAt (X : FVec Ideal S16x1310720 .f32) (b : Fin 16) (k : Fin 40) : Fin 1310720 :=
  sortedFrom (larger fun j => X (ix2 b j)) ⟨k.val, by omega⟩

theorem topK_row (X : FVec Ideal S16x1310720 .f32) (b : Fin 16) (k : Fin 40) :
    (Host.topK S16x40 1 (FloatOps.cmpfTotal .gt) X sliceFits_S16x1310720_S16x40).1 (ix2 b k) = X (ix2 b (sortedAt X b k))
      ∧ (Host.topK S16x40 1 (FloatOps.cmpfTotal .gt) X sliceFits_S16x1310720_S16x40).2 (ix2 b k) = BitVec.ofNat 32 (sortedAt X b k).val := by
  have hi : ∀ (Z : S16x1310720.Idx → Ideal .f32), extractStridedSlice S16x40 (fun _ => 0) Z sliceFits_S16x1310720_S16x40 (ix2 b k)
      = Z (ix2 b (⟨k.val, by omega⟩ : Fin 1310720)) := fun Z => by
    unfold extractStridedSlice
    refine congrArg Z (funext fun a => ?_)
    match a with
    | ⟨0, _⟩ => exact Fin.ext (show 0 + b.val = b.val by omega)
    | ⟨1, _⟩ => exact Fin.ext (show 0 + k.val = k.val by omega)
  have hw : ∀ (Z : IVec S16x1310720 32), extractStridedSlice S16x40 (fun _ => 0) Z sliceFits_S16x1310720_S16x40 (ix2 b k)
      = Z (ix2 b (⟨k.val, by omega⟩ : Fin 1310720)) := fun Z => by
    unfold extractStridedSlice
    refine congrArg Z (funext fun a => ?_)
    match a with
    | ⟨0, _⟩ => exact Fin.ext (show 0 + b.val = b.val by omega)
    | ⟨1, _⟩ => exact Fin.ext (show 0 + k.val = k.val by omega)
  let Y : IVec S16x1310720 32 := fun i => if hd : 1 < S16x1310720.rank then iotaInDim S16x1310720 32 ⟨1, hd⟩ i else 0#32
  have hs := sort2_row X Y b (⟨k.val, by omega⟩ : Fin 1310720)
  constructor
  · exact (hi (Host.sort2 S16x1310720 1 (fun l r => FloatOps.cmpfTotal .gt l.1 r.1) X Y).1).trans hs.1
  · refine (hw (Host.sort2 S16x1310720 1 (fun l r => FloatOps.cmpfTotal .gt l.1 r.1) X Y).2).trans (hs.2.trans ?_)
    show (if hd : 1 < S16x1310720.rank then iotaInDim S16x1310720 32 ⟨1, hd⟩ _ else 0#32) = _
    rw [dif_pos (show 1 < S16x1310720.rank from Nat.lt_succ_self 1)]
    rfl

theorem reverse_row {α : Type} (Z : S16x40.Idx → α) (b : Fin 16) (k : Fin 40) : Host.reverse [1] Z (ix2 b k) = Z (ix2 b k.rev) := by
  unfold Host.reverse
  refine congrArg Z (funext fun a => ?_)
  match a with
  | ⟨0, _⟩ => rfl
  | ⟨1, _⟩ => rfl

/-! ## Reading a channel at a place -/

/-- A row's value at the position a word names, read signed and kept inside the row. -/
theorem take_at {α : Type} (x : S16x16384.Idx → α) (idx : IVec S16x40x1 32) (b : Fin 16) (k : Fin 40) :
    Host.gather gather_S16x16384_S16x40x1_S16x40_n_1_0_0_1_2_11 x idx (ix2 b k)
      = x (ix2 b (⟨min (idx (ix3 b k (0 : Fin 1))).toInt.toNat 16383, by omega⟩ : Fin 16384)) := by
  unfold Host.gather
  refine congrArg x (funext fun a => Fin.ext ?_)
  show (gather_S16x16384_S16x40x1_S16x40_n_1_0_0_1_2_11).start (ix2 b k) idx a + (gather_S16x16384_S16x40x1_S16x40_n_1_0_0_1_2_11).batchCoord (ix2 b k) a
      + (gather_S16x16384_S16x40x1_S16x40_n_1_0_0_1_2_11).offCoord (ix2 b k) a = _
  have h01 : a = 0 ∨ a = 1 := by
    match a with
    | ⟨0, _⟩ => exact Or.inl rfl
    | ⟨1, _⟩ => exact Or.inr rfl
  rcases h01 with rfl | rfl
  · skip
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin S16x16384.rank) ∈ (gather_S16x16384_S16x40x1_S16x40_n_1_0_0_1_2_11).operandBatchingDims from List.mem_singleton.mpr rfl)]
    rfl
  · skip
    rw [GatherDims.batchCoord_eq_zero _ _ _ (fun h => by revert h; decide),
      GatherDims.offCoord_eq_zero _ _ _ (fun h => ((GatherDims.mem_sKept _ _).mp h).1 (List.mem_singleton.mpr rfl))]
    simp only [Nat.add_zero]
    unfold GatherDims.start
    rw [dif_pos (show (1 : Fin S16x16384.rank) ∈ (gather_S16x16384_S16x40x1_S16x40_n_1_0_0_1_2_11).startIndexMap from List.mem_singleton.mpr rfl)]
    have hsi : (gather_S16x16384_S16x40x1_S16x40_n_1_0_0_1_2_11).siIdx (ix2 b k) ⟨List.idxOf (1 : Fin S16x16384.rank) (gather_S16x16384_S16x40x1_S16x40_n_1_0_0_1_2_11).startIndexMap,
        List.idxOf_lt_length_iff.2 (List.mem_singleton.mpr rfl)⟩ = ix3 b k (0 : Fin 1) := by
      funext c; refine Fin.ext ?_
      match c with
      | ⟨0, _⟩ => rfl
      | ⟨1, _⟩ => rfl
      | ⟨2, _⟩ => rfl
    rw [hsi]
    rfl

/-- The word a place's remainder is, as the gather reads it. -/
theorem word_index (n : ℕ) (h : n < 16384) :
    (Scalar.select (IntOp.cmpi .slt (BitVec.ofNat 32 n) 0#32) (IntOp.addi (BitVec.ofNat 32 n) 16384#32) (BitVec.ofNat 32 n)).toInt.toNat = n := by
  have hs : IntOp.cmpi .slt (BitVec.ofNat 32 n) 0#32 = 0#1 := by
    show BitVec.ofBool ((BitVec.ofNat 32 n).slt 0#32) = 0#1
    have : (BitVec.ofNat 32 n).slt 0#32 = false := by
      rw [BitVec.slt_eq_decide, decide_eq_false_iff_not, BitVec.toInt_eq_toNat_cond, BitVec.toNat_ofNat, Nat.mod_eq_of_lt (show n < 2 ^ 32 by omega)]
      simp
      omega
    rw [this]; rfl
  rw [hs]
  show (BitVec.ofNat 32 n).toInt.toNat = n
  rw [BitVec.toInt_eq_toNat_cond, BitVec.toNat_ofNat, Nat.mod_eq_of_lt (show n < 2 ^ 32 by omega), if_pos (by omega)]
  simp

variable (V : Valuation τ sig (Elt Ideal))

/-- The place of a result row: the rows are in ascending order. -/
def place (b : Fin 16) (k : Fin 40) : Fin 1310720 := sortedAt (res_main_v174 V) b k.rev

theorem v176_at (b : Fin 16) (k : Fin 40) : (res_main_v176 V (ix2 b k) : BitVec 32) = BitVec.ofNat 32 (place V b k).val := by
  unfold res_main_v176
  exact (reverse_row _ b k).trans (topK_row (res_main_v174 V) b k.rev).2

theorem v181_at (b : Fin 16) (k : Fin 40) : (res_main_v181 V (ix2 b k) : BitVec 32) = BitVec.ofNat 32 ((place V b k).val % 16384) := by
  have e : (res_main_v181 V (ix2 b k) : BitVec 32) = IntOp.remsi .host (res_main_v176 V (ix2 b k)) (BitVec.ofNat 32 16384) := rfl
  rw [e, v176_at]
  exact Routing.remsi_word .host (by have := (place V b k).isLt; omega) (by omega) (by omega)

/-- The place without its class. -/
def spot (b : Fin 16) (k : Fin 40) : Fin 16384 := ⟨(place V b k).val % 16384, by omega⟩

/-- A channel of a head read at the places. -/
theorem channel_at (X : FVec Ideal S16x16384x2 .f32) (l : Fin 2) (Z : FVec Ideal S16x16384 .f32)
    (hZ : ∀ (b : Fin 16) (p : Fin 16384), Z (ix2 b p) = X (ix3 b p l)) (b : Fin 16) (k : Fin 40) :
    Host.gather gather_S16x16384_S16x40x1_S16x40_n_1_0_0_1_2_11 Z
      (shapeCast _ (select (cmpi .slt (res_main_v181 V) (broadcastInDim S16x40 ![] bcast_S_S16x40 (constantI S_ 32 0#32)))
        (addi (res_main_v181 V) (broadcastInDim S16x40 ![] bcast_S_S16x40 (constantI S_ 32 16384#32))) (res_main_v181 V)) shapeCasts_S16x40_S16x40x1) (ix2 b k)
      = X (ix3 b (spot V b k) l) := by
  rw [take_at, hZ]
  have e : ∀ (A : IVec S16x40 32), shapeCast S16x40x1 A shapeCasts_S16x40_S16x40x1 (ix3 b k (0 : Fin 1)) = A (ix2 b k) := fun A => by
    pointwise
  refine congrArg (fun p => X (ix3 b p l)) (Fin.ext ?_)
  show min (BitVec.toInt _).toNat 16383 = (place V b k).val % 16384
  rw [e]
  have hw : (select (cmpi .slt (res_main_v181 V) (broadcastInDim S16x40 ![] bcast_S_S16x40 (constantI S_ 32 0#32)))
        (addi (res_main_v181 V) (broadcastInDim S16x40 ![] bcast_S_S16x40 (constantI S_ 32 16384#32))) (res_main_v181 V) (ix2 b k) : BitVec 32)
      = Scalar.select (IntOp.cmpi .slt (res_main_v181 V (ix2 b k) : BitVec 32) 0#32) (IntOp.addi (res_main_v181 V (ix2 b k) : BitVec 32) 16384#32) (res_main_v181 V (ix2 b k) : BitVec 32) := rfl
  rw [hw, v181_at, word_index _ (by omega)]
  omega

/-! ## The result -/

theorem v198_at (b : Fin 16) (k : Fin 40) : (res_main_v198 V (ix2 b k) : EReal) = res_main_v189 V (ix3 b (spot V b k) 0) :=
  channel_at V (res_main_v189 V) 0 _ (fun b p => by pointwise) b k
theorem v201_at (b : Fin 16) (k : Fin 40) : (res_main_v201 V (ix2 b k) : EReal) = res_main_v189 V (ix3 b (spot V b k) 1) :=
  channel_at V (res_main_v189 V) 1 _ (fun b p => by pointwise) b k

theorem ctr_row (n : IVec S16x40 32) (Z : FVec Ideal S16x40 .f32) (b : Fin 16) (k : Fin 40) :
    addf (sitofp .f32 n) Z (ix2 b k) = ctr (F := Ideal) (n (ix2 b k)) (Z (ix2 b k)) := rfl
theorem rem_row (n : IVec S16x40 32) (b : Fin 16) (k : Fin 40) :
    Host.remsi n (broadcastInDim S16x40 ![] bcast_S_S16x40 (constantI S_ 32 128#32)) (ix2 b k) = IntOp.remsi .host (n (ix2 b k)) (BitVec.ofNat 32 128) := rfl
theorem div_row (n : IVec S16x40 32) (b : Fin 16) (k : Fin 40) :
    Host.divsi n (broadcastInDim S16x40 ![] bcast_S_S16x40 (constantI S_ 32 128#32)) (ix2 b k) = IntOp.divsi .host (n (ix2 b k)) (BitVec.ofNat 32 128) := rfl

theorem col_word (b : Fin 16) (k : Fin 40) :
    IntOp.remsi .host (res_main_v181 V (ix2 b k) : BitVec 32) (BitVec.ofNat 32 128) = BitVec.ofNat 32 (colAt (place V b k)).val := by
  rw [v181_at, Routing.remsi_word .host (by omega) (by omega) (by omega)]
  exact congrArg (BitVec.ofNat 32) (show (place V b k).val % 16384 % 128 = (place V b k).val % 128 by omega)

theorem row_word (b : Fin 16) (k : Fin 40) :
    IntOp.divsi .host (res_main_v181 V (ix2 b k) : BitVec 32) (BitVec.ofNat 32 128) = BitVec.ofNat 32 (rowAt (place V b k)).val := by
  rw [v181_at, Routing.divsi_word .host (by omega) (by omega) (by omega)]
  exact congrArg (BitVec.ofNat 32) (show (place V b k).val % 16384 / 128 = (place V b k).val / 128 % 128 by omega)

theorem v202_at (b : Fin 16) (k : Fin 40) : (res_main_v202 V (ix2 b k) : Ideal .f32)
    = ctr (F := Ideal) (BitVec.ofNat 32 (colAt (place V b k)).val) (res_main_v188 V (ix3 b (spot V b k) 0) : Ideal .f32) := by
  unfold res_main_v202
  refine (ctr_row _ _ b k).trans (congrArg₂ (ctr (F := Ideal)) ((rem_row _ b k).trans (col_word V b k)) ?_)
  exact channel_at V (res_main_v188 V) 0 _ (fun b p => by pointwise) b k

theorem v203_at (b : Fin 16) (k : Fin 40) : (res_main_v203 V (ix2 b k) : Ideal .f32)
    = ctr (F := Ideal) (BitVec.ofNat 32 (rowAt (place V b k)).val) (res_main_v188 V (ix3 b (spot V b k) 1) : Ideal .f32) := by
  unfold res_main_v203
  refine (ctr_row _ _ b k).trans (congrArg₂ (ctr (F := Ideal)) ((div_row _ b k).trans (row_word V b k)) ?_)
  exact channel_at V (res_main_v188 V) 1 _ (fun b p => by pointwise) b k

theorem class_at (b : Fin 16) (k : Fin 40) : IntOp.divsi .host (res_main_v176 V (ix2 b k) : BitVec 32) (BitVec.ofNat 32 16384)
    = BitVec.ofNat 32 (clsAt (place V b k)).val := by
  rw [v176_at, Routing.divsi_word .host (by have := (place V b k).isLt; omega) (by omega) (by omega)]
  rfl

theorem score_at (b : Fin 16) (k : Fin 40) :
    (Host.reverse [1] ((Host.topK S16x40 1 (FloatOps.cmpfTotal .gt) (res_main_v174 V) sliceFits_S16x1310720_S16x40).1) (ix2 b k) : EReal)
      = res_main_v174 V (ix2 b (place V b k)) :=
  (reverse_row _ b k).trans (topK_row (res_main_v174 V) b k.rev).1

/-- The boxes' ends, the class and the score put side by side. -/
def assembled (cx cy w h cls sc : FVec Ideal S16x40 .f32) : FVec Ideal S16x40x6 .f32 :=
  (concatenate S16x40x6 2 [⟨S16x40x4, ((mulf ((concatenate S16x40x4 2 [⟨S16x40x1, ((broadcastInDim S16x40x1 ![0, 1] bcast_S16x40_S16x40x1_0_1 (subf cx (mulf (broadcastInDim S16x40 ![] bcast_S_S16x40 (constant S_ .f32 0x3F000000#32)) w))) : FVec Ideal S16x40x1 .f32)⟩, ⟨S16x40x1, ((broadcastInDim S16x40x1 ![0, 1] bcast_S16x40_S16x40x1_0_1 (subf cy (mulf (broadcastInDim S16x40 ![] bcast_S_S16x40 (constant S_ .f32 0x3F000000#32)) h))) : FVec Ideal S16x40x1 .f32)⟩,
      ⟨S16x40x1, ((broadcastInDim S16x40x1 ![0, 1] bcast_S16x40_S16x40x1_0_1 (addf cx (mulf (broadcastInDim S16x40 ![] bcast_S_S16x40 (constant S_ .f32 0x3F000000#32)) w))) : FVec Ideal S16x40x1 .f32)⟩, ⟨S16x40x1, ((broadcastInDim S16x40x1 ![0, 1] bcast_S16x40_S16x40x1_0_1 (addf cy (mulf (broadcastInDim S16x40 ![] bcast_S_S16x40 (constant S_ .f32 0x3F000000#32)) h))) : FVec Ideal S16x40x1 .f32)⟩] concatenates_S16x40x1_S16x40x1_S16x40x1_S16x40x1_S16x40x4_d2 : FVec Ideal S16x40x4 .f32)) (broadcastInDim S16x40x4 ![] bcast_S_S16x40x4 (constant S_ .f32 0x40800000#32))) : FVec Ideal S16x40x4 .f32)⟩,
    ⟨S16x40x1, (broadcastInDim S16x40x1 ![0, 1] bcast_S16x40_S16x40x1_0_1 cls : FVec Ideal S16x40x1 .f32)⟩,
    ⟨S16x40x1, (broadcastInDim S16x40x1 ![0, 1] bcast_S16x40_S16x40x1_0_1 sc : FVec Ideal S16x40x1 .f32)⟩] concatenates_S16x40x4_S16x40x1_S16x40x1_S16x40x6_d2 : FVec Ideal S16x40x6 .f32)

theorem assembled_left (cx cy w h cls sc : FVec Ideal S16x40 .f32) (b : Fin 16) (k : Fin 40) :
    assembled cx cy w h cls sc (ix3 b k 0) = lowEnd (F := Ideal) (cx (ix2 b k)) (w (ix2 b k)) := by
  pointwise [assembled]
  rfl
theorem assembled_top (cx cy w h cls sc : FVec Ideal S16x40 .f32) (b : Fin 16) (k : Fin 40) :
    assembled cx cy w h cls sc (ix3 b k 1) = lowEnd (F := Ideal) (cy (ix2 b k)) (h (ix2 b k)) := by
  pointwise [assembled]
  rfl
theorem assembled_right (cx cy w h cls sc : FVec Ideal S16x40 .f32) (b : Fin 16) (k : Fin 40) :
    assembled cx cy w h cls sc (ix3 b k 2) = highEnd (F := Ideal) (cx (ix2 b k)) (w (ix2 b k)) := by
  pointwise [assembled]
  rfl
theorem assembled_bottom (cx cy w h cls sc : FVec Ideal S16x40 .f32) (b : Fin 16) (k : Fin 40) :
    assembled cx cy w h cls sc (ix3 b k 3) = highEnd (F := Ideal) (cy (ix2 b k)) (h (ix2 b k)) := by
  pointwise [assembled]
  rfl
theorem assembled_cls (cx cy w h cls sc : FVec Ideal S16x40 .f32) (b : Fin 16) (k : Fin 40) :
    assembled cx cy w h cls sc (ix3 b k 4) = cls (ix2 b k) := by
  pointwise [assembled]
theorem assembled_score (cx cy w h cls sc : FVec Ideal S16x40 .f32) (b : Fin 16) (k : Fin 40) :
    assembled cx cy w h cls sc (ix3 b k 5) = sc (ix2 b k) := by
  pointwise [assembled]

/-- The result. -/
def refOut : FVec Ideal S16x40x6 .f32 := val5 V (Proc.devRef .tc main_v225)

theorem refOut_eq : refOut V = assembled (res_main_v202 V) (res_main_v203 V) (res_main_v198 V) (res_main_v201 V)
    (sitofp .f32 (Host.divsi (res_main_v176 V) (broadcastInDim S16x40 ![] bcast_S_S16x40 (constantI S_ 32 16384#32))))
    (Host.reverse [1] ((Host.topK S16x40 1 (FloatOps.cmpfTotal .gt) (res_main_v174 V) sliceFits_S16x1310720_S16x40).1)) :=
  val5_main_v225 V

/-- A result row holds what the place's channels give. -/
theorem refOut_row (b : Fin 16) (k : Fin 40) :
    refOut V (ix3 b k 0) = lowEnd (F := Ideal) (ctr (BitVec.ofNat 32 (colAt (place V b k)).val) (res_main_v188 V (ix3 b (spot V b k) 0))) (res_main_v189 V (ix3 b (spot V b k) 0))
    ∧ refOut V (ix3 b k 1) = lowEnd (F := Ideal) (ctr (BitVec.ofNat 32 (rowAt (place V b k)).val) (res_main_v188 V (ix3 b (spot V b k) 1))) (res_main_v189 V (ix3 b (spot V b k) 1))
    ∧ refOut V (ix3 b k 2) = highEnd (F := Ideal) (ctr (BitVec.ofNat 32 (colAt (place V b k)).val) (res_main_v188 V (ix3 b (spot V b k) 0))) (res_main_v189 V (ix3 b (spot V b k) 0))
    ∧ refOut V (ix3 b k 3) = highEnd (F := Ideal) (ctr (BitVec.ofNat 32 (rowAt (place V b k)).val) (res_main_v188 V (ix3 b (spot V b k) 1))) (res_main_v189 V (ix3 b (spot V b k) 1))
    ∧ refOut V (ix3 b k 4) = (Scalar.sitofp .f32 (BitVec.ofNat 32 (clsAt (place V b k)).val) : Ideal .f32)
    ∧ refOut V (ix3 b k 5) = res_main_v174 V (ix2 b (place V b k)) := by
  rw [refOut_eq]
  refine ⟨?_, ?_, ?_, ?_, ?_, ?_⟩
  · rw [assembled_left]; exact congrArg₂ (lowEnd (F := Ideal)) (v202_at V b k) (v198_at V b k)
  · rw [assembled_top]; exact congrArg₂ (lowEnd (F := Ideal)) (v203_at V b k) (v201_at V b k)
  · rw [assembled_right]; exact congrArg₂ (highEnd (F := Ideal)) (v202_at V b k) (v198_at V b k)
  · rw [assembled_bottom]; exact congrArg₂ (highEnd (F := Ideal)) (v203_at V b k) (v201_at V b k)
  · rw [assembled_cls]; exact congrArg (FloatOps.sitofp (F := Ideal) .f32) (class_at V b k)
  · rw [assembled_score]; exact score_at V b k

end Cert.ReferenceIdeal.Value

end
-- ==== Proof.Finite.lean ====
/- Finite inputs give a heat map of positive values. -/
module

public import proofs.«01_k».proof.Pre_heat_is_finite
public import proofs.«01_k».proof.Proof.Spec
public import Idealize.ShloMosaic.Lib.ReduceAll

@[expose] public section

noncomputable section

namespace Cert.Center

open Idealize.ShloMosaic

/-- A real number among the extended reals. -/
def Fine (a : EReal) : Prop := ∃ r : ℝ, a = r

theorem Fine.zero : Fine 0 := ⟨0, rfl⟩
theorem Fine.add {a b : EReal} (ha : Fine a) (hb : Fine b) : Fine (a + b) := by
  obtain ⟨r, rfl⟩ := ha; obtain ⟨s, rfl⟩ := hb
  exact ⟨r + s, (EReal.coe_add r s).symm⟩
theorem Fine.mul {a b : EReal} (ha : Fine a) (hb : Fine b) : Fine (a * b) := by
  obtain ⟨r, rfl⟩ := ha; obtain ⟨s, rfl⟩ := hb
  exact ⟨r * s, (EReal.coe_mul r s).symm⟩
theorem Fine.max {a b : EReal} (ha : Fine a) (hb : Fine b) : Fine (max a b) := by
  rcases max_choice a b with h | h <;> rw [h] <;> assumption
theorem Fine.sum {ι : Type} (s : Finset ι) (f : ι → EReal) (hf : ∀ i, Fine (f i)) : Fine (∑ i ∈ s, f i) := by
  classical
  induction s using Finset.induction_on with
  | empty => exact Fine.zero
  | insert i s hi ih => rw [Finset.sum_insert hi]; exact (hf i).add ih

/-- A value whose absolute value is below infinity is a real number. -/
theorem fine_of_abs {a : EReal} (h : max a (-a) < ⊤) : Fine a := by
  obtain ⟨h1, h2⟩ := max_lt_iff.mp h
  induction a with
  | bot => exact absurd h2 (by simp)
  | top => exact absurd h1 (lt_irrefl _)
  | coe r => exact ⟨r, rfl⟩

theorem fine_of_word {a : Ideal .f32} (h : FloatOps.cmpf .olt (FloatOps.hostAbsf a) (FloatOps.ofBits .f32 0x7F800000#32) = 1#1) : Fine a := by
  have e : (Ideal.ofBits .f32 0x7F800000#32 : EReal) = ⊤ := by simp [Ideal.ofBits, Ideal.ieee]
  have h' : BitVec.ofBool (decide ((max a (-a) : EReal) < Ideal.ofBits .f32 0x7F800000#32)) = 1#1 := h
  rw [e] at h'
  by_contra hc
  rw [decide_eq_false (fun hl => hc (fine_of_abs hl))] at h'
  exact absurd h' (by decide)

/-! ## The heat map -/

variable {x : Image} {w : Filter} {β : Bias 64} {w2 : Mix 80} {β2 : Bias 80}

theorem padded_fine (hx : ∀ i, Fine (x i)) (b : Fin 16) (r c : ℕ) (i : Fin 64) : Fine (padded x b r c i) := by
  unfold padded; split
  · exact hx _
  · exact Fine.zero

theorem tapAt_fine (hx : ∀ i, Fine (x i)) (hw : ∀ i, Fine (w i)) (b : Fin 16) (r c : ℕ) (ky kx : Fin 3) (o : Fin 64) : Fine (tapAt x w b r c ky kx o) :=
  Fine.sum _ _ fun i => (padded_fine hx b _ _ i).mul (hw _)

theorem hiddenAt_fine (hx : ∀ i, Fine (x i)) (hw : ∀ i, Fine (w i)) (hβ : ∀ i, Fine (β i)) (b : Fin 16) (r c : ℕ) (o : Fin 64) :
    Fine (hiddenAt x w β b r c o) := by
  have t := fun ky kx => tapAt_fine hx hw b r c ky kx o
  exact (((((((((((t 0 0).add (t 0 1)).add (t 0 2)).add (t 1 0)).add (t 1 1)).add (t 1 2)).add (t 2 0)).add (t 2 1)).add (t 2 2)).add (hβ _))).max Fine.zero

theorem headAt_fine (hx : ∀ i, Fine (x i)) (hw : ∀ i, Fine (w i)) (hβ : ∀ i, Fine (β i)) (hw2 : ∀ i, Fine (w2 i)) (hβ2 : ∀ i, Fine (β2 i))
    (b : Fin 16) (r c : ℕ) (l : Fin 80) : Fine (headAt x w β w2 β2 b r c l) :=
  (Fine.sum _ _ fun o => (hiddenAt_fine hx hw hβ b r c o).mul (hw2 _)).add (hβ2 _)

/-- The logistic of a real number is positive. -/
theorem heatVal_pos (hx : ∀ i, Fine (x i)) (hw : ∀ i, Fine (w i)) (hβ : ∀ i, Fine (β i)) (hw2 : ∀ i, Fine (w2 i)) (hβ2 : ∀ i, Fine (β2 i))
    (b : Fin 16) (l : Fin 80) (r c : Fin 128) : 0 < heatVal x w β w2 β2 b l r c := by
  unfold heatVal
  obtain ⟨s, hs⟩ := headAt_fine hx hw hβ hw2 hβ2 b r.val c.val l
  rw [hs, Ideal.logistic_coe]
  exact EReal.coe_pos.mpr (by positivity)

end Cert.Center

/-! ## What the precondition says -/

namespace Cert.Pre_heat_is_finite

open Idealize.ShloMosaic Cert.Center

theorem facts : Facts where
  bcast_S_S16x128x128x64 := by decide
  reducesTo_S16x128x128x64_S_d0_1_2_3 := by decide
  h_S_ := by decide
  bcast_S_S3x3x64x64 := by decide
  reducesTo_S3x3x64x64_S_d0_1_2_3 := by decide
  bcast_S_S64 := by decide
  reducesTo_S64_S_d0 := by decide
  bcast_S_S1x1x64x80 := by decide
  reducesTo_S1x1x64x80_S_d0_1_2_3 := by decide
  bcast_S_S80 := by decide
  reducesTo_S80_S_d0 := by decide

variable [Facts]
open Facts

theorem and_one {a b : BitVec 1} (h : a &&& b = 1#1) : a = 1#1 ∧ b = 1#1 := by
  revert a b; decide

/-- Where all entries pass the test of finiteness, each is a real number. -/
theorem fine_of_all {s : Shape} (X : FVec Ideal s .f32) (B : FVec Ideal s .f32) (hB : ∀ i, B i = FloatOps.ofBits .f32 0x7F800000#32)
    {axes} (h : s.ReducesTo axes S_) (j : S_.Idx)
    (e : Host.reduce IntOp.andi (cmpf .olt (Host.absf X) B) (constantI S_ 1 1#1) h h_S_ j = 1#1) (i : s.Idx) : Fine (X i) := by
  have := Host.reduce_andi_all (cmpf .olt (Host.absf X) B) (constantI S_ 1 1#1) h h_S_ j e i
  refine fine_of_word ?_
  rw [← hB i]
  exact this

theorem fine_args (x : FVec Ideal S16x128x128x64 .f32) (w : FVec Ideal S3x3x64x64 .f32) (β : FVec Ideal S64 .f32) (w2 : FVec Ideal S1x1x64x80 .f32)
    (β2 : FVec Ideal S80 .f32) (y5 y6 y7 y8 y9 y10 y11 y12)
    (h : fn (F := Ideal) x w β w2 β2 y5 y6 y7 y8 y9 y10 y11 y12 = fun _ => 1#1) :
    (∀ i, Fine (x i)) ∧ (∀ i, Fine (w i)) ∧ (∀ i, Fine (β i)) ∧ (∀ i, Fine (w2 i)) ∧ ∀ i, Fine (β2 i) := by
  have j : S_.Idx := fun a => a.elim0
  have h0 := congrFun h j
  dsimp only [fn, fn_part1] at h0
  obtain ⟨h1, e4⟩ := and_one h0
  obtain ⟨h2, e3⟩ := and_one h1
  obtain ⟨h3, e2⟩ := and_one h2
  obtain ⟨e0, e1⟩ := and_one h3
  exact ⟨fine_of_all _ _ (fun _ => rfl) _ j e0, fine_of_all _ _ (fun _ => rfl) _ j e1, fine_of_all _ _ (fun _ => rfl) _ j e2,
    fine_of_all _ _ (fun _ => rfl) _ j e3, fine_of_all _ _ (fun _ => rfl) _ j e4⟩

end Cert.Pre_heat_is_finite

end
-- ==== Proof.Agree.lean ====
/- The two results are one: from equal arguments, with the heat head's inputs finite, the places the kernel extracts
   are the first forty of the reference's sorted map, and the rows written are those of the places. -/
module

public import proofs.«01_k».proof.Proof.KernOut
public import proofs.«01_k».proof.Proof.RefRows
public import proofs.«01_k».proof.Proof.Finite

@[expose] public section

set_option synthInstance.maxSize 4096
set_option maxRecDepth 16384

noncomputable section

namespace Cert.Agree

open Idealize.ShloMosaic Idealize.SL.Sem Idealize.ShloMosaic.TcCoe
open Idealize.ShloMosaic.Rounds Idealize.ShloMosaic.Pipeline
open Cert.Center Cert.Picks Cert.KernelIdeal.Body
open Cert.ReferenceIdeal.Value (sortedAt place spot refOut refOut_row res_main_v174 res_main_v188 res_main_v189 v174_at v188_at v189_at im)

variable (m : (ℓ : Loc Cert.KernelIdeal.nD Cert.KernelIdeal.τ Cert.KernelIdeal.sig) → Buf (Elt Ideal) ℓ) (c : Dev Cert.KernelIdeal.nD)
variable (V : Valuation Cert.ReferenceIdeal.τ Cert.ReferenceIdeal.sig (Elt Ideal))

/-- The reference starts from the kernel's arguments. -/
structure Shared : Prop where
  a0 : V (Proc.devRef .tc Cert.ReferenceIdeal.main_arg0) = x0 m c
  a1 : V (Proc.devRef .tc Cert.ReferenceIdeal.main_arg1) = w1 m c
  a2 : V (Proc.devRef .tc Cert.ReferenceIdeal.main_arg2) = b1 m c
  a3 : V (Proc.devRef .tc Cert.ReferenceIdeal.main_arg3) = w2 m c
  a4 : V (Proc.devRef .tc Cert.ReferenceIdeal.main_arg4) = b2 m c
  a5 : V (Proc.devRef .tc Cert.ReferenceIdeal.main_arg5) = w5 m c
  a6 : V (Proc.devRef .tc Cert.ReferenceIdeal.main_arg6) = b5 m c
  a7 : V (Proc.devRef .tc Cert.ReferenceIdeal.main_arg7) = w6 m c
  a8 : V (Proc.devRef .tc Cert.ReferenceIdeal.main_arg8) = b6 m c
  a9 : V (Proc.devRef .tc Cert.ReferenceIdeal.main_arg9) = w9 m c
  a10 : V (Proc.devRef .tc Cert.ReferenceIdeal.main_arg10) = b9 m c
  a11 : V (Proc.devRef .tc Cert.ReferenceIdeal.main_arg11) = w10 m c
  a12 : V (Proc.devRef .tc Cert.ReferenceIdeal.main_arg12) = b10 m c

/-- The heat head's inputs are finite. -/
structure FineIn : Prop where
  x : ∀ i, Fine (x0 m c i)
  w : ∀ i, Fine (w1 m c i)
  β : ∀ i, Fine (b1 m c i)
  w2 : ∀ i, Fine (w2 m c i)
  β2 : ∀ i, Fine (b2 m c i)

variable {m c V}
variable (hs : Shared m c V) (hf : FineIn m c)
variable (s : Fin Cert.KernelIdeal.cfg0.N) (b : Fin 16) (hb : imgOf s = b)

include hs hb in
/-- The map the kernel extracts from is the reference's flat map. -/
theorem heat_same (j : Fin places) : heatAt (slotState m c s).2 j = res_main_v174 V (ix2 b j) := by
  unfold heatAt
  refine (start_class m c s _ _ _ (clsAt_lt j)).trans ((v174_at V b j).trans ?_).symm
  unfold heatMap im
  rw [hs.a0, hs.a1, hs.a2, hs.a3, hs.a4, hb]
  rfl

include hf in
/-- Every class has a place of positive value. -/
theorem some_positive (q : Fin 80) : ∃ j : Fin places, (clsAt j).val = q.val ∧ 0 < heatAt (slotState m c s).2 j := by
  obtain ⟨y, x, h⟩ := exists_peak (h := heatMap m c s q) fun r l => heatVal_pos hf.x hf.w hf.β hf.w2 hf.β2 _ _ _ _
  refine ⟨placeOf y x ⟨q.val, by omega⟩ q.isLt, ?_, ?_⟩
  · rw [clsAt_placeOf]
  · unfold heatAt
    rw [rowAt_placeOf, colAt_placeOf, clsAt_placeOf]
    refine lt_of_lt_of_eq h (start_class m c s y x ⟨q.val, by omega⟩ q.isLt).symm

include hs hf hb in
/-- The places extracted are the sorted ones. -/
theorem place_same (k : Fin 40) : picked (states (39 - k.val) (slotState m c s)) = place V b k := by
  have hg := (course (start_good m c s) (some_positive hf s)).1
  rw [funext (heat_same hs s b hb)] at hg
  have hq := sorted_greedy (f := fun j => res_main_v174 V (ix2 b j)) 40 (by omega)
    (fun a => if h : a < 40 then sortedAt (res_main_v174 V) b ⟨a, h⟩ else 0) (fun a h => dif_pos h)
  have h39 : 39 - k.val < 40 := by omega
  refine (greedy_unique hg hq _ h39).trans ((dif_pos h39).trans ?_)
  unfold place
  exact congrArg (sortedAt _ b) (Fin.ext (by rw [Fin.val_rev]; show 39 - k.val = _; omega))

include hs hf hb in
/-- The row written for a result row is that of its place. -/
theorem row_same (k : Fin 40) : RowIs (states (39 - k.val) (slotState m c s)) (slotState m c s).2 (place V b k) := by
  have h := (course (start_good m c s) (some_positive hf s)).2 (39 - k.val) (by omega)
  rwa [place_same hs hf s b hb k] at h

theorem spot_row (k : Fin 40) : (spot V b k).val / 128 = (rowAt (place V b k)).val := by
  show (place V b k).val % 16384 / 128 = (place V b k).val / 128 % 128
  omega
theorem spot_col (k : Fin 40) : (spot V b k).val % 128 = (colAt (place V b k)).val := by
  show (place V b k).val % 16384 % 128 = (place V b k).val % 128
  omega

include hs hb in
theorem size_same (k : Fin 40) (l : Fin 2) (q : Fin 128) (hq : q.val = 80 + l.val) :
    (slotState m c s).2 (ix3 (rowAt (place V b k)) (colAt (place V b k)) q) = res_main_v189 V (ix3 b (spot V b k) l) := by
  refine (start_reg m c s ⟨l.val, by omega⟩ _ _ q hq).trans ((v189_at V b _ l).trans ?_).symm
  unfold regMap im
  rw [dif_pos (show l.val < 2 from l.isLt), hs.a0, hs.a5, hs.a6, hs.a7, hs.a8, hb, spot_row, spot_col]

include hs hb in
theorem shift_same (k : Fin 40) (l : Fin 2) (q : Fin 128) (hq : q.val = 82 + l.val) :
    (slotState m c s).2 (ix3 (rowAt (place V b k)) (colAt (place V b k)) q) = res_main_v188 V (ix3 b (spot V b k) l) := by
  refine (start_reg m c s ⟨2 + l.val, by omega⟩ _ _ q (by show q.val = 80 + (2 + l.val); omega)).trans ((v188_at V b _ l).trans ?_).symm
  unfold regMap im
  rw [dif_neg (show ¬ 2 + l.val < 2 by omega), hs.a0, hs.a9, hs.a10, hs.a11, hs.a12, hb, spot_row, spot_col]
  exact congrArg (headAt _ _ _ _ _ _ _ _) (Fin.ext (by show l.val = 2 + l.val - 2; omega))

include hs hf hb in
/-- The block extracted from an image is the reference's result of the image. -/
theorem block_same (k : Fin 40) (l : Fin 6) : (blockFrom m c s (ix4 0 k 0 ⟨l.val, by omega⟩) : EReal) = refOut V (ix3 b k l) := by
  have h := row_same hs hf s b hb k
  obtain ⟨r0, r1, r2, r3, r4, r5⟩ := refOut_row V b k
  have e80 := size_same hs s b hb k 0 80 rfl
  have e81 := size_same hs s b hb k 1 81 rfl
  have e82 := shift_same hs s b hb k 0 82 rfl
  have e83 := shift_same hs s b hb k 1 83 rfl
  show rowIn (states (39 - k.val) (slotState m c s)) ⟨l.val, _⟩ = _
  fin_cases l
  · exact (h.left.trans (by rw [e80, e82])).trans r0.symm
  · exact (h.top.trans (by rw [e81, e83])).trans r1.symm
  · exact (h.right.trans (by rw [e80, e82])).trans r2.symm
  · exact (h.bottom.trans (by rw [e81, e83])).trans r3.symm
  · exact h.cls.trans r4.symm
  · exact (h.score.trans (heat_same hs s b hb _)).trans r5.symm

include hs hf in
/-- What the kernel leaves in its result is what the reference computes. -/
theorem result_same (mem : (ℓ : Loc Cert.KernelIdeal.nD Cert.KernelIdeal.τ Cert.KernelIdeal.sig) → Buf (Elt Ideal) ℓ)
    (h : TailPost Cert.KernelIdeal.cfgs 0 (rdats m) (Cert.KernelIdeal.Gen.V0 m) [Cert.KernelIdeal.Gen.hostOps1] mem c) :
    mem ((c.tc : Thread Cert.KernelIdeal.nD Cert.KernelIdeal.τ).loc Cert.KernelIdeal.main_v21) = refOut V := by
  have key : ∀ (b : Fin 16) (k : Fin 40) (l : Fin 6),
      (mem ((c.tc : Thread Cert.KernelIdeal.nD Cert.KernelIdeal.τ).loc Cert.KernelIdeal.main_v21) (ix3 b k l) : EReal) = refOut V (ix3 b k l) := by
    intro b k l
    obtain ⟨s, hsb⟩ : ∃ s : Fin Cert.KernelIdeal.cfg0.N, s.val = b.val := ⟨⟨b.val, lt_of_lt_of_le b.isLt (by decide)⟩, rfl⟩
    have hb : imgOf s = b := Fin.ext (by show min s.val 15 = b.val; omega)
    exact (result_at m c mem h s b hsb k l).trans (block_same hs hf s b hb k l)
  funext i
  have hi : i = ix3 (i 0) (i 1) (i 2) := by
    funext a; fin_cases a <;> rfl
  rw [hi]
  exact key (i 0) (i 1) (i 2)

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Agree
public import Idealize.ShloMosaic.Adequacy
public import Idealize.ShloMosaic.Init

@[expose] public section

noncomputable section

namespace Cert.Proof

open Idealize.ShloMosaic Idealize.SL.Sem Idealize.ShloMosaic.StableHlo

/-- The printed program's frame. -/
theorem frame_kernel : Cert.quiescent_Kernel := fun m ρ _ => Cert.Kernel.Same.frame_run m ρ

/-- The idealized program's frame. -/
theorem frame_ideal : Cert.quiescent_KernelIdeal := fun m ρ _ => Cert.KernelIdeal.Body.frame_run m ρ

/-- The reference's frame: its arguments are written by no operation, and it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

instance : Cert.Pre_heat_is_finite.Facts := Cert.Pre_heat_is_finite.facts

/-- The frames of runs from memories that satisfy the precondition are among those of all runs. -/
theorem frame_ideal_pre : Cert.quiescent_KernelIdeal_pre_heat_is_finite := fun m ρ _ => Cert.KernelIdeal.Body.frame_run m ρ

theorem frame_reference_pre : Cert.quiescent_ReferenceIdeal_pre_heat_is_finite := fun m ρ _ => frame_reference m ρ trivial

/-- The precondition: the heat head's inputs are finite. -/
theorem fine_in (m : (ℓ : Loc Cert.KernelIdeal.nD Cert.KernelIdeal.τ Cert.KernelIdeal.sig) → Buf (Elt Ideal) ℓ)
    (h : Cert.Pre_KernelIdeal_heat_is_finite m) (c : Dev Cert.KernelIdeal.nD) : Cert.Agree.FineIn m c := by
  obtain ⟨h0, h1, h2, h3, h4⟩ := Cert.Pre_heat_is_finite.fine_args _ _ _ _ _ _ _ _ _ _ _ _ _ (h c)
  exact ⟨h0, h1, h2, h3, h4⟩

/-- Equal arguments give equal results. -/
theorem results_agree : Cert.algebraic_KernelIdeal_ReferenceIdeal_pre_heat_is_finite := by
  intro m g m' g' hpre harg
  refine ⟨fun c => Cert.ReferenceIdeal.Value.refOut (launchContents m' c), ?_, ?_⟩
  · refine (θ_run Cert.KernelIdeal.defs _ _).mono (fun r h c => ⟨?_, Cert.KernelIdeal.Body.args_keep c r.2.mem (h.1 c)⟩)
      (Cert.KernelIdeal.Body.run_main m g)
    have hs : Cert.Agree.Shared m c (launchContents m' c) := by
      obtain ⟨e0, e1, e2, e3, e4, e5, e6, e7, e8, e9, e10, e11, e12⟩ := harg c
      exact ⟨e0, e1, e2, e3, e4, e5, e6, e7, e8, e9, e10, e11, e12⟩
    exact Cert.Agree.result_same hs (fine_in m hpre c) r.2.mem (h.1 c)
  · exact (θ_run Cert.ReferenceIdeal.defs _ _).mono
      (fun r h c => ⟨(h c).1.trans (Cert.ReferenceIdeal.Value.val5_main_v225 (launchContents m' c)).symm, (h c).2⟩)
      (Cert.ReferenceIdeal.Value.run m' g')

theorem claim : Cert.Claim := ⟨Cert.Kernel.Gen.facts, Cert.KernelIdeal.Gen.facts, Cert.ReferenceIdeal.Gen.facts, Cert.Pre_heat_is_finite.facts,
  frame_kernel, frame_ideal, frame_ideal_pre, frame_reference, frame_reference_pre, trivial, results_agree⟩

end Cert.Proof

end
